-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_split_in_order [hPre_split_in_order : Cert.Pre_split_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_split_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_split_in_order [hPre_split_in_order : Cert.Pre_split_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_split_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_split_in_order [hKernelIdeal : Cert.KernelIdeal.Facts] [hPre_split_in_order : Cert.Pre_split_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_split_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_split_in_order [hReferenceIdeal : Cert.ReferenceIdeal.Facts] [hPre_split_in_order : Cert.Pre_split_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_split_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_split_in_order [hKernelIdeal : Cert.KernelIdeal.Facts] [hReferenceIdeal : Cert.ReferenceIdeal.Facts] [hPre_split_in_order : Cert.Pre_split_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_split_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_split_in_order : Cert.Pre_split_in_order.Facts),
    quiescent_Kernel (hKernel := hKernel)
    ∧ quiescent_KernelIdeal (hKernelIdeal := hKernelIdeal)
    ∧ quiescent_KernelIdeal_pre_split_in_order (hKernelIdeal := hKernelIdeal) (hPre_split_in_order := hPre_split_in_order)
    ∧ quiescent_ReferenceIdeal (hReferenceIdeal := hReferenceIdeal)
    ∧ quiescent_ReferenceIdeal_pre_split_in_order (hReferenceIdeal := hReferenceIdeal) (hPre_split_in_order := hPre_split_in_order)
    ∧ preserves_Kernel_KernelIdeal
    ∧ algebraic_KernelIdeal_ReferenceIdeal_pre_split_in_order (hKernelIdeal := hKernelIdeal) (hReferenceIdeal := hReferenceIdeal) (hPre_split_in_order := hPre_split_in_order)
-- ==== Pre_split_in_order.lean ====
abbrev S4x6144x4096 : Shape := ⟨3, ![4, 6144, 4096]⟩
abbrev S128 : Shape := ⟨1, ![128]⟩
abbrev S3968 : Shape := ⟨1, ![3968]⟩
abbrev S128x5632 : Shape := ⟨2, ![128, 5632]⟩
abbrev S3968x5632 : Shape := ⟨2, ![3968, 5632]⟩
abbrev S31x44 : Shape := ⟨2, ![31, 44]⟩
abbrev S31x128 : Shape := ⟨2, ![31, 128]⟩
abbrev S1x128 : Shape := ⟨2, ![1, 128]⟩
abbrev S_ : Shape := ⟨0, ![]⟩

class Facts : Prop where
  shapeCasts_S3968_S31x128 : S3968.ShapeCasts S31x128
  shapeCasts_S128_S1x128 : S128.ShapeCasts S1x128
  bcast_S_S31x128 : S_.BroadcastsInDim S31x128 (![] : Fin 0 → Fin S31x128.rank)
  bcast_S_S1x128 : S_.BroadcastsInDim S1x128 (![] : Fin 0 → Fin S1x128.rank)
  bcast_S1x128_S31x128_0_1 : S1x128.BroadcastsInDim S31x128 (![0, 1] : Fin 2 → Fin S31x128.rank)

variable [Facts]

def fn_part1 {F : FTy → Type} [FloatOps F] (main_v15 : IVec S31x128 1) (main_v18 : IVec S31x128 1) : IVec S31x128 1 :=
  let main_v19 : IVec S31x128 1 := andi main_v15 main_v18
  main_v19

def fn {F : FTy → Type} [FloatOps F] (main_arg0 : FVec F S4x6144x4096 .bf16) (main_arg1 : IVec S128 32) (main_arg2 : IVec S3968 32) (main_arg3 : FVec F S128x5632 .bf16) (main_arg4 : FVec F S3968x5632 .fp8e4m3) (main_arg5 : FVec F S31x44 .f32) : IVec S31x128 1 :=
  let main_v0 : IVec S31x128 32 := iotaInDim S31x128 32 0
  let main_v1 : IVec S31x128 32 := shapeCast S31x128 main_arg2 shapeCasts_S3968_S31x128
  let main_v2 : IVec S1x128 32 := shapeCast S1x128 main_arg1 shapeCasts_S128_S1x128
  let main_c : IVec S_ 32 := constantI S_ 32 128#32
  let main_v3 : IVec S31x128 32 := broadcastInDim S31x128 ![] bcast_S_S31x128 main_c
  let main_v4 : IVec S31x128 32 := muli main_v0 main_v3
  let main_v5 : IVec S31x128 1 := cmpi .sge main_v1 main_v4
  let main_c_0 : IVec S_ 32 := constantI S_ 32 128#32
  let main_v6 : IVec S31x128 32 := broadcastInDim S31x128 ![] bcast_S_S31x128 main_c_0
  let main_v7 : IVec S31x128 32 := muli main_v0 main_v6
  let main_c_1 : IVec S_ 32 := constantI S_ 32 256#32
  let main_v8 : IVec S31x128 32 := broadcastInDim S31x128 ![] bcast_S_S31x128 main_c_1
  let main_v9 : IVec S31x128 32 := addi main_v7 main_v8
  let main_v10 : IVec S31x128 1 := cmpi .slt main_v1 main_v9
  let main_v11 : IVec S31x128 1 := andi main_v5 main_v10
  let main_c_2 : IVec S_ 32 := constantI S_ 32 0#32
  let main_v12 : IVec S1x128 32 := broadcastInDim S1x128 ![] bcast_S_S1x128 main_c_2
  let main_v13 : IVec S1x128 1 := cmpi .sge main_v2 main_v12
  let main_v14 : IVec S31x128 1 := broadcastInDim S31x128 ![0, 1] bcast_S1x128_S31x128_0_1 main_v13
  let main_v15 : IVec S31x128 1 := andi main_v11 main_v14
  let main_c_3 : IVec S_ 32 := constantI S_ 32 4096#32
  let main_v16 : IVec S1x128 32 := broadcastInDim S1x128 ![] bcast_S_S1x128 main_c_3
  let main_v17 : IVec S1x128 1 := cmpi .slt main_v2 main_v16
  let main_v18 : IVec S31x128 1 := broadcastInDim S31x128 ![0, 1] bcast_S1x128_S31x128_0_1 main_v17
  fn_part1 (F := F) main_v15 main_v18
-- ==== Kernel.lean ====
abbrev S4x6144x4096 : Shape := ⟨3, ![4, 6144, 4096]⟩
abbrev S128 : Shape := ⟨1, ![128]⟩
abbrev S3968 : Shape := ⟨1, ![3968]⟩
abbrev S128x5632 : Shape := ⟨2, ![128, 5632]⟩
abbrev S3968x5632 : Shape := ⟨2, ![3968, 5632]⟩
abbrev S31x44 : Shape := ⟨2, ![31, 44]⟩
abbrev S31x128 : Shape := ⟨2, ![31, 128]⟩
abbrev S1x128 : Shape := ⟨2, ![1, 128]⟩
abbrev S24576x4096 : Shape := ⟨2, ![24576, 4096]⟩
abbrev S24576x5632 : Shape := ⟨2, ![24576, 5632]⟩
abbrev S24576x3968 : Shape := ⟨2, ![24576, 3968]⟩
abbrev S24576x31 : Shape := ⟨2, ![24576, 31]⟩
abbrev S256x4096 : Shape := ⟨2, ![256, 4096]⟩
abbrev S256x5632 : Shape := ⟨2, ![256, 5632]⟩
abbrev S256x3968 : Shape := ⟨2, ![256, 3968]⟩
abbrev S256x31 : Shape := ⟨2, ![256, 31]⟩
abbrev S4096x5632 : Shape := ⟨2, ![4096, 5632]⟩
abbrev S2x128x5632 : Shape := ⟨3, ![2, 128, 5632]⟩
abbrev S2 : Shape := ⟨1, ![2]⟩
abbrev S_ : Shape := ⟨0, ![]⟩
abbrev S1 : Shape := ⟨1, ![1]⟩
abbrev S1x128x5632 : Shape := ⟨3, ![1, 128, 5632]⟩
abbrev S1x1 : Shape := ⟨2, ![1, 1]⟩
abbrev S128x128 : Shape := ⟨2, ![128, 128]⟩
abbrev S1x128x128 : Shape := ⟨3, ![1, 128, 128]⟩
abbrev S32x128 : Shape := ⟨2, ![32, 128]⟩
abbrev S32x128x1 : Shape := ⟨3, ![32, 128, 1]⟩
abbrev S32 : Shape := ⟨1, ![32]⟩
abbrev S32x1 : Shape := ⟨2, ![32, 1]⟩
abbrev S32x31 : Shape := ⟨2, ![32, 31]⟩
abbrev S4096x512 : Shape := ⟨2, ![4096, 512]⟩
abbrev S256x512 : Shape := ⟨2, ![256, 512]⟩

abbrev nBuf : Space → Nat
  | .hbm => 12
  | .vmem => 13
  | .smem => 1
  | _ => 0

abbrev bufTy : (tb : Table) → Fin (tcTables nBuf tb) → BufTy
  | .hbm, ⟨0, _⟩ => ⟨S4x6144x4096, .bf16⟩
  | .hbm, ⟨1, _⟩ => ⟨S128, .i32⟩
  | .hbm, ⟨2, _⟩ => ⟨S3968, .i32⟩
  | .hbm, ⟨3, _⟩ => ⟨S128x5632, .bf16⟩
  | .hbm, ⟨4, _⟩ => ⟨S3968x5632, .fp8e4m3⟩
  | .hbm, ⟨5, _⟩ => ⟨S31x44, .f32⟩
  | .hbm, ⟨6, _⟩ => ⟨S31x128, .i32⟩
  | .hbm, ⟨7, _⟩ => ⟨S1x128, .i32⟩
  | .hbm, ⟨8, _⟩ => ⟨S24576x4096, .bf16⟩
  | .hbm, ⟨9, _⟩ => ⟨S24576x5632, .bf16⟩
  | .hbm, ⟨10, _⟩ => ⟨S24576x3968, .fp8e4m3⟩
  | .hbm, ⟨11, _⟩ => ⟨S24576x31, .f32⟩
  | .local _ .vmem, ⟨0, _⟩ => ⟨S31x128, .i32⟩
  | .local _ .vmem, ⟨1, _⟩ => ⟨S1x128, .i32⟩
  | .local _ .vmem, ⟨2, _⟩ => ⟨S256x4096, .bf16⟩
  | .local _ .vmem, ⟨3, _⟩ => ⟨S256x4096, .bf16⟩
  | .local _ .vmem, ⟨4, _⟩ => ⟨S256x5632, .bf16⟩
  | .local _ .vmem, ⟨5, _⟩ => ⟨S256x5632, .bf16⟩
  | .local _ .vmem, ⟨6, _⟩ => ⟨S256x3968, .fp8e4m3⟩
  | .local _ .vmem, ⟨7, _⟩ => ⟨S256x3968, .fp8e4m3⟩
  | .local _ .vmem, ⟨8, _⟩ => ⟨S256x31, .f32⟩
  | .local _ .vmem, ⟨9, _⟩ => ⟨S256x31, .f32⟩
  | .local _ .vmem, ⟨10, _⟩ => ⟨S4096x5632, .bf16⟩
  | .local _ .vmem, ⟨11, _⟩ => ⟨S256x4096, .bf16⟩
  | .local _ .vmem, ⟨12, _⟩ => ⟨S2x128x5632, .fp8e4m3⟩
  | .local _ .smem, ⟨0, _⟩ => ⟨S31x44, .f32⟩
  | _, _ => ⟨S4x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_7 : BitVec 32 := 0#32
  c0_i32_7
@[reducible] def k0_t1_loop : Scf.Loop 32 :=
  let c0_i32_13 : BitVec 32 := 0#32
  let c31_i32 : BitVec 32 := 31#32
  let v12 : BitVec 32 := Scalar.addi c0_i32_13 c31_i32
  let c1_i32_14 : BitVec 32 := 1#32
  ⟨c0_i32_13, v12, c1_i32_14⟩
def k0_cond2 (k0_t1 : Fin k0_t1_loop.trips) : BitVec 1 :=
  let c0_i32_13 : BitVec 32 := 0#32
  let c1_i32_14 : BitVec 32 := 1#32
  let arg15 : BitVec 32 := Scf.iv c0_i32_13 c1_i32_14 k0_t1
  let c1_i32_18 : BitVec 32 := 1#32
  let v15 : BitVec 32 := Scalar.addi arg15 c1_i32_18
  let c31_i32_19 : BitVec 32 := 31#32
  let v16 : BitVec 1 := Scalar.cmpi .slt v15 c31_i32_19
  let v17 : BitVec 32 := Scalar.extui v16
  let c0_i32_20 : BitVec 32 := 0#32
  let v18 : BitVec 1 := Scalar.cmpi .ne v17 c0_i32_20
  v18

def k0_mult2 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c1_i32_157 : BitVec 32 := 1#32
  let v686 : BitVec 32 := Scalar.addi arg15 c1_i32_157
  let c128_i32_159 : BitVec 32 := 128#32
  let v688 : BitVec 32 := Scalar.muli v686 c128_i32_159
  v688
def k0_off1 (k0_t1 : Fin k0_t1_loop.trips) : Fin 1 → Nat :=
  let c1_i32_158 : BitVec 32 := 1#32
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v687 : BitVec 32 := Scalar.subi c1_i32_158 v14
  ![v687.toNat]
def k0_off2 (k0_t1 : Fin k0_t1_loop.trips) : Fin 3 → Nat :=
  let c1_i32_158 : BitVec 32 := 1#32
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v687 : BitVec 32 := Scalar.subi c1_i32_158 v14
  let c0_i32_160 : BitVec 32 := 0#32
  let c0_i32_161 : BitVec 32 := 0#32
  ![v687.toNat, 0, 0]
def k0_off3 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c1_i32_157 : BitVec 32 := 1#32
  let v686 : BitVec 32 := Scalar.addi arg15 c1_i32_157
  let c128_i32_159 : BitVec 32 := 128#32
  let v688 : BitVec 32 := Scalar.muli v686 c128_i32_159
  let v689 : BitVec 32 := v688
  let c0_i32_162 : BitVec 32 := 0#32
  ![v689.toNat, 0]
def k0_mult3 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32 : BitVec 32 := 128#32
  let v19 : BitVec 32 := Scalar.muli arg15 c128_i32
  v19
def k0_off4 (k0_t1 : Fin k0_t1_loop.trips) : Fin 1 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  ![v14.toNat]
def k0_off5 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let c0_i32_21 : BitVec 32 := 0#32
  let c0_i32_22 : BitVec 32 := 0#32
  ![v14.toNat, 0, 0]
def k0_off6 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32 : BitVec 32 := 128#32
  let v19 : BitVec 32 := Scalar.muli arg15 c128_i32
  let v20 : BitVec 32 := v19
  let c0_i32_23 : BitVec 32 := 0#32
  ![v20.toNat, 0]
def k0_off7 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v26 : Index := Scalar.indexCast arg15
  let c0 : Index := 0#32
  ![v26.toNat, 0]
def k0_mult4 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_24 : BitVec 32 := 128#32
  let v30 : BitVec 32 := Scalar.muli arg15 c128_i32_24
  v30
def k0_off8 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v32 : Index := Scalar.indexCast v14
  let c0_25 : Index := 0#32
  let c0_26 : Index := 0#32
  ![v32.toNat, 0, 0]
def k0_off9 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_24 : BitVec 32 := 128#32
  let v30 : BitVec 32 := Scalar.muli arg15 c128_i32_24
  let v31 : BitVec 32 := v30
  let v37 : Index := Scalar.indexCast v31
  let c0_27 : Index := 0#32
  ![v37.toNat, 0]
def k0_off10 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v41 : Index := Scalar.indexCast arg15
  let c1 : Index := 1#32
  ![v41.toNat, 1]
def k0_mult5 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_28 : BitVec 32 := 128#32
  let v45 : BitVec 32 := Scalar.muli arg15 c128_i32_28
  v45
def k0_off11 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v47 : Index := Scalar.indexCast v14
  let c0_29 : Index := 0#32
  let c128 : Index := 128#32
  ![v47.toNat, 0, 128]
def k0_off12 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_28 : BitVec 32 := 128#32
  let v45 : BitVec 32 := Scalar.muli arg15 c128_i32_28
  let v46 : BitVec 32 := v45
  let v52 : Index := Scalar.indexCast v46
  let c128_30 : Index := 128#32
  ![v52.toNat, 128]
def k0_off13 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v56 : Index := Scalar.indexCast arg15
  let c2 : Index := 2#32
  ![v56.toNat, 2]
def k0_mult6 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_31 : BitVec 32 := 128#32
  let v60 : BitVec 32 := Scalar.muli arg15 c128_i32_31
  v60
def k0_off14 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v62 : Index := Scalar.indexCast v14
  let c0_32 : Index := 0#32
  let c256 : Index := 256#32
  ![v62.toNat, 0, 256]
def k0_off15 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_31 : BitVec 32 := 128#32
  let v60 : BitVec 32 := Scalar.muli arg15 c128_i32_31
  let v61 : BitVec 32 := v60
  let v67 : Index := Scalar.indexCast v61
  let c256_33 : Index := 256#32
  ![v67.toNat, 256]
def k0_off16 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v71 : Index := Scalar.indexCast arg15
  let c3 : Index := 3#32
  ![v71.toNat, 3]
def k0_mult7 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_34 : BitVec 32 := 128#32
  let v75 : BitVec 32 := Scalar.muli arg15 c128_i32_34
  v75
def k0_off17 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v77 : Index := Scalar.indexCast v14
  let c0_35 : Index := 0#32
  let c384 : Index := 384#32
  ![v77.toNat, 0, 384]
def k0_off18 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_34 : BitVec 32 := 128#32
  let v75 : BitVec 32 := Scalar.muli arg15 c128_i32_34
  let v76 : BitVec 32 := v75
  let v82 : Index := Scalar.indexCast v76
  let c384_36 : Index := 384#32
  ![v82.toNat, 384]
def k0_off19 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v86 : Index := Scalar.indexCast arg15
  let c4 : Index := 4#32
  ![v86.toNat, 4]
def k0_mult8 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_37 : BitVec 32 := 128#32
  let v90 : BitVec 32 := Scalar.muli arg15 c128_i32_37
  v90
def k0_off20 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v92 : Index := Scalar.indexCast v14
  let c0_38 : Index := 0#32
  let c512 : Index := 512#32
  ![v92.toNat, 0, 512]
def k0_off21 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_37 : BitVec 32 := 128#32
  let v90 : BitVec 32 := Scalar.muli arg15 c128_i32_37
  let v91 : BitVec 32 := v90
  let v97 : Index := Scalar.indexCast v91
  let c512_39 : Index := 512#32
  ![v97.toNat, 512]
def k0_off22 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v101 : Index := Scalar.indexCast arg15
  let c5 : Index := 5#32
  ![v101.toNat, 5]
def k0_mult9 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_40 : BitVec 32 := 128#32
  let v105 : BitVec 32 := Scalar.muli arg15 c128_i32_40
  v105
def k0_off23 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v107 : Index := Scalar.indexCast v14
  let c0_41 : Index := 0#32
  let c640 : Index := 640#32
  ![v107.toNat, 0, 640]
def k0_off24 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_40 : BitVec 32 := 128#32
  let v105 : BitVec 32 := Scalar.muli arg15 c128_i32_40
  let v106 : BitVec 32 := v105
  let v112 : Index := Scalar.indexCast v106
  let c640_42 : Index := 640#32
  ![v112.toNat, 640]
def k0_off25 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v116 : Index := Scalar.indexCast arg15
  let c6 : Index := 6#32
  ![v116.toNat, 6]
def k0_mult10 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_43 : BitVec 32 := 128#32
  let v120 : BitVec 32 := Scalar.muli arg15 c128_i32_43
  v120
def k0_off26 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v122 : Index := Scalar.indexCast v14
  let c0_44 : Index := 0#32
  let c768 : Index := 768#32
  ![v122.toNat, 0, 768]
def k0_off27 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_43 : BitVec 32 := 128#32
  let v120 : BitVec 32 := Scalar.muli arg15 c128_i32_43
  let v121 : BitVec 32 := v120
  let v127 : Index := Scalar.indexCast v121
  let c768_45 : Index := 768#32
  ![v127.toNat, 768]
def k0_off28 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v131 : Index := Scalar.indexCast arg15
  let c7 : Index := 7#32
  ![v131.toNat, 7]
def k0_mult11 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_46 : BitVec 32 := 128#32
  let v135 : BitVec 32 := Scalar.muli arg15 c128_i32_46
  v135
def k0_off29 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v137 : Index := Scalar.indexCast v14
  let c0_47 : Index := 0#32
  let c896 : Index := 896#32
  ![v137.toNat, 0, 896]
def k0_off30 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_46 : BitVec 32 := 128#32
  let v135 : BitVec 32 := Scalar.muli arg15 c128_i32_46
  let v136 : BitVec 32 := v135
  let v142 : Index := Scalar.indexCast v136
  let c896_48 : Index := 896#32
  ![v142.toNat, 896]
def k0_off31 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v146 : Index := Scalar.indexCast arg15
  let c8 : Index := 8#32
  ![v146.toNat, 8]
def k0_mult12 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_49 : BitVec 32 := 128#32
  let v150 : BitVec 32 := Scalar.muli arg15 c128_i32_49
  v150
def k0_off32 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v152 : Index := Scalar.indexCast v14
  let c0_50 : Index := 0#32
  let c1024 : Index := 1024#32
  ![v152.toNat, 0, 1024]
def k0_off33 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_49 : BitVec 32 := 128#32
  let v150 : BitVec 32 := Scalar.muli arg15 c128_i32_49
  let v151 : BitVec 32 := v150
  let v157 : Index := Scalar.indexCast v151
  let c1024_51 : Index := 1024#32
  ![v157.toNat, 1024]
def k0_off34 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v161 : Index := Scalar.indexCast arg15
  let c9 : Index := 9#32
  ![v161.toNat, 9]
def k0_mult13 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_52 : BitVec 32 := 128#32
  let v165 : BitVec 32 := Scalar.muli arg15 c128_i32_52
  v165
def k0_off35 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v167 : Index := Scalar.indexCast v14
  let c0_53 : Index := 0#32
  let c1152 : Index := 1152#32
  ![v167.toNat, 0, 1152]
def k0_off36 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_52 : BitVec 32 := 128#32
  let v165 : BitVec 32 := Scalar.muli arg15 c128_i32_52
  let v166 : BitVec 32 := v165
  let v172 : Index := Scalar.indexCast v166
  let c1152_54 : Index := 1152#32
  ![v172.toNat, 1152]
def k0_off37 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v176 : Index := Scalar.indexCast arg15
  let c10 : Index := 10#32
  ![v176.toNat, 10]
def k0_mult14 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_55 : BitVec 32 := 128#32
  let v180 : BitVec 32 := Scalar.muli arg15 c128_i32_55
  v180
def k0_off38 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v182 : Index := Scalar.indexCast v14
  let c0_56 : Index := 0#32
  let c1280 : Index := 1280#32
  ![v182.toNat, 0, 1280]
def k0_off39 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_55 : BitVec 32 := 128#32
  let v180 : BitVec 32 := Scalar.muli arg15 c128_i32_55
  let v181 : BitVec 32 := v180
  let v187 : Index := Scalar.indexCast v181
  let c1280_57 : Index := 1280#32
  ![v187.toNat, 1280]
def k0_off40 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v191 : Index := Scalar.indexCast arg15
  let c11 : Index := 11#32
  ![v191.toNat, 11]
def k0_mult15 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_58 : BitVec 32 := 128#32
  let v195 : BitVec 32 := Scalar.muli arg15 c128_i32_58
  v195
def k0_off41 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v197 : Index := Scalar.indexCast v14
  let c0_59 : Index := 0#32
  let c1408 : Index := 1408#32
  ![v197.toNat, 0, 1408]
def k0_off42 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_58 : BitVec 32 := 128#32
  let v195 : BitVec 32 := Scalar.muli arg15 c128_i32_58
  let v196 : BitVec 32 := v195
  let v202 : Index := Scalar.indexCast v196
  let c1408_60 : Index := 1408#32
  ![v202.toNat, 1408]
def k0_off43 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v206 : Index := Scalar.indexCast arg15
  let c12 : Index := 12#32
  ![v206.toNat, 12]
def k0_mult16 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_61 : BitVec 32 := 128#32
  let v210 : BitVec 32 := Scalar.muli arg15 c128_i32_61
  v210
def k0_off44 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v212 : Index := Scalar.indexCast v14
  let c0_62 : Index := 0#32
  let c1536 : Index := 1536#32
  ![v212.toNat, 0, 1536]
def k0_off45 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_61 : BitVec 32 := 128#32
  let v210 : BitVec 32 := Scalar.muli arg15 c128_i32_61
  let v211 : BitVec 32 := v210
  let v217 : Index := Scalar.indexCast v211
  let c1536_63 : Index := 1536#32
  ![v217.toNat, 1536]
def k0_off46 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v221 : Index := Scalar.indexCast arg15
  let c13 : Index := 13#32
  ![v221.toNat, 13]
def k0_mult17 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_64 : BitVec 32 := 128#32
  let v225 : BitVec 32 := Scalar.muli arg15 c128_i32_64
  v225
def k0_off47 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v227 : Index := Scalar.indexCast v14
  let c0_65 : Index := 0#32
  let c1664 : Index := 1664#32
  ![v227.toNat, 0, 1664]
def k0_off48 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_64 : BitVec 32 := 128#32
  let v225 : BitVec 32 := Scalar.muli arg15 c128_i32_64
  let v226 : BitVec 32 := v225
  let v232 : Index := Scalar.indexCast v226
  let c1664_66 : Index := 1664#32
  ![v232.toNat, 1664]
def k0_off49 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v236 : Index := Scalar.indexCast arg15
  let c14 : Index := 14#32
  ![v236.toNat, 14]
def k0_mult18 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_67 : BitVec 32 := 128#32
  let v240 : BitVec 32 := Scalar.muli arg15 c128_i32_67
  v240
def k0_off50 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v242 : Index := Scalar.indexCast v14
  let c0_68 : Index := 0#32
  let c1792 : Index := 1792#32
  ![v242.toNat, 0, 1792]
def k0_off51 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_67 : BitVec 32 := 128#32
  let v240 : BitVec 32 := Scalar.muli arg15 c128_i32_67
  let v241 : BitVec 32 := v240
  let v247 : Index := Scalar.indexCast v241
  let c1792_69 : Index := 1792#32
  ![v247.toNat, 1792]
def k0_off52 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v251 : Index := Scalar.indexCast arg15
  let c15 : Index := 15#32
  ![v251.toNat, 15]
def k0_mult19 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_70 : BitVec 32 := 128#32
  let v255 : BitVec 32 := Scalar.muli arg15 c128_i32_70
  v255
def k0_off53 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v257 : Index := Scalar.indexCast v14
  let c0_71 : Index := 0#32
  let c1920 : Index := 1920#32
  ![v257.toNat, 0, 1920]
def k0_off54 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_70 : BitVec 32 := 128#32
  let v255 : BitVec 32 := Scalar.muli arg15 c128_i32_70
  let v256 : BitVec 32 := v255
  let v262 : Index := Scalar.indexCast v256
  let c1920_72 : Index := 1920#32
  ![v262.toNat, 1920]
def k0_off55 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v266 : Index := Scalar.indexCast arg15
  let c16 : Index := 16#32
  ![v266.toNat, 16]
def k0_mult20 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_73 : BitVec 32 := 128#32
  let v270 : BitVec 32 := Scalar.muli arg15 c128_i32_73
  v270
def k0_off56 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v272 : Index := Scalar.indexCast v14
  let c0_74 : Index := 0#32
  let c2048 : Index := 2048#32
  ![v272.toNat, 0, 2048]
def k0_off57 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_73 : BitVec 32 := 128#32
  let v270 : BitVec 32 := Scalar.muli arg15 c128_i32_73
  let v271 : BitVec 32 := v270
  let v277 : Index := Scalar.indexCast v271
  let c2048_75 : Index := 2048#32
  ![v277.toNat, 2048]
def k0_off58 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v281 : Index := Scalar.indexCast arg15
  let c17 : Index := 17#32
  ![v281.toNat, 17]
def k0_mult21 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_76 : BitVec 32 := 128#32
  let v285 : BitVec 32 := Scalar.muli arg15 c128_i32_76
  v285
def k0_off59 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v287 : Index := Scalar.indexCast v14
  let c0_77 : Index := 0#32
  let c2176 : Index := 2176#32
  ![v287.toNat, 0, 2176]
def k0_off60 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_76 : BitVec 32 := 128#32
  let v285 : BitVec 32 := Scalar.muli arg15 c128_i32_76
  let v286 : BitVec 32 := v285
  let v292 : Index := Scalar.indexCast v286
  let c2176_78 : Index := 2176#32
  ![v292.toNat, 2176]
def k0_off61 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v296 : Index := Scalar.indexCast arg15
  let c18 : Index := 18#32
  ![v296.toNat, 18]
def k0_mult22 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_79 : BitVec 32 := 128#32
  let v300 : BitVec 32 := Scalar.muli arg15 c128_i32_79
  v300
def k0_off62 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v302 : Index := Scalar.indexCast v14
  let c0_80 : Index := 0#32
  let c2304 : Index := 2304#32
  ![v302.toNat, 0, 2304]
def k0_off63 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_79 : BitVec 32 := 128#32
  let v300 : BitVec 32 := Scalar.muli arg15 c128_i32_79
  let v301 : BitVec 32 := v300
  let v307 : Index := Scalar.indexCast v301
  let c2304_81 : Index := 2304#32
  ![v307.toNat, 2304]
def k0_off64 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v311 : Index := Scalar.indexCast arg15
  let c19 : Index := 19#32
  ![v311.toNat, 19]
def k0_mult23 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_82 : BitVec 32 := 128#32
  let v315 : BitVec 32 := Scalar.muli arg15 c128_i32_82
  v315
def k0_off65 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v317 : Index := Scalar.indexCast v14
  let c0_83 : Index := 0#32
  let c2432 : Index := 2432#32
  ![v317.toNat, 0, 2432]
def k0_off66 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_82 : BitVec 32 := 128#32
  let v315 : BitVec 32 := Scalar.muli arg15 c128_i32_82
  let v316 : BitVec 32 := v315
  let v322 : Index := Scalar.indexCast v316
  let c2432_84 : Index := 2432#32
  ![v322.toNat, 2432]
def k0_off67 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v326 : Index := Scalar.indexCast arg15
  let c20 : Index := 20#32
  ![v326.toNat, 20]
def k0_mult24 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_85 : BitVec 32 := 128#32
  let v330 : BitVec 32 := Scalar.muli arg15 c128_i32_85
  v330
def k0_off68 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v332 : Index := Scalar.indexCast v14
  let c0_86 : Index := 0#32
  let c2560 : Index := 2560#32
  ![v332.toNat, 0, 2560]
def k0_off69 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_85 : BitVec 32 := 128#32
  let v330 : BitVec 32 := Scalar.muli arg15 c128_i32_85
  let v331 : BitVec 32 := v330
  let v337 : Index := Scalar.indexCast v331
  let c2560_87 : Index := 2560#32
  ![v337.toNat, 2560]
def k0_off70 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v341 : Index := Scalar.indexCast arg15
  let c21 : Index := 21#32
  ![v341.toNat, 21]
def k0_mult25 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_88 : BitVec 32 := 128#32
  let v345 : BitVec 32 := Scalar.muli arg15 c128_i32_88
  v345
def k0_off71 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v347 : Index := Scalar.indexCast v14
  let c0_89 : Index := 0#32
  let c2688 : Index := 2688#32
  ![v347.toNat, 0, 2688]
def k0_off72 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_88 : BitVec 32 := 128#32
  let v345 : BitVec 32 := Scalar.muli arg15 c128_i32_88
  let v346 : BitVec 32 := v345
  let v352 : Index := Scalar.indexCast v346
  let c2688_90 : Index := 2688#32
  ![v352.toNat, 2688]
def k0_off73 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v356 : Index := Scalar.indexCast arg15
  let c22 : Index := 22#32
  ![v356.toNat, 22]
def k0_mult26 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_91 : BitVec 32 := 128#32
  let v360 : BitVec 32 := Scalar.muli arg15 c128_i32_91
  v360
def k0_off74 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v362 : Index := Scalar.indexCast v14
  let c0_92 : Index := 0#32
  let c2816 : Index := 2816#32
  ![v362.toNat, 0, 2816]
def k0_off75 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_91 : BitVec 32 := 128#32
  let v360 : BitVec 32 := Scalar.muli arg15 c128_i32_91
  let v361 : BitVec 32 := v360
  let v367 : Index := Scalar.indexCast v361
  let c2816_93 : Index := 2816#32
  ![v367.toNat, 2816]
def k0_off76 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v371 : Index := Scalar.indexCast arg15
  let c23 : Index := 23#32
  ![v371.toNat, 23]
def k0_mult27 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_94 : BitVec 32 := 128#32
  let v375 : BitVec 32 := Scalar.muli arg15 c128_i32_94
  v375
def k0_off77 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v377 : Index := Scalar.indexCast v14
  let c0_95 : Index := 0#32
  let c2944 : Index := 2944#32
  ![v377.toNat, 0, 2944]
def k0_off78 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_94 : BitVec 32 := 128#32
  let v375 : BitVec 32 := Scalar.muli arg15 c128_i32_94
  let v376 : BitVec 32 := v375
  let v382 : Index := Scalar.indexCast v376
  let c2944_96 : Index := 2944#32
  ![v382.toNat, 2944]
def k0_off79 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v386 : Index := Scalar.indexCast arg15
  let c24 : Index := 24#32
  ![v386.toNat, 24]
def k0_mult28 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_97 : BitVec 32 := 128#32
  let v390 : BitVec 32 := Scalar.muli arg15 c128_i32_97
  v390
def k0_off80 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v392 : Index := Scalar.indexCast v14
  let c0_98 : Index := 0#32
  let c3072 : Index := 3072#32
  ![v392.toNat, 0, 3072]
def k0_off81 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_97 : BitVec 32 := 128#32
  let v390 : BitVec 32 := Scalar.muli arg15 c128_i32_97
  let v391 : BitVec 32 := v390
  let v397 : Index := Scalar.indexCast v391
  let c3072_99 : Index := 3072#32
  ![v397.toNat, 3072]
def k0_off82 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v401 : Index := Scalar.indexCast arg15
  let c25 : Index := 25#32
  ![v401.toNat, 25]
def k0_mult29 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_100 : BitVec 32 := 128#32
  let v405 : BitVec 32 := Scalar.muli arg15 c128_i32_100
  v405
def k0_off83 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v407 : Index := Scalar.indexCast v14
  let c0_101 : Index := 0#32
  let c3200 : Index := 3200#32
  ![v407.toNat, 0, 3200]
def k0_off84 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_100 : BitVec 32 := 128#32
  let v405 : BitVec 32 := Scalar.muli arg15 c128_i32_100
  let v406 : BitVec 32 := v405
  let v412 : Index := Scalar.indexCast v406
  let c3200_102 : Index := 3200#32
  ![v412.toNat, 3200]
def k0_off85 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v416 : Index := Scalar.indexCast arg15
  let c26 : Index := 26#32
  ![v416.toNat, 26]
def k0_mult30 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_103 : BitVec 32 := 128#32
  let v420 : BitVec 32 := Scalar.muli arg15 c128_i32_103
  v420
def k0_off86 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v422 : Index := Scalar.indexCast v14
  let c0_104 : Index := 0#32
  let c3328 : Index := 3328#32
  ![v422.toNat, 0, 3328]
def k0_off87 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_103 : BitVec 32 := 128#32
  let v420 : BitVec 32 := Scalar.muli arg15 c128_i32_103
  let v421 : BitVec 32 := v420
  let v427 : Index := Scalar.indexCast v421
  let c3328_105 : Index := 3328#32
  ![v427.toNat, 3328]
def k0_off88 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v431 : Index := Scalar.indexCast arg15
  let c27 : Index := 27#32
  ![v431.toNat, 27]
def k0_mult31 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_106 : BitVec 32 := 128#32
  let v435 : BitVec 32 := Scalar.muli arg15 c128_i32_106
  v435
def k0_off89 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v437 : Index := Scalar.indexCast v14
  let c0_107 : Index := 0#32
  let c3456 : Index := 3456#32
  ![v437.toNat, 0, 3456]
def k0_off90 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_106 : BitVec 32 := 128#32
  let v435 : BitVec 32 := Scalar.muli arg15 c128_i32_106
  let v436 : BitVec 32 := v435
  let v442 : Index := Scalar.indexCast v436
  let c3456_108 : Index := 3456#32
  ![v442.toNat, 3456]
def k0_off91 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v446 : Index := Scalar.indexCast arg15
  let c28 : Index := 28#32
  ![v446.toNat, 28]
def k0_mult32 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_109 : BitVec 32 := 128#32
  let v450 : BitVec 32 := Scalar.muli arg15 c128_i32_109
  v450
def k0_off92 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v452 : Index := Scalar.indexCast v14
  let c0_110 : Index := 0#32
  let c3584 : Index := 3584#32
  ![v452.toNat, 0, 3584]
def k0_off93 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_109 : BitVec 32 := 128#32
  let v450 : BitVec 32 := Scalar.muli arg15 c128_i32_109
  let v451 : BitVec 32 := v450
  let v457 : Index := Scalar.indexCast v451
  let c3584_111 : Index := 3584#32
  ![v457.toNat, 3584]
def k0_off94 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v461 : Index := Scalar.indexCast arg15
  let c29 : Index := 29#32
  ![v461.toNat, 29]
def k0_mult33 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_112 : BitVec 32 := 128#32
  let v465 : BitVec 32 := Scalar.muli arg15 c128_i32_112
  v465
def k0_off95 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v467 : Index := Scalar.indexCast v14
  let c0_113 : Index := 0#32
  let c3712 : Index := 3712#32
  ![v467.toNat, 0, 3712]
def k0_off96 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_112 : BitVec 32 := 128#32
  let v465 : BitVec 32 := Scalar.muli arg15 c128_i32_112
  let v466 : BitVec 32 := v465
  let v472 : Index := Scalar.indexCast v466
  let c3712_114 : Index := 3712#32
  ![v472.toNat, 3712]
def k0_off97 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v476 : Index := Scalar.indexCast arg15
  let c30 : Index := 30#32
  ![v476.toNat, 30]
def k0_mult34 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_115 : BitVec 32 := 128#32
  let v480 : BitVec 32 := Scalar.muli arg15 c128_i32_115
  v480
def k0_off98 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v482 : Index := Scalar.indexCast v14
  let c0_116 : Index := 0#32
  let c3840 : Index := 3840#32
  ![v482.toNat, 0, 3840]
def k0_off99 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_115 : BitVec 32 := 128#32
  let v480 : BitVec 32 := Scalar.muli arg15 c128_i32_115
  let v481 : BitVec 32 := v480
  let v487 : Index := Scalar.indexCast v481
  let c3840_117 : Index := 3840#32
  ![v487.toNat, 3840]
def k0_off100 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v491 : Index := Scalar.indexCast arg15
  let c31 : Index := 31#32
  ![v491.toNat, 31]
def k0_mult35 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_118 : BitVec 32 := 128#32
  let v495 : BitVec 32 := Scalar.muli arg15 c128_i32_118
  v495
def k0_off101 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v497 : Index := Scalar.indexCast v14
  let c0_119 : Index := 0#32
  let c3968 : Index := 3968#32
  ![v497.toNat, 0, 3968]
def k0_off102 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_118 : BitVec 32 := 128#32
  let v495 : BitVec 32 := Scalar.muli arg15 c128_i32_118
  let v496 : BitVec 32 := v495
  let v502 : Index := Scalar.indexCast v496
  let c3968_120 : Index := 3968#32
  ![v502.toNat, 3968]
def k0_off103 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v506 : Index := Scalar.indexCast arg15
  let c32 : Index := 32#32
  ![v506.toNat, 32]
def k0_mult36 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_121 : BitVec 32 := 128#32
  let v510 : BitVec 32 := Scalar.muli arg15 c128_i32_121
  v510
def k0_off104 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v512 : Index := Scalar.indexCast v14
  let c0_122 : Index := 0#32
  let c4096 : Index := 4096#32
  ![v512.toNat, 0, 4096]
def k0_off105 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_121 : BitVec 32 := 128#32
  let v510 : BitVec 32 := Scalar.muli arg15 c128_i32_121
  let v511 : BitVec 32 := v510
  let v517 : Index := Scalar.indexCast v511
  let c4096_123 : Index := 4096#32
  ![v517.toNat, 4096]
def k0_off106 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v521 : Index := Scalar.indexCast arg15
  let c33 : Index := 33#32
  ![v521.toNat, 33]
def k0_mult37 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_124 : BitVec 32 := 128#32
  let v525 : BitVec 32 := Scalar.muli arg15 c128_i32_124
  v525
def k0_off107 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v527 : Index := Scalar.indexCast v14
  let c0_125 : Index := 0#32
  let c4224 : Index := 4224#32
  ![v527.toNat, 0, 4224]
def k0_off108 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_124 : BitVec 32 := 128#32
  let v525 : BitVec 32 := Scalar.muli arg15 c128_i32_124
  let v526 : BitVec 32 := v525
  let v532 : Index := Scalar.indexCast v526
  let c4224_126 : Index := 4224#32
  ![v532.toNat, 4224]
def k0_off109 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v536 : Index := Scalar.indexCast arg15
  let c34 : Index := 34#32
  ![v536.toNat, 34]
def k0_mult38 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_127 : BitVec 32 := 128#32
  let v540 : BitVec 32 := Scalar.muli arg15 c128_i32_127
  v540
def k0_off110 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v542 : Index := Scalar.indexCast v14
  let c0_128 : Index := 0#32
  let c4352 : Index := 4352#32
  ![v542.toNat, 0, 4352]
def k0_off111 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_127 : BitVec 32 := 128#32
  let v540 : BitVec 32 := Scalar.muli arg15 c128_i32_127
  let v541 : BitVec 32 := v540
  let v547 : Index := Scalar.indexCast v541
  let c4352_129 : Index := 4352#32
  ![v547.toNat, 4352]
def k0_off112 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v551 : Index := Scalar.indexCast arg15
  let c35 : Index := 35#32
  ![v551.toNat, 35]
def k0_mult39 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_130 : BitVec 32 := 128#32
  let v555 : BitVec 32 := Scalar.muli arg15 c128_i32_130
  v555
def k0_off113 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v557 : Index := Scalar.indexCast v14
  let c0_131 : Index := 0#32
  let c4480 : Index := 4480#32
  ![v557.toNat, 0, 4480]
def k0_off114 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_130 : BitVec 32 := 128#32
  let v555 : BitVec 32 := Scalar.muli arg15 c128_i32_130
  let v556 : BitVec 32 := v555
  let v562 : Index := Scalar.indexCast v556
  let c4480_132 : Index := 4480#32
  ![v562.toNat, 4480]
def k0_off115 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v566 : Index := Scalar.indexCast arg15
  let c36 : Index := 36#32
  ![v566.toNat, 36]
def k0_mult40 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_133 : BitVec 32 := 128#32
  let v570 : BitVec 32 := Scalar.muli arg15 c128_i32_133
  v570
def k0_off116 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v572 : Index := Scalar.indexCast v14
  let c0_134 : Index := 0#32
  let c4608 : Index := 4608#32
  ![v572.toNat, 0, 4608]
def k0_off117 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_133 : BitVec 32 := 128#32
  let v570 : BitVec 32 := Scalar.muli arg15 c128_i32_133
  let v571 : BitVec 32 := v570
  let v577 : Index := Scalar.indexCast v571
  let c4608_135 : Index := 4608#32
  ![v577.toNat, 4608]
def k0_off118 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v581 : Index := Scalar.indexCast arg15
  let c37 : Index := 37#32
  ![v581.toNat, 37]
def k0_mult41 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_136 : BitVec 32 := 128#32
  let v585 : BitVec 32 := Scalar.muli arg15 c128_i32_136
  v585
def k0_off119 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v587 : Index := Scalar.indexCast v14
  let c0_137 : Index := 0#32
  let c4736 : Index := 4736#32
  ![v587.toNat, 0, 4736]
def k0_off120 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_136 : BitVec 32 := 128#32
  let v585 : BitVec 32 := Scalar.muli arg15 c128_i32_136
  let v586 : BitVec 32 := v585
  let v592 : Index := Scalar.indexCast v586
  let c4736_138 : Index := 4736#32
  ![v592.toNat, 4736]
def k0_off121 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v596 : Index := Scalar.indexCast arg15
  let c38 : Index := 38#32
  ![v596.toNat, 38]
def k0_mult42 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_139 : BitVec 32 := 128#32
  let v600 : BitVec 32 := Scalar.muli arg15 c128_i32_139
  v600
def k0_off122 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v602 : Index := Scalar.indexCast v14
  let c0_140 : Index := 0#32
  let c4864 : Index := 4864#32
  ![v602.toNat, 0, 4864]
def k0_off123 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_139 : BitVec 32 := 128#32
  let v600 : BitVec 32 := Scalar.muli arg15 c128_i32_139
  let v601 : BitVec 32 := v600
  let v607 : Index := Scalar.indexCast v601
  let c4864_141 : Index := 4864#32
  ![v607.toNat, 4864]
def k0_off124 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v611 : Index := Scalar.indexCast arg15
  let c39 : Index := 39#32
  ![v611.toNat, 39]
def k0_mult43 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_142 : BitVec 32 := 128#32
  let v615 : BitVec 32 := Scalar.muli arg15 c128_i32_142
  v615
def k0_off125 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v617 : Index := Scalar.indexCast v14
  let c0_143 : Index := 0#32
  let c4992 : Index := 4992#32
  ![v617.toNat, 0, 4992]
def k0_off126 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_142 : BitVec 32 := 128#32
  let v615 : BitVec 32 := Scalar.muli arg15 c128_i32_142
  let v616 : BitVec 32 := v615
  let v622 : Index := Scalar.indexCast v616
  let c4992_144 : Index := 4992#32
  ![v622.toNat, 4992]
def k0_off127 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v626 : Index := Scalar.indexCast arg15
  let c40 : Index := 40#32
  ![v626.toNat, 40]
def k0_mult44 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_145 : BitVec 32 := 128#32
  let v630 : BitVec 32 := Scalar.muli arg15 c128_i32_145
  v630
def k0_off128 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v632 : Index := Scalar.indexCast v14
  let c0_146 : Index := 0#32
  let c5120 : Index := 5120#32
  ![v632.toNat, 0, 5120]
def k0_off129 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_145 : BitVec 32 := 128#32
  let v630 : BitVec 32 := Scalar.muli arg15 c128_i32_145
  let v631 : BitVec 32 := v630
  let v637 : Index := Scalar.indexCast v631
  let c5120_147 : Index := 5120#32
  ![v637.toNat, 5120]
def k0_off130 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v641 : Index := Scalar.indexCast arg15
  let c41 : Index := 41#32
  ![v641.toNat, 41]
def k0_mult45 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_148 : BitVec 32 := 128#32
  let v645 : BitVec 32 := Scalar.muli arg15 c128_i32_148
  v645
def k0_off131 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v647 : Index := Scalar.indexCast v14
  let c0_149 : Index := 0#32
  let c5248 : Index := 5248#32
  ![v647.toNat, 0, 5248]
def k0_off132 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_148 : BitVec 32 := 128#32
  let v645 : BitVec 32 := Scalar.muli arg15 c128_i32_148
  let v646 : BitVec 32 := v645
  let v652 : Index := Scalar.indexCast v646
  let c5248_150 : Index := 5248#32
  ![v652.toNat, 5248]
def k0_off133 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v656 : Index := Scalar.indexCast arg15
  let c42 : Index := 42#32
  ![v656.toNat, 42]
def k0_mult46 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_151 : BitVec 32 := 128#32
  let v660 : BitVec 32 := Scalar.muli arg15 c128_i32_151
  v660
def k0_off134 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v662 : Index := Scalar.indexCast v14
  let c0_152 : Index := 0#32
  let c5376 : Index := 5376#32
  ![v662.toNat, 0, 5376]
def k0_off135 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_151 : BitVec 32 := 128#32
  let v660 : BitVec 32 := Scalar.muli arg15 c128_i32_151
  let v661 : BitVec 32 := v660
  let v667 : Index := Scalar.indexCast v661
  let c5376_153 : Index := 5376#32
  ![v667.toNat, 5376]
def k0_off136 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let v671 : Index := Scalar.indexCast arg15
  let c43 : Index := 43#32
  ![v671.toNat, 43]
def k0_mult47 (k0_t1 : Fin k0_t1_loop.trips) : BitVec 32 :=
  let c0_i32_13 : BitVec 32 := 0#32
  let c1_i32_14 : BitVec 32 := 1#32
  let arg15 : BitVec 32 := Scf.iv c0_i32_13 c1_i32_14 k0_t1
  let c128_i32_154 : BitVec 32 := 128#32
  let v675 : BitVec 32 := Scalar.muli arg15 c128_i32_154
  v675
def k0_off137 (k0_t1 : Fin k0_t1_loop.trips) : Fin 3 → Nat :=
  let c0_i32_13 : BitVec 32 := 0#32
  let c1_i32_14 : BitVec 32 := 1#32
  let arg15 : BitVec 32 := Scf.iv c0_i32_13 c1_i32_14 k0_t1
  let c2_i32 : BitVec 32 := 2#32
  let v14 : BitVec 32 := Scalar.remsi arg15 c2_i32
  let v677 : Index := Scalar.indexCast v14
  let c0_155 : Index := 0#32
  let c5504 : Index := 5504#32
  ![v677.toNat, 0, 5504]
def k0_off138 (k0_t1 : Fin k0_t1_loop.trips) : Fin 2 → Nat :=
  let c0_i32_13 : BitVec 32 := 0#32
  let c1_i32_14 : BitVec 32 := 1#32
  let arg15 : BitVec 32 := Scf.iv c0_i32_13 c1_i32_14 k0_t1
  let c128_i32_154 : BitVec 32 := 128#32
  let v675 : BitVec 32 := Scalar.muli arg15 c128_i32_154
  let v676 : BitVec 32 := v675
  let v682 : Index := Scalar.indexCast v676
  let c5504_156 : Index := 5504#32
  ![v682.toNat, 5504]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult48 (k0_t2 : Fin k0_t2_loop.trips) : BitVec 32 :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  v5
def k0_off139 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v20 : Index := Scalar.indexCast v6
  let c0_10 : Index := 0#32
  ![v20.toNat, 0]
def k0_off140 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v53 : Index := Scalar.indexCast v6
  let c128 : Index := 128#32
  ![v53.toNat, 128]
def k0_off141 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v110 : Index := Scalar.indexCast v6
  let c0_33 : Index := 0#32
  ![v110.toNat, 0]
def k0_off142 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v155 : Index := Scalar.indexCast v6
  let c256 : Index := 256#32
  ![v155.toNat, 256]
def k0_off143 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v212 : Index := Scalar.indexCast v6
  let c128_59 : Index := 128#32
  ![v212.toNat, 128]
def k0_off144 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v257 : Index := Scalar.indexCast v6
  let c384 : Index := 384#32
  ![v257.toNat, 384]
def k0_off145 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v314 : Index := Scalar.indexCast v6
  let c256_84 : Index := 256#32
  ![v314.toNat, 256]
def k0_off146 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v359 : Index := Scalar.indexCast v6
  let c512 : Index := 512#32
  ![v359.toNat, 512]
def k0_off147 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v416 : Index := Scalar.indexCast v6
  let c384_109 : Index := 384#32
  ![v416.toNat, 384]
def k0_off148 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v461 : Index := Scalar.indexCast v6
  let c640 : Index := 640#32
  ![v461.toNat, 640]
def k0_off149 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v518 : Index := Scalar.indexCast v6
  let c512_134 : Index := 512#32
  ![v518.toNat, 512]
def k0_off150 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v563 : Index := Scalar.indexCast v6
  let c768 : Index := 768#32
  ![v563.toNat, 768]
def k0_off151 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v620 : Index := Scalar.indexCast v6
  let c640_159 : Index := 640#32
  ![v620.toNat, 640]
def k0_off152 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v665 : Index := Scalar.indexCast v6
  let c896 : Index := 896#32
  ![v665.toNat, 896]
def k0_off153 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v722 : Index := Scalar.indexCast v6
  let c768_184 : Index := 768#32
  ![v722.toNat, 768]
def k0_off154 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v767 : Index := Scalar.indexCast v6
  let c1024 : Index := 1024#32
  ![v767.toNat, 1024]
def k0_off155 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v824 : Index := Scalar.indexCast v6
  let c896_210 : Index := 896#32
  ![v824.toNat, 896]
def k0_off156 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v869 : Index := Scalar.indexCast v6
  let c1152 : Index := 1152#32
  ![v869.toNat, 1152]
def k0_off157 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v926 : Index := Scalar.indexCast v6
  let c1024_236 : Index := 1024#32
  ![v926.toNat, 1024]
def k0_off158 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v971 : Index := Scalar.indexCast v6
  let c1280 : Index := 1280#32
  ![v971.toNat, 1280]
def k0_off159 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1028 : Index := Scalar.indexCast v6
  let c1152_261 : Index := 1152#32
  ![v1028.toNat, 1152]
def k0_off160 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1073 : Index := Scalar.indexCast v6
  let c1408 : Index := 1408#32
  ![v1073.toNat, 1408]
def k0_off161 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1130 : Index := Scalar.indexCast v6
  let c1280_286 : Index := 1280#32
  ![v1130.toNat, 1280]
def k0_off162 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1175 : Index := Scalar.indexCast v6
  let c1536 : Index := 1536#32
  ![v1175.toNat, 1536]
def k0_off163 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1232 : Index := Scalar.indexCast v6
  let c1408_312 : Index := 1408#32
  ![v1232.toNat, 1408]
def k0_off164 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1277 : Index := Scalar.indexCast v6
  let c1664 : Index := 1664#32
  ![v1277.toNat, 1664]
def k0_off165 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1334 : Index := Scalar.indexCast v6
  let c1536_337 : Index := 1536#32
  ![v1334.toNat, 1536]
def k0_off166 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1379 : Index := Scalar.indexCast v6
  let c1792 : Index := 1792#32
  ![v1379.toNat, 1792]
def k0_off167 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1436 : Index := Scalar.indexCast v6
  let c1664_362 : Index := 1664#32
  ![v1436.toNat, 1664]
def k0_off168 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1481 : Index := Scalar.indexCast v6
  let c1920 : Index := 1920#32
  ![v1481.toNat, 1920]
def k0_off169 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1538 : Index := Scalar.indexCast v6
  let c1792_387 : Index := 1792#32
  ![v1538.toNat, 1792]
def k0_off170 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1583 : Index := Scalar.indexCast v6
  let c2048 : Index := 2048#32
  ![v1583.toNat, 2048]
def k0_off171 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1640 : Index := Scalar.indexCast v6
  let c1920_412 : Index := 1920#32
  ![v1640.toNat, 1920]
def k0_off172 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1685 : Index := Scalar.indexCast v6
  let c2176 : Index := 2176#32
  ![v1685.toNat, 2176]
def k0_off173 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1742 : Index := Scalar.indexCast v6
  let c2048_437 : Index := 2048#32
  ![v1742.toNat, 2048]
def k0_off174 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1787 : Index := Scalar.indexCast v6
  let c2304 : Index := 2304#32
  ![v1787.toNat, 2304]
def k0_off175 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1844 : Index := Scalar.indexCast v6
  let c2176_462 : Index := 2176#32
  ![v1844.toNat, 2176]
def k0_off176 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1889 : Index := Scalar.indexCast v6
  let c2432 : Index := 2432#32
  ![v1889.toNat, 2432]
def k0_off177 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1946 : Index := Scalar.indexCast v6
  let c2304_487 : Index := 2304#32
  ![v1946.toNat, 2304]
def k0_off178 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v1991 : Index := Scalar.indexCast v6
  let c2560 : Index := 2560#32
  ![v1991.toNat, 2560]
def k0_off179 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2048 : Index := Scalar.indexCast v6
  let c2432_512 : Index := 2432#32
  ![v2048.toNat, 2432]
def k0_off180 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2093 : Index := Scalar.indexCast v6
  let c2688 : Index := 2688#32
  ![v2093.toNat, 2688]
def k0_off181 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2150 : Index := Scalar.indexCast v6
  let c2560_537 : Index := 2560#32
  ![v2150.toNat, 2560]
def k0_off182 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2195 : Index := Scalar.indexCast v6
  let c2816 : Index := 2816#32
  ![v2195.toNat, 2816]
def k0_off183 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2252 : Index := Scalar.indexCast v6
  let c2688_562 : Index := 2688#32
  ![v2252.toNat, 2688]
def k0_off184 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2297 : Index := Scalar.indexCast v6
  let c2944 : Index := 2944#32
  ![v2297.toNat, 2944]
def k0_off185 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2354 : Index := Scalar.indexCast v6
  let c2816_587 : Index := 2816#32
  ![v2354.toNat, 2816]
def k0_off186 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2399 : Index := Scalar.indexCast v6
  let c3072 : Index := 3072#32
  ![v2399.toNat, 3072]
def k0_off187 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2456 : Index := Scalar.indexCast v6
  let c2944_612 : Index := 2944#32
  ![v2456.toNat, 2944]
def k0_off188 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2501 : Index := Scalar.indexCast v6
  let c3200 : Index := 3200#32
  ![v2501.toNat, 3200]
def k0_off189 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2558 : Index := Scalar.indexCast v6
  let c3072_637 : Index := 3072#32
  ![v2558.toNat, 3072]
def k0_off190 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2603 : Index := Scalar.indexCast v6
  let c3328 : Index := 3328#32
  ![v2603.toNat, 3328]
def k0_off191 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2660 : Index := Scalar.indexCast v6
  let c3200_662 : Index := 3200#32
  ![v2660.toNat, 3200]
def k0_off192 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2705 : Index := Scalar.indexCast v6
  let c3456 : Index := 3456#32
  ![v2705.toNat, 3456]
def k0_off193 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2762 : Index := Scalar.indexCast v6
  let c3328_687 : Index := 3328#32
  ![v2762.toNat, 3328]
def k0_off194 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2807 : Index := Scalar.indexCast v6
  let c3584 : Index := 3584#32
  ![v2807.toNat, 3584]
def k0_off195 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2864 : Index := Scalar.indexCast v6
  let c3456_712 : Index := 3456#32
  ![v2864.toNat, 3456]
def k0_off196 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2909 : Index := Scalar.indexCast v6
  let c3712 : Index := 3712#32
  ![v2909.toNat, 3712]
def k0_off197 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v2966 : Index := Scalar.indexCast v6
  let c3584_737 : Index := 3584#32
  ![v2966.toNat, 3584]
def k0_off198 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v3011 : Index := Scalar.indexCast v6
  let c3840 : Index := 3840#32
  ![v3011.toNat, 3840]
def k0_off199 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v3068 : Index := Scalar.indexCast v6
  let c3712_762 : Index := 3712#32
  ![v3068.toNat, 3712]
def k0_off200 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v3113 : Index := Scalar.indexCast v6
  let c3968 : Index := 3968#32
  ![v3113.toNat, 3968]
def k0_off201 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v3170 : Index := Scalar.indexCast v6
  let c3840_787 : Index := 3840#32
  ![v3170.toNat, 3840]
def k0_off202 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v5 : BitVec 32 := Scalar.muli arg15 c32_i32
  let v6 : BitVec 32 := v5
  let v3203 : Index := Scalar.indexCast v6
  let c0_794 : Index := 0#32
  ![v3203.toNat, 0]
@[reducible] def k0_t3_loop : Scf.Loop 32 :=
  let c0_i32_3 : BitVec 32 := 0#32
  let c11_i32 : BitVec 32 := 11#32
  let v4 : BitVec 32 := Scalar.addi c0_i32_3 c11_i32
  let c1_i32_4 : BitVec 32 := 1#32
  ⟨c0_i32_3, v4, c1_i32_4⟩
def k0_mult49 (k0_t3 : Fin k0_t3_loop.trips) : BitVec 32 :=
  let c0_i32_3 : BitVec 32 := 0#32
  let c1_i32_4 : BitVec 32 := 1#32
  let arg15 : BitVec 32 := Scf.iv c0_i32_3 c1_i32_4 k0_t3
  let c512_i32 : BitVec 32 := 512#32
  let v5 : BitVec 32 := Scalar.muli arg15 c512_i32
  v5
def k0_off203 (k0_t3 : Fin k0_t3_loop.trips) : Fin 2 → Nat :=
  let c0_7 : Index := 0#32
  let c0_i32_3 : BitVec 32 := 0#32
  let c1_i32_4 : BitVec 32 := 1#32
  let arg15 : BitVec 32 := Scf.iv c0_i32_3 c1_i32_4 k0_t3
  let c512_i32 : BitVec 32 := 512#32
  let v5 : BitVec 32 := Scalar.muli arg15 c512_i32
  let v6 : BitVec 32 := v5
  let v8 : Index := Scalar.indexCast v6
  ![0, v8.toNat]
def k0_off204 (k0_t3 : Fin k0_t3_loop.trips) : Fin 2 → Nat :=
  let c0_8 : Index := 0#32
  let c0_i32_3 : BitVec 32 := 0#32
  let c1_i32_4 : BitVec 32 := 1#32
  let arg15 : BitVec 32 := Scf.iv c0_i32_3 c1_i32_4 k0_t3
  let c512_i32 : BitVec 32 := 512#32
  let v5 : BitVec 32 := Scalar.muli arg15 c512_i32
  let v6 : BitVec 32 := v5
  let v12 : Index := Scalar.indexCast v6
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S31x44 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S31x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3968 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x31 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x6144x4096 : Shape := ⟨3, ![4, 6144, 4096]⟩
abbrev S128 : Shape := ⟨1, ![128]⟩
abbrev S3968 : Shape := ⟨1, ![3968]⟩
abbrev S128x5632 : Shape := ⟨2, ![128, 5632]⟩
abbrev S3968x5632 : Shape := ⟨2, ![3968, 5632]⟩
abbrev S31x44 : Shape := ⟨2, ![31, 44]⟩
abbrev S24576x4096 : Shape := ⟨2, ![24576, 4096]⟩
abbrev S_ : Shape := ⟨0, ![]⟩
abbrev S128x1 : Shape := ⟨2, ![128, 1]⟩
abbrev S1 : Shape := ⟨1, ![1]⟩
abbrev S1x1 : Shape := ⟨2, ![1, 1]⟩
abbrev S24576x128 : Shape := ⟨2, ![24576, 128]⟩
abbrev S3968x1 : Shape := ⟨2, ![3968, 1]⟩
abbrev S24576x3968 : Shape := ⟨2, ![24576, 3968]⟩
abbrev S24576x5632 : Shape := ⟨2, ![24576, 5632]⟩
abbrev S24576x31 : Shape := ⟨2, ![24576, 31]⟩
abbrev S24576x31x128 : Shape := ⟨3, ![24576, 31, 128]⟩
abbrev S24576x31x1 : Shape := ⟨3, ![24576, 31, 1]⟩
abbrev S31x128x44x128 : Shape := ⟨4, ![31, 128, 44, 128]⟩
abbrev S31x1x44x1 : Shape := ⟨4, ![31, 1, 44, 1]⟩

abbrev nBuf : Space → Nat
  | .hbm => 56
  | .vmem => 8
  | .smem => 0
  | _ => 0

abbrev bufTy : (tb : Table) → Fin (tcTables nBuf tb) → BufTy
  | .hbm, ⟨0, _⟩ => ⟨S4x6144x4096, .bf16⟩
  | .hbm, ⟨1, _⟩ => ⟨S128, .i32⟩
  | .hbm, ⟨2, _⟩ => ⟨S3968, .i32⟩
  | .hbm, ⟨3, _⟩ => ⟨S128x5632, .bf16⟩
  | .hbm, ⟨4, _⟩ => ⟨S3968x5632, .fp8e4m3⟩
  | .hbm, ⟨5, _⟩ => ⟨S31x44, .f32⟩
  | .hbm, ⟨6, _⟩ => ⟨S24576x4096, .bf16⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S128x1, .i32⟩
  | .hbm, ⟨15, _⟩ => ⟨S1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S1x1, .i32⟩
  | .hbm, ⟨20, _⟩ => ⟨S128x1, .i32⟩
  | .hbm, ⟨21, _⟩ => ⟨S128x1, .i1⟩
  | .hbm, ⟨22, _⟩ => ⟨S128x1, .i1⟩
  | .hbm, ⟨23, _⟩ => ⟨S_, .i1⟩
  | .hbm, ⟨24, _⟩ => ⟨S128, .i1⟩
  | .hbm, ⟨25, _⟩ => ⟨S24576x128, .bf16⟩
  | .hbm, ⟨26, _⟩ => ⟨S24576x128, .i1⟩
  | .hbm, ⟨27, _⟩ => ⟨S_, .bf16⟩
  | .hbm, ⟨28, _⟩ => ⟨S24576x128, .bf16⟩
  | .hbm, ⟨29, _⟩ => ⟨S24576x128, .bf16⟩
  | .hbm, ⟨30, _⟩ => ⟨S_, .i32⟩
  | .hbm, ⟨31, _⟩ => ⟨S3968, .i32⟩
  | .hbm, ⟨32, _⟩ => ⟨S3968, .i1⟩
  | .hbm, ⟨33, _⟩ => ⟨S_, .i32⟩
  | .hbm, ⟨34, _⟩ => ⟨S3968, .i32⟩
  | .hbm, ⟨35, _⟩ => ⟨S3968, .i32⟩
  | .hbm, ⟨36, _⟩ => ⟨S3968, .i32⟩
  | .hbm, ⟨37, _⟩ => ⟨S3968x1, .i32⟩
  | .hbm, ⟨38, _⟩ => ⟨S1, .i32⟩
  | .hbm, ⟨39, _⟩ => ⟨S_, .i32⟩
  | .hbm, ⟨40, _⟩ => ⟨S3968x1, .i32⟩
  | .hbm, ⟨41, _⟩ => ⟨S3968x1, .i1⟩
  | .hbm, ⟨42, _⟩ => ⟨S1x1, .i32⟩
  | .hbm, ⟨43, _⟩ => ⟨S3968x1, .i32⟩
  | .hbm, ⟨44, _⟩ => ⟨S3968x1, .i1⟩
  | .hbm, ⟨45, _⟩ => ⟨S3968x1, .i1⟩
  | .hbm, ⟨46, _⟩ => ⟨S_, .i1⟩
  | .hbm, ⟨47, _⟩ => ⟨S3968, .i1⟩
  | .hbm, ⟨48, _⟩ => ⟨S24576x3968, .bf16⟩
  | .hbm, ⟨49, _⟩ => ⟨S24576x3968, .i1⟩
  | .hbm, ⟨50, _⟩ => ⟨S_, .bf16⟩
  | .hbm, ⟨51, _⟩ => ⟨S24576x3968, .bf16⟩
  | .hbm, ⟨52, _⟩ => ⟨S24576x3968, .bf16⟩
  | .hbm, ⟨53, _⟩ => ⟨S24576x5632, .bf16⟩
  | .hbm, ⟨54, _⟩ => ⟨S24576x3968, .fp8e4m3⟩
  | .hbm, ⟨55, _⟩ => ⟨S24576x31, .f32⟩
  | .local _ .vmem, ⟨0, _⟩ => ⟨S24576x128, .bf16⟩
  | .local _ .vmem, ⟨1, _⟩ => ⟨S24576x3968, .bf16⟩
  | .local _ .vmem, ⟨2, _⟩ => ⟨S128x5632, .bf16⟩
  | .local _ .vmem, ⟨3, _⟩ => ⟨S3968x5632, .fp8e4m3⟩
  | .local _ .vmem, ⟨4, _⟩ => ⟨S31x44, .f32⟩
  | .local _ .vmem, ⟨5, _⟩ => ⟨S24576x5632, .bf16⟩
  | .local _ .vmem, ⟨6, _⟩ => ⟨S24576x3968, .fp8e4m3⟩
  | .local _ .vmem, ⟨7, _⟩ => ⟨S24576x31, .f32⟩
  | _, _ => ⟨S4x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3_0 : Ref sig .tc := ⟨.hbm, 53, rfl⟩
abbrev main_v3_1 : Ref sig .tc := ⟨.hbm, 54, rfl⟩
abbrev main_v3_2 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x3968 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3968x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x44 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x3968 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x31 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Load.lean ====
/-
  The first grid point's fill of the weight scratch: a two-slot ring that streams the 31 row groups of the fp8
  weight codes and writes each group, scaled, into its rows of the scratch.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic
public import Idealize.ShloMosaic.Lib.WritesUnit
public import Idealize.ShloMosaic.Lib.ValueIdxCore
public import Idealize.ShloMosaic.Lib.Pipeline.Value

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Canonical names: row group `b` of the codes, slot `s` of the staging ring, slot `s`'s cell -/

abbrev codesM : Memref sig .tc .hbm S3968x5632 .fp8e4m3 := Memref.whole main_arg4
abbrev woutM : Memref sig .tc .hbm S128x5632 .bf16 := Memref.whole main_arg3
abbrev wM : Memref sig .tc .vmem S4096x5632 .bf16 := Memref.whole cc0_scratch0
abbrev xM : Memref sig .tc .vmem S256x4096 .bf16 := Memref.whole cc0_scratch1
abbrev ringM : Memref sig .tc .vmem S2x128x5632 .fp8e4m3 := Memref.whole cc0_scratch2

abbrev grpOff (b : Fin 31) : Fin 2 → Nat := ![128 * b.val, 0]
theorem grpOff_inb (b : Fin 31) : ∀ a, grpOff b a + S128x5632.size a ≤ S3968x5632.size a := by
  have := b.isLt; intro a; fin_cases a
  · show 128 * b.val + 128 ≤ 3968; omega
  · show 0 + 5632 ≤ 5632; omega
abbrev slotOff (s : Fin 2) : Fin 3 → Nat := ![s.val, 0, 0]
theorem slotOff_inb (s : Fin 2) : ∀ a, slotOff s a + S1x128x5632.size a ≤ S2x128x5632.size a := by
  have := s.isLt; intro a; fin_cases a
  · show s.val + 1 ≤ 2; omega
  · show 0 + 128 ≤ 128; omega
  · show 0 + 5632 ≤ 5632; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Row group `b` of the codes, as the body slices it. -/
def grp (b : Fin 31) : Memref sig .tc .hbm S128x5632 .fp8e4m3 :=
  codesM.slice (Rect.unit (s := S3968x5632) (grpOff b) S128x5632.size (grpOff_inb b)) (fun _ => rfl)
/-- Slot `s` of the ring, as the body slices and squeezes it. -/
def rslot (s : Fin 2) : Memref sig .tc .vmem S128x5632 .fp8e4m3 :=
  (ringM.slice (Rect.unit (s := S2x128x5632) (slotOff s) S1x128x5632.size (slotOff_inb s)) (fun _ => rfl)).squeeze S128x5632 squeezes_S1x128x5632_S128x5632
/-- Slot `s`'s DMA semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
theorem slotOff_sl (n : ℕ) : slotOff (Ring.sl 2 n) = ![n % 2, 0, 0] := rfl
instance (priority := high) (n : ℕ) : ClosedOff (slotOff (Ring.sl 2 n)) := ⟨![n % 2, 0, 0], slotOff_sl n⟩
instance (b : Fin 31) : ClosedOff (grpOff b) := ⟨grpOff b, rfl⟩

theorem t1_lt (k : Fin k0_t1_loop.trips) : k.val < 31 := lt_of_lt_of_le k.isLt k0_t1_abs.2.1

theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 2} (e : off = slotOff s) (hh hs) :
    (ringM.slice (Rect.unit (s := S2x128x5632) off S1x128x5632.size hh) hs).squeeze S128x5632 squeezes_S1x128x5632_S128x5632 = rslot s :=
  congrArg (fun M : Memref sig .tc .vmem S1x128x5632 .fp8e4m3 => M.squeeze S128x5632 squeezes_S1x128x5632_S128x5632) (Memref.slice_unit_congr _ e _ _ _ _)
theorem grp_congr {off : Fin 2 → Nat} {b : Fin 31} (e : off = grpOff b) (hh hs) :
    codesM.slice (Rect.unit (s := S3968x5632) off S128x5632.size hh) hs = grp b :=
  Memref.slice_unit_congr _ e _ _ _ (fun _ => rfl)

theorem off1_eq (k : Fin k0_t1_loop.trips) : k0_off1 k = semOff (Ring.sl 2 (k.val + 1)) := by
  rw [k0_off1_eq]; unfold semOff; congr 1; simp [Ring.sl, Fin.ofNat]; omega
theorem off2_eq (k : Fin k0_t1_loop.trips) : k0_off2 k = slotOff (Ring.sl 2 (k.val + 1)) := by
  rw [k0_off2_eq]; unfold slotOff; congr 1; simp [Ring.sl, Fin.ofNat]; omega
theorem off3_eq (k : Fin k0_t1_loop.trips) (hk : k.val + 1 < 31) : k0_off3 k = grpOff (Ring.bk 31 (k.val + 1)) := by
  rw [k0_off3_eq]; unfold grpOff; rw [Ring.bk_val hk]; congr 1
theorem off4_eq (k : Fin k0_t1_loop.trips) : k0_off4 k = semOff (Ring.sl 2 k.val) := by
  rw [k0_off4_eq]; unfold semOff; congr 1
theorem off5_eq (k : Fin k0_t1_loop.trips) : k0_off5 k = slotOff (Ring.sl 2 k.val) := by
  rw [k0_off5_eq]; unfold slotOff; congr 1
theorem off6_eq (k : Fin k0_t1_loop.trips) : k0_off6 k = grpOff (Ring.bk 31 k.val) := by
  rw [k0_off6_eq]; unfold grpOff; rw [Ring.bk_val (t1_lt k)]

@[sl_canon] theorem semL0 (hh) : (cc0_scratch3.slice (Rect.unit (s := S2) ![0] S1.size hh)).squeeze S_ squeezes_S1_S_ = csm 0 := csm_congr (by decide) _
@[sl_canon] theorem slotL0 (hh hs) : (ringM.slice (Rect.unit (s := S2x128x5632) ![0, 0, 0] S1x128x5632.size hh) hs).squeeze S128x5632 squeezes_S1x128x5632_S128x5632 = rslot 0 := rslot_congr (by decide) _ _
@[sl_canon] theorem grpL0 (hh hs) : codesM.slice (Rect.unit (s := S3968x5632) ![0, 0] S128x5632.size hh) hs = grp 0 := grp_congr (by decide) _ _
@[sl_canon] theorem semN (k : Fin k0_t1_loop.trips) (hh) : (cc0_scratch3.slice (Rect.unit (s := S2) (k0_off1 k) S1.size hh)).squeeze S_ squeezes_S1_S_ = csm (Ring.sl 2 (k.val + 1)) := csm_congr (off1_eq k) _
@[sl_canon] theorem slotN (k : Fin k0_t1_loop.trips) (hh hs) : (ringM.slice (Rect.unit (s := S2x128x5632) (k0_off2 k) S1x128x5632.size hh) hs).squeeze S128x5632 squeezes_S1x128x5632_S128x5632 = rslot (Ring.sl 2 (k.val + 1)) := rslot_congr (off2_eq k) _ _
@[sl_canon] theorem grpN (k : Fin k0_t1_loop.trips) (hk : k.val + 1 < 31) (hh hs) : codesM.slice (Rect.unit (s := S3968x5632) (k0_off3 k) S128x5632.size hh) hs = grp (Ring.bk 31 (k.val + 1)) := grp_congr (off3_eq k hk) _ _
@[sl_canon] theorem semK (k : Fin k0_t1_loop.trips) (hh) : (cc0_scratch3.slice (Rect.unit (s := S2) (k0_off4 k) S1.size hh)).squeeze S_ squeezes_S1_S_ = csm (Ring.sl 2 k.val) := csm_congr (off4_eq k) _
@[sl_canon] theorem slotK (k : Fin k0_t1_loop.trips) (hh hs) : (ringM.slice (Rect.unit (s := S2x128x5632) (k0_off5 k) S1x128x5632.size hh) hs).squeeze S128x5632 squeezes_S1x128x5632_S128x5632 = rslot (Ring.sl 2 k.val) := rslot_congr (off5_eq k) _ _
@[sl_canon] theorem grpK (k : Fin k0_t1_loop.trips) (hh hs) : codesM.slice (Rect.unit (s := S3968x5632) (k0_off6 k) S128x5632.size hh) hs = grp (Ring.bk 31 k.val) := grp_congr (off6_eq k) _ _

/-! ## The pieces -/

/-- The rows of the weight scratch that the loop fills. -/
abbrev Rlow : Rect S4096x5632 := Rect.unit (s := S4096x5632) ![0, 0] S3968x5632.size (by intro a; fin_cases a <;> decide)

section Pieces
variable (c : Dev nD) (XA : Buf (Elt F) (codesM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Row group `b` HOME: held on its elements at the codes' contents. -/
abbrev homeP (b : Fin 31) : sProp 𝕄 := (grp b).view.loc (c : Thread nD τ) ↦[(grp b).view.set]{fullShare} XA
/-- What group `b`'s transfer leaves in slot `s` over prior contents `f`. -/
abbrev landed (s : Fin 2) (b : Fin 31) (f : Buf (Elt F) ((rslot s).view.loc (c : Thread nD τ))) : Buf (Elt F) ((rslot s).view.loc (c : Thread nD τ)) :=
  (rslot s).view.writes (Elt F) f [⟨Rect.whole S128x5632, ReadAs.same.apply ((grp b).view.read (Elt F) XA)⟩]
/-- Slot `s` IN FLIGHT with group `b`, issued over `f`. -/
abbrev flightP (s : Fin 2) (b : Fin 31) (f : Buf (Elt F) ((rslot s).view.loc (c : Thread nD τ))) : sProp 𝕄 :=
  Transfers.Flight countersEmb (c : Thread nD τ) (SemLoc.dma (csm s).sem) () 22528 iprop(slotP c s (landed c XA s b f) ∗ homeP c XA b)
abbrev lowP (f : Buf (Elt F) (wM.view.loc (c : Thread nD τ))) : sProp 𝕄 :=
  wM.view.loc (c : Thread nD τ) ↦[wM.view.setOn Rlow.set]{fullShare} f

theorem homes_here (k : ℕ) (hk : k + 1 < 31) :
    bigSep (Ring.homeSet 1 k) (homeP c XA) = iprop(homeP c XA (Ring.bk 31 (k + 1)) ∗ bigSep ((Ring.homeSet 1 k).erase (Ring.bk 31 (k + 1))) (homeP c XA)) := by
  conv_lhs => rw [Ring.homeSet_out 1 k hk, bigSep_insert (Ring.bkL_not_mem_erase 1 k)]
  rfl
theorem homes_next (k : ℕ) (hk : k + 1 < 31) :
    bigSep (Ring.homeSet 1 (k + 1)) (homeP c XA) = iprop(homeP c XA (Ring.bk 31 k) ∗ bigSep ((Ring.homeSet 1 k).erase (Ring.bk 31 (k + 1))) (homeP c XA)) := by
  conv_lhs => rw [Ring.homeSet_succ 1 k hk, bigSep_insert (Ring.bk_not_mem_erase 1 k (by omega) (by decide))]
  rfl
theorem homes_last (k : ℕ) (hk : ¬ k + 1 < 31) (hk31 : k < 31) :
    bigSep (Ring.homeSet 1 (k + 1)) (homeP c XA) = iprop(homeP c XA (Ring.bk 31 k) ∗ bigSep (Ring.homeSet 1 k) (homeP c XA)) := by
  conv_lhs => rw [Ring.homeSet_succ_tail 1 k (by omega) hk31, bigSep_insert (Ring.bk_not_mem_homeSet 1 k hk31 (by decide))]
  rfl
omit [FloatOps F] in
theorem sl2_add2 (k : ℕ) : Ring.sl 2 (k + 1 + 1) = Ring.sl 2 k := by rw [show k + 1 + 1 = k + 2 from rfl, Ring.sl_add]
end Pieces

/-! ## What the loop writes -/

section Values
open Idealize.ShloMosaic.ValueIdx

/-- One dequantised weight: a code times its block's scale, both as bf16. -/
def wel (sc : Elt F .f32) (w : Elt F .fp8e4m3) : Elt F .bf16 :=
  FloatOps.mulf (F := F) (φ := .bf16) (FloatOps.extf (F := F) (φ := .fp8e4m3) .bf16 (by decide) w) (FloatOps.truncf (F := F) (φ := .f32) .bf16 (by decide) sc)

/-- The dequantised weight of row `y 0`, column `y 1`, from the scales `S` and the codes `C`. -/
def wlow (S : S31x44.Idx → Elt F .f32) (C : S3968x5632.Idx → Elt F .fp8e4m3) (y : S4096x5632.Idx) : Elt F .bf16 :=
  wel (S (ix2 (Fin.ofNat 31 ((y 0).val / 128)) (Fin.ofNat 44 ((y 1).val / 128)))) (C (ix2 (Fin.ofNat 3968 (y 0).val) (Fin.ofNat 5632 (y 1).val)))

variable (c : Dev nD)

/-- The scratch holds the dequantised weights in the rows below `128 k`, and in the rows of group `k` in the columns
    below `128 j`. -/
def Upto (S : S31x44.Idx → Elt F .f32) (C : S3968x5632.Idx → Elt F .fp8e4m3) (k j : ℕ) (f : Buf (Elt F) (wM.view.loc (c : Thread nD τ))) : Prop :=
  ∀ y : S4096x5632.Idx, ((y 0).val < 128 * k ∨ ((y 0).val < 128 * k + 128 ∧ (y 1).val < 128 * j)) → wM.view.read (Elt F) f y = wlow S C y

theorem rslot_emb (s : Fin 2) (r : Fin 128) (q : Fin 5632) : (rslot s).view.emb (ix2 r q) = ringM.view.emb (ix3 s r q) := by
  show (Rect.unit (s := S2x128x5632) (slotOff s) S1x128x5632.size (slotOff_inb s)).emb (Shape.reshapeEquiv (s := S1x128x5632) (s' := S128x5632) (squeezes_S1x128x5632_S128x5632).numel_eq (ix2 r q)) = ix3 s r q
  rw [show Shape.reshapeEquiv (s := S1x128x5632) (s' := S128x5632) (squeezes_S1x128x5632_S128x5632).numel_eq (ix2 r q) = ix3 0 r q from Shape.reshapeEquiv_cons_one (d := ![128, 5632]) _ _ |>.trans (by funext a; fin_cases a <;> rfl)]
  funext a; apply Fin.ext; fin_cases a
  · show s.val + 1 * 0 = s.val; omega
  · show 0 + 1 * r.val = r.val; omega
  · show 0 + 1 * q.val = q.val; omega

theorem read_ring (s : Fin 2) (f : Buf (Elt F) ((rslot s).view.loc (c : Thread nD τ))) (p : S128x5632.Idx → Elt F .fp8e4m3) (r : Fin 128) (q : Fin 5632) :
    ringM.view.read (Elt F) ((rslot s).view.writes (Elt F) f [⟨Rect.whole S128x5632, p⟩]) (ix3 s r q) = p (ix2 r q) := by
  have h := View.read_writes_cons_emb (Val := Elt F) (rslot s).view f (Rect.whole S128x5632) p [] (ix2 r q)
  rw [Rect.emb_whole_apply] at h
  rw [← h]
  have e : ∀ G : S2x128x5632.Idx → Elt F .fp8e4m3, G (ringM.view.emb (ix3 s r q)) = G ((rslot s).view.emb (ix2 r q)) := fun G => congrArg G (rslot_emb s r q).symm
  exact e _

theorem read_grp (XA : Buf (Elt F) (codesM.view.loc (c : Thread nD τ))) (b : Fin 31) (r : Fin 128) (q : Fin 5632) :
    (grp b).view.read (Elt F) XA (ix2 r q) = codesM.view.read (Elt F) XA (ix2 (Fin.ofNat 3968 (128 * b.val + r.val)) q) := by
  have e : (grp b).view.emb (ix2 r q) = codesM.view.emb (ix2 (Fin.ofNat 3968 (128 * b.val + r.val)) q) := by
    show codesM.view.emb ((Rect.unit (s := S3968x5632) (grpOff b) S128x5632.size (grpOff_inb b)).emb (ix2 r q)) = _
    congr 1
    have := b.isLt; have := r.isLt
    funext a; apply Fin.ext; fin_cases a
    · show 128 * b.val + 1 * r.val = (128 * b.val + r.val) % 3968; omega
    · show 0 + 1 * q.val = q.val; omega
  exact congrArg (fun i : S3968x5632.Idx => (XA : S3968x5632.Idx → Elt F .fp8e4m3) i) e

theorem pay5_apply (v : Elt F .f32) (w : S1x128x128.Idx → Elt F .fp8e4m3) (y : S128x128.Idx) :
    k0_pay5 (F := F) v w y = wel v (shapeCast S128x128 w shapeCasts_S1x128x128_S128x128 y) := by
  unfold k0_pay5
  rw [shapeCast_self]
  rfl

theorem upto_step (XA : Buf (Elt F) (codesM.view.loc (c : Thread nD τ)))
    (arg1 : Memref sig .tc .smem S31x44 .f32) (X1 : Buf (Elt F) (arg1.view.loc (c : Thread nD τ)))
    {k j : ℕ} (hk : k < 31) (hj : j < 44) {off : Fin 2 → ℕ} {inb} {w : (Rect.unit (s := S4096x5632) off S128x128.size inb).shape.Idx → Elt F .bf16}
    {L : List (View.Piece (Elt F) S4096x5632 .bf16)} {f : Buf (Elt F) (wM.view.loc (c : Thread nD τ))}
    {offS : Fin 2 → ℕ} {inbS} {hF} {offR : Fin 3 → ℕ} {inbR} {s : Fin 2} {b : Fin 31} {g}
    (hw : w = k0_pay5 (F := F)
      (arg1.view.readAt (Elt F) (Rect.unit (s := S31x44) offS S1x1.size inbS).toLoadRect X1 (Shape.Idx.first hF))
      (ringM.view.readAt (Elt F) (Rect.unit (s := S2x128x5632) offR S1x128x128.size inbR).toLoadRect
        ((rslot s).view.writes (Elt F) g [⟨Rect.whole S128x5632, ReadAs.same.apply ((grp b).view.read (Elt F) XA)⟩])))
    (hoff : off = ![128 * k, 128 * j]) (hS : offS = ![k, j]) (hR : offR = ![k % 2, 0, 128 * j])
    (hs : s.val = k % 2) (hb : b.val = k)
    (h : Upto c (arg1.view.read (Elt F) X1) (codesM.view.read (Elt F) XA) k j (wM.view.writes (Elt F) f L)) :
    Upto c (arg1.view.read (Elt F) X1) (codesM.view.read (Elt F) XA) k (j + 1) (wM.view.writes (Elt F) f (⟨Rect.unit off S128x128.size inb, w⟩ :: L)) := by
  intro y hy
  by_cases hm : 128 * k ≤ (y 0).val ∧ (y 0).val < 128 * k + 128 ∧ 128 * j ≤ (y 1).val ∧ (y 1).val < 128 * j + 128
  · obtain ⟨h0, h0', h1, h1'⟩ := hm
    have hr : (y 0).val - 128 * k < 128 := by omega
    have hq : (y 1).val - 128 * j < 128 := by omega
    rw [View.read_writes_cons_unit_of_mem (Val := Elt F) wM.view f inb w L y (ix2 ⟨_, hr⟩ ⟨_, hq⟩) hoff (by
      intro a; fin_cases a
      · show (y 0).val = 128 * k + ((y 0).val - 128 * k); omega
      · show (y 1).val = 128 * j + ((y 1).val - 128 * j); omega)]
    subst hw hS hR hoff
    rw [pay5_apply]
    unfold wlow
    refine congrArg₂ wel ?_ ?_
    rotate_left
    · refine (shapeCast_dropUnit_apply ![128, 128] _ _ _).trans ?_
      have e := read_ring c s g (ReadAs.same.apply ((grp b).view.read (Elt F) XA)) ⟨_, hr⟩ ⟨(y 1).val, (y 1).isLt⟩
      have e' := read_grp c XA b ⟨_, hr⟩ ⟨(y 1).val, (y 1).isLt⟩
      refine Eq.trans (congrArg (ringM.view.read (Elt F) _) (a₂ := ix3 s ⟨_, hr⟩ ⟨(y 1).val, (y 1).isLt⟩) ?_) ?_
      rotate_left
      · refine Eq.trans e (Eq.trans e' ?_)
        have h1 : Fin.ofNat 3968 (128 * b.val + ((y 0).val - 128 * k)) = Fin.ofNat 3968 (y 0).val := congrArg (Fin.ofNat 3968) (by omega)
        have h2 : (⟨(y 1).val, (y 1).isLt⟩ : Fin 5632) = Fin.ofNat 5632 (y 1).val := Fin.ext (Nat.mod_eq_of_lt (y 1).isLt).symm
        have h3 : ∀ a a' b b', a = a' → b = b' → codesM.view.read (Elt F) XA (ix2 a b) = codesM.view.read (Elt F) XA (ix2 a' b') := by
          rintro _ _ _ _ rfl rfl; rfl
        exact h3 _ _ _ _ h1 h2
      · funext a; apply Fin.ext; fin_cases a
        · show k % 2 + 1 * 0 = s.val; omega
        · show 0 + 1 * ((y 0).val - 128 * k) = (y 0).val - 128 * k; omega
        · show 128 * j + 1 * ((y 1).val - 128 * j) = (y 1).val; omega
    · refine congrArg (arg1.view.read (Elt F) X1) ?_
      funext a; apply Fin.ext; fin_cases a
      · show k + 1 * 0 = (y 0).val / 128 % 31; omega
      · show j + 1 * 0 = (y 1).val / 128 % 44; omega
  · have e : wM.view.read (Elt F) (wM.view.writes (Elt F) f (⟨Rect.unit off S128x128.size inb, w⟩ :: L)) y = wM.view.read (Elt F) (wM.view.writes (Elt F) f L) y := by
      by_cases hm0 : 128 * k ≤ (y 0).val ∧ (y 0).val < 128 * k + 128
      · exact View.read_writes_cons_unit_of_not_mem (Val := Elt F) wM.view f inb w L y hoff 1 (by
          show (y 1).val < 128 * j ∨ 128 * j + 128 ≤ (y 1).val; omega)
      · exact View.read_writes_cons_unit_of_not_mem (Val := Elt F) wM.view f inb w L y hoff 0 (by
          show (y 0).val < 128 * k ∨ 128 * k + 128 ≤ (y 0).val; omega)
    rw [e]; exact h y (by omega)

theorem upto_next {S : S31x44.Idx → Elt F .f32} {C : S3968x5632.Idx → Elt F .fp8e4m3} {k : ℕ} {f : Buf (Elt F) (wM.view.loc (c : Thread nD τ))}
    (h : Upto c S C k 44 f) : Upto c S C (k + 1) 0 f := fun y hy => h y (by
  have : (y 1).val < 5632 := (y 1).isLt
  omega)

end Values

/-! ## One trip -/

section Trip
variable (c : Dev nD) (XA : Buf (Elt F) (codesM.view.loc (c : Thread nD τ)))
  (i : grid0.Coords)
  (arg1 : Memref sig .tc .smem S31x44 .f32) (harg1 : arg1.IsWhole) (X1 : Buf (Elt F) (arg1.view.loc (c : Thread nD τ)))
  (arg2 : Memref sig .tc .vmem S31x128 .i32) (harg2 : arg2.IsWhole)
  (arg3 : Memref sig .tc .vmem S1x128 .i32) (harg3 : arg3.IsWhole)
  (arg4 : Memref sig .tc .vmem S256x4096 .bf16) (harg4 : arg4.IsWhole)
  (arg7 : Memref sig .tc .vmem S256x5632 .bf16) (harg7 : arg7.IsWhole)
  (arg8 : Memref sig .tc .vmem S256x3968 .fp8e4m3) (harg8 : arg8.IsWhole)
  (arg9 : Memref sig .tc .vmem S256x31 .f32) (harg9 : arg9.IsWhole)
  (k0_h1 : k0_cond1 i = 1#1)

abbrev sclP : sProp 𝕄 := arg1.view.loc (c : Thread nD τ) ↦[arg1.view.set]{fullShare} X1

/-- Slot `k % 2` before trip `k`: group `k` in flight, or idle after the last. -/
def curAt (k : ℕ) : sProp 𝕄 :=
  if k < 31 then iprop(∃ f, flightP c XA (Ring.sl 2 k) (Ring.bk 31 k) f)
  else iprop((∃ f, slotP c (Ring.sl 2 k) f) ∗ cellP c (Ring.sl 2 k))

def invAt (k : ℕ) : sProp 𝕄 :=
  iprop((∃ f, ⌜Upto c (arg1.view.read (Elt F) X1) (codesM.view.read (Elt F) XA) k 0 f⌝ ∗ lowP c f) ∗ sclP c arg1 X1 ∗ (∃ W, owes (c : Thread nD τ) 0 W)
    ∗ bigSep (Ring.homeSet 1 k) (homeP c XA) ∗ curAt c XA k
    ∗ (∃ f, slotP c (Ring.sl 2 (k + 1)) f) ∗ cellP c (Ring.sl 2 (k + 1)))

abbrev tripG (k : Fin k0_t1_loop.trips) : Prog (TpuEff nD τ sig (Elt F) Λ₀ .tc) Unit :=
  k0_t1_body (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4 k0_h1 k ()

theorem cond2_of (k : Fin k0_t1_loop.trips) : k0_cond2 k = 1#1 ↔ k.val + 1 < 31 := by
  revert k; decide +kernel

theorem trip_mid (k : Fin k0_t1_loop.trips) (hk : k.val + 1 < 31) :
    invAt c XA arg1 X1 k.val ⊢ wp frame (wpE (defs₀ (F := F)) 𝒱₀ (c : Thread nD τ) none) Set.univ
      (tripG i arg1 harg1 arg2 harg2 arg3 harg3 arg4 harg4 arg7 harg7 arg8 harg8 arg9 harg9 k0_h1 k)
      (fun _ => invAt c XA arg1 X1 (k.val + 1)) := by
  have k0_h2 : k0_cond2 k = 1#1 := (cond2_of k).2 hk
  have hk31 : k.val < 31 := by omega
  unfold invAt curAt
  rw [if_pos hk31, if_pos hk, homes_here c XA k.val hk, homes_next c XA k.val hk, sl2_add2]
  iintro ⟨⟨%f, %hf, HO⟩, HS, ⟨%W, HW⟩, ⟨Hg, Hrest⟩, ⟨%f0, HF0⟩, ⟨%f1, Hs1⟩, Hc1⟩
  dsimp only [tripG]
  sl_unfold [k0_t1_body]
  sl_exec
  sl_step
  isplitl [HO]
  · iexists _
    isplitr
    rotate_left
    · iexact HO
    ipureintro
    sl_unfold_run_names
    apply upto_next
    iterate 44
      refine upto_step c XA arg1 X1 (s := Ring.sl 2 k.val) (b := Ring.bk 31 k.val) (offS := ?_) (inbS := ?_) (hF := ?_) (offR := ?_) (inbR := ?_) (g := ?_) hk31 (by decide) ?_ ?_ ?_ ?_ rfl (Ring.bk_val hk31) ?_
      rotate_left 6
      · rfl
      · exact ClosedOff.eq
      · exact ClosedOff.eq
      · exact ClosedOff.eq
    exact hf
  isplitl [HS]; · iexact HS
  isplitl [HW]; · iexists _; iexact HW
  isplitl [HF0_src Hrest]
  · isplitl [HF0_src]; · iexact HF0_src
    iexact Hrest
  isplitl [Hc1]; · iexists f1; iexact Hc1
  isplitl [HF0_dst]; · iexists _; iexact HF0_dst
  iexact HF0

theorem trip_last (k : Fin k0_t1_loop.trips) (hk : ¬ k.val + 1 < 31) (hk31 : k.val < 31) :
    invAt c XA arg1 X1 k.val ⊢ wp frame (wpE (defs₀ (F := F)) 𝒱₀ (c : Thread nD τ) none) Set.univ
      (tripG i arg1 harg1 arg2 harg2 arg3 harg3 arg4 harg4 arg7 harg7 arg8 harg8 arg9 harg9 k0_h1 k)
      (fun _ => invAt c XA arg1 X1 (k.val + 1)) := by
  have k0_h2 : ¬ k0_cond2 k = 1#1 := fun h => hk ((cond2_of k).1 h)
  unfold invAt curAt
  rw [if_pos hk31, if_neg hk, homes_last c XA k.val hk hk31, sl2_add2]
  iintro ⟨⟨%f, %hf, HO⟩, HS, ⟨%W, HW⟩, Hrest, ⟨%f0, HF0⟩, ⟨%f1, Hs1⟩, Hc1⟩
  dsimp only [tripG]
  sl_unfold [k0_t1_body]
  sl_exec
  sl_step
  isplitl [HO]
  · iexists _
    isplitr
    rotate_left
    · iexact HO
    ipureintro
    sl_unfold_run_names
    apply upto_next
    iterate 44
      refine upto_step c XA arg1 X1 (s := Ring.sl 2 k.val) (b := Ring.bk 31 k.val) (offS := ?_) (inbS := ?_) (hF := ?_) (offR := ?_) (inbR := ?_) (g := ?_) hk31 (by decide) ?_ ?_ ?_ ?_ rfl (Ring.bk_val hk31) ?_
      rotate_left 6
      · rfl
      · exact ClosedOff.eq
      · exact ClosedOff.eq
      · exact ClosedOff.eq
    exact hf
  isplitl [HS]; · iexact HS
  isplitl [HW]; · iexists _; iexact HW
  isplitl [HF0_src Hrest]
  · isplitl [HF0_src]; · iexact HF0_src
    iexact Hrest
  isplitl [Hs1 Hc1]
  · isplitl [Hs1]; · iexists f1; iexact Hs1
    iexact Hc1
  isplitl [HF0_dst]; · iexists _; iexact HF0_dst
  iexact HF0

theorem trip (k : Fin k0_t1_loop.trips) :
    invAt c XA arg1 X1 k.val ⊢ wp frame (wpE (defs₀ (F := F)) 𝒱₀ (c : Thread nD τ) none) Set.univ
      (tripG i arg1 harg1 arg2 harg2 arg3 harg3 arg4 harg4 arg7 harg7 arg8 harg8 arg9 harg9 k0_h1 k)
      (fun _ => invAt c XA arg1 X1 (k.val + 1)) := by
  have hk31 : k.val < 31 := Nat.lt_of_lt_of_le k.isLt k0_t1_abs.2.1
  by_cases hk : k.val + 1 < 31
  · exact trip_mid c XA i arg1 harg1 X1 arg2 harg2 arg3 harg3 arg4 harg4 arg7 harg7 arg8 harg8 arg9 harg9 k0_h1 k hk
  · exact trip_last c XA i arg1 harg1 X1 arg2 harg2 arg3 harg3 arg4 harg4 arg7 harg7 arg8 harg8 arg9 harg9 k0_h1 k hk hk31

set_option warn.classDefReducibility false in
/-- The loading loop by its invariant. -/
@[sl_loop] def loopInv1 :
    LoopInvTy_k0_t1 (F := F) Unit ℕ (UU nD τ) ℕ 𝒱₀ c none Set.univ i arg1 harg1 arg2 harg2 arg3 harg3 arg4 harg4 codesM (Memref.isWhole_whole _) woutM (Memref.isWhole_whole _)
      arg7 harg7 arg8 harg8 arg9 harg9 wM (Memref.isWhole_whole _) xM (Memref.isWhole_whole _) ringM (Memref.isWhole_whole _) cc0_scratch3 cc0_scratch4 k0_h1 where
  inv k _ := invAt c XA arg1 X1 k
  step k acc := by
    exact (trip c XA i arg1 harg1 X1 arg2 harg2 arg3 harg3 arg4 harg4 arg7 harg7 arg8 harg8 arg9 harg9 k0_h1 k : _)

end Trip
end Cert.KernelIdeal.Own
end
-- ==== Proof.Slab.lean ====
/-
  The quantising loop: one trip takes 32 rows of the block of activations. What a trip leaves is stated by the
  functions below (a tile's words gathered, its largest magnitude, its power-of-two scale, its codes).
-/
module

public import proofs.«01_k».proof.Proof.Load

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UU nD τ) ℕ

/-! ## Filling a matrix tile by tile -/

section Tiles
variable {R C : ℕ} {e : EltTy} {sp : Space}

/-- The memref holds `T` in the rows below `h k`, and in the rows of band `k` in the columns below `w j`. -/
def UptoT (M : Memref sig .tc sp ⟨2, ![R, C]⟩ e) (f : BufTy.Contents (Elt F) M.view.ty) (T : (⟨2, ![R, C]⟩ : Shape).Idx → Elt F e) (h w k j : ℕ) : Prop :=
  ∀ y : (⟨2, ![R, C]⟩ : Shape).Idx, ((y 0).val < h * k ∨ ((y 0).val < h * k + h ∧ (y 1).val < w * j)) → M.view.read (Elt F) f y = T y

variable {M : Memref sig .tc sp ⟨2, ![R, C]⟩ e} {f : BufTy.Contents (Elt F) M.view.ty} {T : (⟨2, ![R, C]⟩ : Shape).Idx → Elt F e} {h w k j : ℕ}

theorem upto_tile {off : Fin 2 → ℕ} {inb} {p : (Rect.unit (s := ⟨2, ![R, C]⟩) off ![h, w] inb).shape.Idx → Elt F e}
    {L : List (View.Piece (Elt F) ⟨2, ![R, C]⟩ e)}
    (hp : ∀ (r : Fin h) (q : Fin w) (y : (⟨2, ![R, C]⟩ : Shape).Idx), (y 0).val = h * k + r.val → (y 1).val = w * j + q.val → p (ix2 r q) = T y)
    (hoff : off = ![h * k, w * j])
    (H : UptoT M (M.view.writes (Elt F) f L) T h w k j) :
    UptoT M (M.view.writes (Elt F) f (⟨Rect.unit off ![h, w] inb, p⟩ :: L)) T h w k (j + 1) := by
  intro y hy
  rw [Nat.mul_succ] at hy
  by_cases hm : h * k ≤ (y 0).val ∧ (y 0).val < h * k + h ∧ w * j ≤ (y 1).val ∧ (y 1).val < w * j + w
  · obtain ⟨h0, h0', h1, h1'⟩ := hm
    have hr : (y 0).val - h * k < h := by omega
    have hq : (y 1).val - w * j < w := by omega
    refine (View.read_writes_cons_unit_of_mem (Val := Elt F) M.view f inb p L y (ix2 ⟨_, hr⟩ ⟨_, hq⟩) hoff (by
      intro a; fin_cases a
      · show (y 0).val = h * k + ((y 0).val - h * k); omega
      · show (y 1).val = w * j + ((y 1).val - w * j); omega)).trans ?_
    exact hp _ _ y (by show _ = h * k + ((y 0).val - h * k); omega) (by show _ = w * j + ((y 1).val - w * j); omega)
  · have e : M.view.read (Elt F) (M.view.writes (Elt F) f (⟨Rect.unit off ![h, w] inb, p⟩ :: L)) y = M.view.read (Elt F) (M.view.writes (Elt F) f L) y := by
      by_cases hm0 : h * k ≤ (y 0).val ∧ (y 0).val < h * k + h
      · exact View.read_writes_cons_unit_of_not_mem (Val := Elt F) M.view f inb p L y hoff 1 (by
          show (y 1).val < w * j ∨ w * j + w ≤ (y 1).val; omega)
      · exact View.read_writes_cons_unit_of_not_mem (Val := Elt F) M.view f inb p L y hoff 0 (by
          show (y 0).val < h * k ∨ h * k + h ≤ (y 0).val; omega)
    rw [e]; exact H y (by omega)

theorem upto_band {n : ℕ} (hn : C ≤ w * n) (H : UptoT M f T h w k n) : UptoT M f T h w (k + 1) 0 := fun y hy => H y (by
  have : (y 1).val < C := (y 1).isLt
  rw [Nat.mul_succ, Nat.mul_zero] at hy
  omega)

end Tiles

/-! ## One block of 128 inlier columns -/

section Block

/-- A tile of activations as f32. -/
def wide (v : Vec F S32x128 .bf16) : FVec F S32x128 .f32 := extf .f32 (shapeCast S32x128 v shapeCasts_S32x128_S32x128) bitsLt_bf16_f32
/-- A row of indices over the 32 rows of a slab. -/
def rowsOf (r : Vec F S1x128 .i32) : IVec S32x128 32 :=
  broadcastTo S32x128 (shapeCast S1x128 (shapeCast S1x128 r shapeCasts_S1x128_S1x128) shapeCasts_S1x128_S1x128) broadcasts_S1x128_S32x128
/-- The lane an index names, and the tile it names. -/
def laneOf (q : IVec S32x128 32) : IVec S32x128 32 := andi q (broadcast S32x128 127#32)
def tileNo (q : IVec S32x128 32) : IVec S32x128 32 := shrsi q (broadcast S32x128 7#32)
/-- A tile's lanes gathered at `p`. -/
def gat (x : FVec F S32x128 .f32) (p : IVec S32x128 32) : FVec F S32x128 .f32 :=
  dynamicGather 1 x (shapeCast S32x128 (shapeCast S32x128x1 (select (cmpi .slt p (broadcast S32x128 0#32)) (addi p (broadcast S32x128 128#32)) p) shapeCasts_S32x128_S32x128x1) shapeCasts_S32x128x1_S32x128)
/-- The inliers of block `b`: gathered from tile `b` or tile `b + 1`. -/
def words (b : BitVec 32) (r : Vec F S1x128 .i32) (x0 x1 : Vec F S32x128 .bf16) : FVec F S32x128 .bf16 :=
  truncf .bf16 (select (cmpi .eq (tileNo (rowsOf (F := F) r)) (broadcast S32x128 b)) (gat (wide x0) (laneOf (rowsOf (F := F) r))) (gat (wide x1) (laneOf (rowsOf (F := F) r)))) bitsLt_bf16_f32
/-- The largest magnitude of each row, over all its lanes. -/
def amaxOf (v : FVec F S32x128 .bf16) : FVec F S32x128 .bf16 :=
  broadcastTo S32x128 (shapeCast S32x1 (shapeCast S32x1 (multiReduction .maximumf [1] S32 (absf v) 0xFF80#16 reduces_S32x128_S32 (.inr rfl) rfl) shapeCasts_S32_S32x1) shapeCasts_S32x1_S32x1) broadcasts_S32x1_S32x128
def kF (b : BitVec 32) : FVec F S32x128 .f32 := broadcast S32x128 (Scalar.ofBits (F := F) .f32 b)
def oneB : FVec F S32x128 .bf16 := broadcast S32x128 (Scalar.ofBits (F := F) .bf16 0x3F80#16)
/-- The power of two of a largest magnitude, before and after the two corrections. -/
def pow0 (a : FVec F S32x128 .f32) : FVec F S32x128 .f32 :=
  exp2 (addf (floor (divf (log (divf a (kF 0x43E00000#32))) (log (kF 0x40000000#32)))) (kF 0x3F800000#32))
def pow1 (a : FVec F S32x128 .f32) : FVec F S32x128 .f32 :=
  select (cmpf .oge a (mulf (pow0 a) (kF 0x43E00000#32))) (mulf (pow0 a) (kF 0x40000000#32)) (pow0 a)
def pow2 (a : FVec F S32x128 .f32) : FVec F S32x128 .f32 :=
  select (cmpf .olt a (mulf (pow1 a) (kF 0x43600000#32))) (mulf (pow1 a) (kF 0x3F000000#32)) (pow1 a)
/-- Whether the quotient is a normal number. -/
def normalOf (m : FVec F S32x128 .bf16) : IVec S32x128 1 := cmpf .oge m (broadcast S32x128 (Scalar.ofBits (F := F) .bf16 0x04E0#16))
def scaleOf (m : FVec F S32x128 .bf16) : FVec F S32x128 .bf16 :=
  select (normalOf m) (truncf .bf16 (pow2 (extf .f32 m bitsLt_bf16_f32)) bitsLt_bf16_f32) oneB
def invOf (m : FVec F S32x128 .bf16) : FVec F S32x128 .bf16 :=
  select (normalOf m) (truncf .bf16 (divf (kF 0x3F800000#32) (pow2 (extf .f32 m bitsLt_bf16_f32))) bitsLt_bf16_f32) oneB
/-- The codes, the dequantised values. -/
def codesOf (v : FVec F S32x128 .bf16) : FVec F S32x128 .fp8e4m3 :=
  truncf .fp8e4m3 (minimumf (broadcast S32x128 (Scalar.truncf .bf16 bitsLt_bf16_f32 (Scalar.ofBits (F := F) .f32 0x43E00000#32)))
    (maximumf (broadcast S32x128 (Scalar.truncf .bf16 bitsLt_bf16_f32 (Scalar.ofBits (F := F) .f32 0xC3E00000#32))) (mulf v (invOf (amaxOf v))))) bitsLt_fp8e4m3_bf16
def deqOf (v : FVec F S32x128 .bf16) : FVec F S32x128 .bf16 :=
  shapeCast S32x128 (mulf (extf .bf16 (codesOf v) bitsLt_fp8e4m3_bf16) (scaleOf (amaxOf v))) shapeCasts_S32x128_S32x128

variable (Q : S31x128.Idx → BitVec 32) (O : S1x128.Idx → BitVec 32) (X : S256x4096.Idx → Elt F .bf16)

/-- Row `b` of the inlier indices; tile `b` of the rows of slab `k`. -/
def qRow (b : ℕ) : Vec F S1x128 .i32 := fun i => Q (ix2 (Fin.ofNat 31 b) (Fin.ofNat 128 (i 1).val))
def xTile (k b : ℕ) : Vec F S32x128 .bf16 := fun i => X (ix2 (Fin.ofNat 256 (32 * k + (i 0).val)) (Fin.ofNat 4096 (128 * b + (i 1).val)))
/-- The inliers of block `b` in slab `k`. -/
def blk (k b : ℕ) : FVec F S32x128 .bf16 := words (BitVec.ofNat 32 b) (qRow (F := F) Q b) (xTile X k b) (xTile X k (b + 1))
/-- The scales of the blocks before `n`, a lane per block; the outliers found in the tiles before `n`. -/
def sclTo (k : ℕ) : ℕ → FVec F S32x128 .f32
  | 0 => kF 0#32
  | n + 1 => select (cmpi .eq (iota .tc S32x128 32 [1] iota_S32x128_d1_w32) (broadcast S32x128 (BitVec.ofNat 32 n))) (extf .f32 (scaleOf (amaxOf (blk Q X k n))) bitsLt_bf16_f32) (sclTo k n)
def outTo (k : ℕ) : ℕ → FVec F S32x128 .f32
  | 0 => kF 0#32
  | n + 1 => select (cmpi .eq (tileNo (rowsOf (F := F) O)) (broadcast S32x128 (BitVec.ofNat 32 n))) (gat (wide (xTile X k n)) (laneOf (rowsOf (F := F) O))) (outTo k n)
def sclK (k : ℕ) : FVec F S32x31 .f32 := extractStridedSlice S32x31 ![0, 0] (sclTo Q X k 31) slices_S32x128_o0_0_S32x31
def outK (k : ℕ) : FVec F S32x128 .bf16 := shapeCast S32x128 (truncf .bf16 (outTo O X k 32) bitsLt_bf16_f32) shapeCasts_S32x128_S32x128

/-- What the loop leaves in the three buffers. -/
def codesT (y : S256x3968.Idx) : Elt F .fp8e4m3 := codesOf (blk Q X ((y 0).val / 32) ((y 1).val / 128)) (ix2 (Fin.ofNat 32 (y 0).val) (Fin.ofNat 128 (y 1).val))
def xdT (y : S256x4096.Idx) : Elt F .bf16 :=
  if (y 1).val < 3968 then deqOf (blk Q X ((y 0).val / 32) ((y 1).val / 128)) (ix2 (Fin.ofNat 32 (y 0).val) (Fin.ofNat 128 (y 1).val))
  else outK O X ((y 0).val / 32) (ix2 (Fin.ofNat 32 (y 0).val) (Fin.ofNat 128 (y 1).val))
def sclT (y : S256x31.Idx) : Elt F .f32 := sclK Q X ((y 0).val / 32) (ix2 (Fin.ofNat 32 (y 0).val) (Fin.ofNat 31 (y 1).val))

end Block

/-! ## One trip -/

section Trip
variable (c : Dev nD)
  (i : grid0.Coords)
  (arg1 : Memref sig .tc .smem S31x44 .f32) (harg1 : arg1.IsWhole)
  (arg2 : Memref sig .tc .vmem S31x128 .i32) (harg2 : arg2.IsWhole) (X2 : Buf (Elt F) (arg2.view.loc (c : Thread nD τ)))
  (arg3 : Memref sig .tc .vmem S1x128 .i32) (harg3 : arg3.IsWhole) (X3 : Buf (Elt F) (arg3.view.loc (c : Thread nD τ)))
  (arg4 : Memref sig .tc .vmem S256x4096 .bf16) (harg4 : arg4.IsWhole) (X4 : Buf (Elt F) (arg4.view.loc (c : Thread nD τ)))
  (arg7 : Memref sig .tc .vmem S256x5632 .bf16) (harg7 : arg7.IsWhole)
  (arg8 : Memref sig .tc .vmem S256x3968 .fp8e4m3) (harg8 : arg8.IsWhole)
  (arg9 : Memref sig .tc .vmem S256x31 .f32) (harg9 : arg9.IsWhole)

abbrev Q2 : S31x128.Idx → BitVec 32 := arg2.view.read (Elt F) X2
abbrev O3 : S1x128.Idx → BitVec 32 := arg3.view.read (Elt F) X3
abbrev XX4 : S256x4096.Idx → Elt F .bf16 := arg4.view.read (Elt F) X4

abbrev xP (f : Buf (Elt F) (xM.view.loc (c : Thread nD τ))) : sProp 𝕄 := xM.view.loc (c : Thread nD τ) ↦[xM.view.set]{fullShare} f

def inv2 (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, ⌜UptoT arg8 f (codesT (Q2 c arg2 X2) (XX4 c arg4 X4)) 32 128 k 0⌝ ∗ (arg8.view.loc (c : Thread nD τ) ↦[arg8.view.set]{fullShare} f))
    ∗ (∃ f, ⌜UptoT arg9 f (sclT (Q2 c arg2 X2) (XX4 c arg4 X4)) 32 31 k 0⌝ ∗ (arg9.view.loc (c : Thread nD τ) ↦[arg9.view.set]{fullShare} f))
    ∗ (∃ f, ⌜UptoT xM f (xdT (Q2 c arg2 X2) (O3 c arg3 X3) (XX4 c arg4 X4)) 32 128 k 0⌝ ∗ xP c f))

abbrev tripG2 (k : Fin k0_t2_loop.trips) : Prog (TpuEff nD τ sig (Elt F) Λ₀ .tc) Unit :=
  k0_t2_body (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4 k ()

theorem tile4 (k b : ℕ) (hk : k < 8) (hb : b < 32) {off : Fin 2 → ℕ} {inb} (hoff : off = ![32 * k, 128 * b]) :
    arg4.view.readAt (Elt F) (Rect.unit (s := S256x4096) off S32x128.size inb).toLoadRect X4 = xTile (XX4 c arg4 X4) k b := by
  subst hoff
  funext y
  have h0 : (y 0).val < 32 := (y 0).isLt
  have h1 : (y 1).val < 128 := (y 1).isLt
  have e : (Rect.unit (s := S256x4096) ![32 * k, 128 * b] S32x128.size inb).toLoadRect.idx y = ix2 (Fin.ofNat 256 (32 * k + (y 0).val)) (Fin.ofNat 4096 (128 * b + (y 1).val)) := by
    funext a; apply Fin.ext; fin_cases a
    · show 32 * k + 1 * (y 0).val = (32 * k + (y 0).val) % 256; omega
    · show 128 * b + 1 * (y 1).val = (128 * b + (y 1).val) % 4096; omega
  exact congrArg (arg4.view.read (Elt F) X4) e

theorem row2 (b : ℕ) (hb : b < 31) {inb} :
    arg2.view.readAt (Elt F) (Rect.unit (s := S31x128) ![b, 0] S1x128.size inb).toLoadRect X2 = qRow (F := F) (Q2 c arg2 X2) b := by
  funext y
  have h0 : (y 0).val < 1 := (y 0).isLt
  have e : (Rect.unit (s := S31x128) ![b, 0] S1x128.size inb).toLoadRect.idx y = ix2 (Fin.ofNat 31 b) (Fin.ofNat 128 (y 1).val) := by
    have h1 : (y 1).val < 128 := (y 1).isLt
    funext a; apply Fin.ext; fin_cases a
    · show b + 1 * (y 0).val = b % 31; omega
    · show 0 + 1 * (y 1).val = (y 1).val % 128; omega
  exact congrArg (arg2.view.read (Elt F) X2) e

theorem codes_step {k b : ℕ} (hk : k < 8) (hb : b < 31) {f : Buf (Elt F) (arg8.view.loc (c : Thread nD τ))} {off inb p L}
    {offA inbA offB inbB inbQ}
    (hw : p = codesOf (words (BitVec.ofNat 32 b) (arg2.view.readAt (Elt F) (Rect.unit (s := S31x128) ![b, 0] S1x128.size inbQ).toLoadRect X2)
      (arg4.view.readAt (Elt F) (Rect.unit (s := S256x4096) offA S32x128.size inbA).toLoadRect X4)
      (arg4.view.readAt (Elt F) (Rect.unit (s := S256x4096) offB S32x128.size inbB).toLoadRect X4)))
    (hoff : off = ![32 * k, 128 * b]) (hA : offA = ![32 * k, 128 * b]) (hB : offB = ![32 * k, 128 * (b + 1)])
    (H : UptoT arg8 (arg8.view.writes (Elt F) f L) (codesT (Q2 c arg2 X2) (XX4 c arg4 X4)) 32 128 k b) :
    UptoT arg8 (arg8.view.writes (Elt F) f (⟨Rect.unit (s := S256x3968) off S32x128.size inb, p⟩ :: L)) (codesT (Q2 c arg2 X2) (XX4 c arg4 X4)) 32 128 k (b + 1) := by
  refine upto_tile ?_ hoff H
  intro r q y h0 h1
  rw [hw, row2 c arg2 X2 b hb, tile4 c arg4 X4 k b hk (by omega) hA, tile4 c arg4 X4 k (b + 1) hk (by omega) hB]
  have e0 : (y 0).val / 32 = k := by omega
  have e1 : (y 1).val / 128 = b := by omega
  have e2 : ix2 r q = ix2 (Fin.ofNat 32 (y 0).val) (Fin.ofNat 128 (y 1).val) := by
    funext a; apply Fin.ext; fin_cases a
    · show r.val = (y 0).val % 32; omega
    · show q.val = (y 1).val % 128; omega
  unfold codesT
  rw [e0, e1, ← e2]
  rfl

theorem deq_step {k b : ℕ} (hk : k < 8) (hb : b < 31) {f : Buf (Elt F) (xM.view.loc (c : Thread nD τ))} {off inb p L}
    {offA inbA offB inbB inbQ}
    (hw : p = deqOf (words (BitVec.ofNat 32 b) (arg2.view.readAt (Elt F) (Rect.unit (s := S31x128) ![b, 0] S1x128.size inbQ).toLoadRect X2)
      (arg4.view.readAt (Elt F) (Rect.unit (s := S256x4096) offA S32x128.size inbA).toLoadRect X4)
      (arg4.view.readAt (Elt F) (Rect.unit (s := S256x4096) offB S32x128.size inbB).toLoadRect X4)))
    (hoff : off = ![32 * k, 128 * b]) (hA : offA = ![32 * k, 128 * b]) (hB : offB = ![32 * k, 128 * (b + 1)])
    (H : UptoT xM (xM.view.writes (Elt F) f L) (xdT (Q2 c arg2 X2) (O3 c arg3 X3) (XX4 c arg4 X4)) 32 128 k b) :
    UptoT xM (xM.view.writes (Elt F) f (⟨Rect.unit (s := S256x4096) off S32x128.size inb, p⟩ :: L)) (xdT (Q2 c arg2 X2) (O3 c arg3 X3) (XX4 c arg4 X4)) 32 128 k (b + 1) := by
  refine upto_tile ?_ hoff H
  intro r q y h0 h1
  rw [hw, row2 c arg2 X2 b hb, tile4 c arg4 X4 k b hk (by omega) hA, tile4 c arg4 X4 k (b + 1) hk (by omega) hB]
  have e0 : (y 0).val / 32 = k := by omega
  have e1 : (y 1).val / 128 = b := by omega
  have e2 : ix2 r q = ix2 (Fin.ofNat 32 (y 0).val) (Fin.ofNat 128 (y 1).val) := by
    funext a; apply Fin.ext; fin_cases a
    · show r.val = (y 0).val % 32; omega
    · show q.val = (y 1).val % 128; omega
  unfold xdT
  rw [if_pos (show (y 1).val < 3968 by omega), e0, e1, ← e2]
  rfl

theorem scl_step {k b : ℕ} (hk : k < 8) (hb : b < 31) {p acc : FVec F S32x128 .f32} {offA inbA offB inbB inbQ}
    (hw : p = select (cmpi .eq (iota .tc S32x128 32 [1] iota_S32x128_d1_w32) (broadcast S32x128 (BitVec.ofNat 32 b)))
      (extf .f32 (scaleOf (amaxOf (words (BitVec.ofNat 32 b) (arg2.view.readAt (Elt F) (Rect.unit (s := S31x128) ![b, 0] S1x128.size inbQ).toLoadRect X2)
        (arg4.view.readAt (Elt F) (Rect.unit (s := S256x4096) offA S32x128.size inbA).toLoadRect X4)
        (arg4.view.readAt (Elt F) (Rect.unit (s := S256x4096) offB S32x128.size inbB).toLoadRect X4)))) bitsLt_bf16_f32) acc)
    (hA : offA = ![32 * k, 128 * b]) (hB : offB = ![32 * k, 128 * (b + 1)])
    (H : acc = sclTo (Q2 c arg2 X2) (XX4 c arg4 X4) k b) : p = sclTo (Q2 c arg2 X2) (XX4 c arg4 X4) k (b + 1) := by
  rw [hw, row2 c arg2 X2 b hb, tile4 c arg4 X4 k b hk (by omega) hA, tile4 c arg4 X4 k (b + 1) hk (by omega) hB, H]
  rfl

theorem out_step {k b : ℕ} (hk : k < 8) (hb : b < 32) {p acc : FVec F S32x128 .f32} {offA inbA inbO}
    (hw : p = select (cmpi .eq (tileNo (rowsOf (F := F) (arg3.view.readAt (Elt F) (Rect.unit (s := S1x128) ![0, 0] S1x128.size inbO).toLoadRect X3))) (broadcast S32x128 (BitVec.ofNat 32 b)))
      (gat (wide (arg4.view.readAt (Elt F) (Rect.unit (s := S256x4096) offA S32x128.size inbA).toLoadRect X4))
        (laneOf (rowsOf (F := F) (arg3.view.readAt (Elt F) (Rect.unit (s := S1x128) ![0, 0] S1x128.size inbO).toLoadRect X3)))) acc)
    (hA : offA = ![32 * k, 128 * b])
    (H : acc = outTo (O3 c arg3 X3) (XX4 c arg4 X4) k b) : p = outTo (O3 c arg3 X3) (XX4 c arg4 X4) k (b + 1) := by
  have e : arg3.view.readAt (Elt F) (Rect.unit (s := S1x128) ![0, 0] S1x128.size inbO).toLoadRect X3 = O3 c arg3 X3 := by
    funext y
    have e : (Rect.unit (s := S1x128) ![0, 0] S1x128.size inbO).toLoadRect.idx y = y := by
      funext a; apply Fin.ext; fin_cases a
      · show 0 + 1 * (y 0).val = (y 0).val; omega
      · show 0 + 1 * (y 1).val = (y 1).val; omega
    exact congrArg (arg3.view.read (Elt F) X3) e
  rw [hw, e, tile4 c arg4 X4 k b hk (by omega) hA, H]
  rfl

theorem scl_piece {k : ℕ} (hk : k < 8) {p : FVec F S32x31 .f32} {acc : FVec F S32x128 .f32}
    (hw : p = extractStridedSlice S32x31 ![0, 0] acc slices_S32x128_o0_0_S32x31)
    (H : acc = sclTo (Q2 c arg2 X2) (XX4 c arg4 X4) k 31) (r : Fin 32) (q : Fin 31) (y : S256x31.Idx)
    (h0 : (y 0).val = 32 * k + r.val) (h1 : (y 1).val = 31 * 0 + q.val) : p (ix2 r q) = sclT (Q2 c arg2 X2) (XX4 c arg4 X4) y := by
  rw [hw, H]
  have e0 : (y 0).val / 32 = k := by omega
  have e2 : ix2 r q = ix2 (Fin.ofNat 32 (y 0).val) (Fin.ofNat 31 (y 1).val) := by
    funext a; apply Fin.ext; fin_cases a
    · show r.val = (y 0).val % 32; omega
    · show q.val = (y 1).val % 31; omega
  unfold sclT
  rw [e0, ← e2]
  rfl

theorem out_piece {k : ℕ} (hk : k < 8) {p : FVec F S32x128 .bf16} {acc : FVec F S32x128 .f32}
    (hw : p = shapeCast S32x128 (truncf .bf16 acc bitsLt_bf16_f32) shapeCasts_S32x128_S32x128)
    (H : acc = outTo (O3 c arg3 X3) (XX4 c arg4 X4) k 32) (r : Fin 32) (q : Fin 128) (y : S256x4096.Idx)
    (h0 : (y 0).val = 32 * k + r.val) (h1 : (y 1).val = 128 * 31 + q.val) : p (ix2 r q) = xdT (Q2 c arg2 X2) (O3 c arg3 X3) (XX4 c arg4 X4) y := by
  rw [hw, H]
  have e0 : (y 0).val / 32 = k := by omega
  have e2 : ix2 r q = ix2 (Fin.ofNat 32 (y 0).val) (Fin.ofNat 128 (y 1).val) := by
    funext a; apply Fin.ext; fin_cases a
    · show r.val = (y 0).val % 32; omega
    · show q.val = (y 1).val % 128; omega
  unfold xdT
  rw [if_neg (show ¬ (y 1).val < 3968 by omega), e0, ← e2]
  rfl

theorem trip2 (k : Fin k0_t2_loop.trips) :
    inv2 c arg2 X2 arg3 X3 arg4 X4 arg8 arg9 k.val ⊢ wp frame (wpE (defs₀ (F := F)) 𝒱₀ (c : Thread nD τ) none) Set.univ
      (tripG2 i arg1 harg1 arg2 harg2 arg3 harg3 arg4 harg4 arg7 harg7 arg8 harg8 arg9 harg9 k)
      (fun _ => inv2 c arg2 X2 arg3 X3 arg4 X4 arg8 arg9 (k.val + 1)) := by
  have hk : k.val < 8 := Nat.lt_of_lt_of_le k.isLt k0_t2_abs.2.1
  unfold inv2
  iintro ⟨H2, H3, H4, ⟨%f8, %h8, H8⟩, ⟨%f9, %h9, H9⟩, ⟨%fx, %hx, HX⟩⟩
  dsimp only [tripG2]
  sl_unfold [k0_t2_body]
  sl_exec
  sl_step
  isplitl [H2]; · iexact H2
  isplitl [H3]; · iexact H3
  isplitl [H4]; · iexact H4
  isplitl [H8]
  · iexists _
    isplitr
    rotate_left
    · iexact H8
    ipureintro
    sl_unfold_run_names
    apply upto_band (n := 31) (by decide)
    iterate 31
      refine codes_step c arg2 X2 arg4 X4 arg8 (offA := ?_) (inbA := ?_) (offB := ?_) (inbB := ?_) (inbQ := ?_) hk (by decide) ?_ ?_ ?_ ?_ ?_
      rotate_left 5
      · rfl
      · exact ClosedOff.eq
      · exact ClosedOff.eq
      · exact ClosedOff.eq
    exact h8
  isplitl [H9]
  · iexists _
    isplitr
    rotate_left
    · iexact H9
    ipureintro
    sl_unfold_run_names
    apply upto_band (n := 1) (by decide)
    refine upto_tile (w := 31) (j := 0) ?_ ClosedOff.eq ?_
    rotate_left
    · exact h9
    refine scl_piece c arg2 X2 arg4 X4 hk (acc := ?_) ?_ ?_
    rotate_left
    · rfl
    iterate 31
      refine scl_step c arg2 X2 arg4 X4 (acc := ?_) (offA := ?_) (inbA := ?_) (offB := ?_) (inbB := ?_) (inbQ := ?_) hk (by decide) ?_ ?_ ?_ ?_
      rotate_left 6
      · rfl
      · exact ClosedOff.eq
      · exact ClosedOff.eq
    rfl
  iexists _
  isplitr
  rotate_left
  · iexact HX
  ipureintro
  sl_unfold_run_names
  apply upto_band (n := 32) (by decide)
  refine upto_tile (w := 128) (j := 31) ?_ ClosedOff.eq ?_
  · refine out_piece c arg2 X2 arg3 X3 arg4 X4 hk (acc := ?_) ?_ ?_
    rotate_left
    · rfl
    iterate 32
      refine out_step c arg3 X3 arg4 X4 (acc := ?_) (offA := ?_) (inbA := ?_) (inbO := ?_) hk (by decide) ?_ ?_ ?_
      rotate_left 4
      · rfl
      · exact ClosedOff.eq
    rfl
  iterate 31
    refine deq_step c arg2 X2 arg3 X3 arg4 X4 (offA := ?_) (inbA := ?_) (offB := ?_) (inbB := ?_) (inbQ := ?_) hk (by decide) ?_ ?_ ?_ ?_ ?_
    rotate_left 5
    · rfl
    · exact ClosedOff.eq
    · exact ClosedOff.eq
    · exact ClosedOff.eq
  exact hx

set_option warn.classDefReducibility false in
/-- The quantising loop by its invariant. -/
@[sl_loop] def loopInv2 :
    LoopInvTy_k0_t2 (F := F) Unit ℕ (UU nD τ) ℕ 𝒱₀ c none Set.univ i arg1 harg1 arg2 harg2 arg3 harg3 arg4 harg4 codesM (Memref.isWhole_whole _) woutM (Memref.isWhole_whole _)
      arg7 harg7 arg8 harg8 arg9 harg9 wM (Memref.isWhole_whole _) xM (Memref.isWhole_whole _) ringM (Memref.isWhole_whole _) cc0_scratch3 cc0_scratch4 where
  inv k _ := inv2 c arg2 X2 arg3 X3 arg4 X4 arg8 arg9 k
  step k acc := (trip2 c i arg1 harg1 arg2 harg2 X2 arg3 harg3 X3 arg4 harg4 X4 arg7 harg7 arg8 harg8 arg9 harg9 k : _)

/-! ## The matrix product, 512 columns a trip -/

/-- Columns `512 n …` of the weights. -/
def wCols (W : S4096x5632.Idx → Elt F .bf16) (n : ℕ) : Vec F S4096x512 .bf16 := fun i => W (ix2 (Fin.ofNat 4096 (i 0).val) (Fin.ofNat 5632 (512 * n + (i 1).val)))
/-- What the loop leaves. -/
def yT (D : S256x4096.Idx → Elt F .bf16) (W : S4096x5632.Idx → Elt F .bf16) (y : S256x5632.Idx) : Elt F .bf16 :=
  k0_pay4 (F := F) D (wCols W ((y 1).val / 512)) (ix2 (Fin.ofNat 256 (y 0).val) (Fin.ofNat 512 (y 1).val))

abbrev wP (W : Buf (Elt F) (wM.view.loc (c : Thread nD τ))) : sProp 𝕄 := wM.view.loc (c : Thread nD τ) ↦[wM.view.set]{fullShare} W
variable (D : Buf (Elt F) (xM.view.loc (c : Thread nD τ))) (W : Buf (Elt F) (wM.view.loc (c : Thread nD τ)))

def inv3 (k : ℕ) : sProp 𝕄 :=
  iprop(xP c D ∗ wP c W
    ∗ (∃ f, ⌜UptoT arg7 f (yT (xM.view.read (Elt F) D) (wM.view.read (Elt F) W)) 256 512 0 k⌝ ∗ (arg7.view.loc (c : Thread nD τ) ↦[arg7.view.set]{fullShare} f)))

abbrev tripG3 (k : Fin k0_t3_loop.trips) : Prog (TpuEff nD τ sig (Elt F) Λ₀ .tc) Unit :=
  k0_t3_body (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4 k ()

theorem y_step {k : ℕ} (hk : k < 11) {f : Buf (Elt F) (arg7.view.loc (c : Thread nD τ))} {off inb p L} {offW inbW inbD}
    (hw : p = k0_pay4 (F := F) (xM.view.readAt (Elt F) (Rect.unit (s := S256x4096) ![0, 0] S256x4096.size inbD).toLoadRect D)
      (wM.view.readAt (Elt F) (Rect.unit (s := S4096x5632) offW S4096x512.size inbW).toLoadRect W))
    (hoff : off = ![256 * 0, 512 * k]) (hW : offW = ![0, 512 * k])
    (H : UptoT arg7 (arg7.view.writes (Elt F) f L) (yT (xM.view.read (Elt F) D) (wM.view.read (Elt F) W)) 256 512 0 k) :
    UptoT arg7 (arg7.view.writes (Elt F) f (⟨Rect.unit (s := S256x5632) off S256x512.size inb, p⟩ :: L)) (yT (xM.view.read (Elt F) D) (wM.view.read (Elt F) W)) 256 512 0 (k + 1) := by
  refine upto_tile ?_ hoff H
  intro r q y h0 h1
  subst hW
  have eD : xM.view.readAt (Elt F) (Rect.unit (s := S256x4096) ![0, 0] S256x4096.size inbD).toLoadRect D = xM.view.read (Elt F) D := by
    funext z
    have e : (Rect.unit (s := S256x4096) ![0, 0] S256x4096.size inbD).toLoadRect.idx z = z := by
      funext a; apply Fin.ext; fin_cases a
      · show 0 + 1 * (z 0).val = (z 0).val; omega
      · show 0 + 1 * (z 1).val = (z 1).val; omega
    exact congrArg (xM.view.read (Elt F) D) e
  have eW : wM.view.readAt (Elt F) (Rect.unit (s := S4096x5632) ![0, 512 * k] S4096x512.size inbW).toLoadRect W = wCols (wM.view.read (Elt F) W) k := by
    funext z
    have z0 : (z 0).val < 4096 := (z 0).isLt
    have z1 : (z 1).val < 512 := (z 1).isLt
    have e : (Rect.unit (s := S4096x5632) ![0, 512 * k] S4096x512.size inbW).toLoadRect.idx z = ix2 (Fin.ofNat 4096 (z 0).val) (Fin.ofNat 5632 (512 * k + (z 1).val)) := by
      funext a; apply Fin.ext; fin_cases a
      · show 0 + 1 * (z 0).val = (z 0).val % 4096; omega
      · show 512 * k + 1 * (z 1).val = (512 * k + (z 1).val) % 5632; omega
    exact congrArg (wM.view.read (Elt F) W) e
  rw [hw, eD, eW]
  have e1 : (y 1).val / 512 = k := by omega
  have e2 : ix2 r q = ix2 (Fin.ofNat 256 (y 0).val) (Fin.ofNat 512 (y 1).val) := by
    funext a; apply Fin.ext; fin_cases a
    · show r.val = (y 0).val % 256; omega
    · show q.val = (y 1).val % 512; omega
  unfold yT
  rw [e1, ← e2]

theorem trip3 (k : Fin k0_t3_loop.trips) :
    inv3 c arg7 D W k.val ⊢ wp frame (wpE (defs₀ (F := F)) 𝒱₀ (c : Thread nD τ) none) Set.univ
      (tripG3 i arg1 harg1 arg2 harg2 arg3 harg3 arg4 harg4 arg7 harg7 arg8 harg8 arg9 harg9 k)
      (fun _ => inv3 c arg7 D W (k.val + 1)) := by
  have hk : k.val < 11 := Nat.lt_of_lt_of_le k.isLt k0_t3_abs.2.1
  unfold inv3
  iintro ⟨HX, HW, ⟨%f, %h, H7⟩⟩
  dsimp only [tripG3]
  sl_unfold [k0_t3_body]
  sl_exec
  sl_step
  isplitl [HX]; · iexact HX
  isplitl [HW]; · iexact HW
  iexists _
  isplitr
  rotate_left
  · iexact H7
  ipureintro
  sl_unfold_run_names
  refine y_step c arg7 D W (offW := ?_) (inbW := ?_) (inbD := ?_) hk ?_ ?_ ?_ h
  rotate_left 3
  · rfl
  · exact ClosedOff.eq
  · exact ClosedOff.eq

set_option warn.classDefReducibility false in
/-- The product's loop by its invariant. -/
def loopInv3 :
    LoopInvTy_k0_t3 (F := F) Unit ℕ (UU nD τ) ℕ 𝒱₀ c none Set.univ i arg1 harg1 arg2 harg2 arg3 harg3 arg4 harg4 codesM (Memref.isWhole_whole _) woutM (Memref.isWhole_whole _)
      arg7 harg7 arg8 harg8 arg9 harg9 wM (Memref.isWhole_whole _) xM (Memref.isWhole_whole _) ringM (Memref.isWhole_whole _) cc0_scratch3 cc0_scratch4 where
  inv k _ := inv3 c arg7 D W k
  step k acc := (trip3 c i arg1 harg1 arg2 harg2 arg3 harg3 arg4 harg4 arg7 harg7 arg8 harg8 arg9 harg9 D W k : _)

end Trip
end Cert.KernelIdeal.Own
end
-- ==== Proof.Body.lean ====
/-
  The kernel body at a grid point: at the first point the weight scratch is filled, at the later ones it is found
  filled; then the block of rows is quantised and multiplied.
-/
module

public import proofs.«01_k».proof.Proof.Slab

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UU nD τ) ℕ

/-! ## The weight scratch: the rows the loop fills, and the rows one transfer fills -/

/-- The rows of the outlier weights. -/
abbrev wHi : Memref sig .tc .vmem S128x5632 .bf16 :=
  wM.slice (Rect.unit (s := S4096x5632) ![3968, 0] S128x5632.size inb_S4096x5632_S128x5632_3968_0) (fun _ => rfl)

/-- All of the weights: dequantised rows, then the outlier rows. -/
def wfull (S : S31x44.Idx → Elt F .f32) (C : S3968x5632.Idx → Elt F .fp8e4m3) (B : S128x5632.Idx → Elt F .bf16) (y : S4096x5632.Idx) : Elt F .bf16 :=
  if (y 0).val < 3968 then wlow S C y else B (ix2 (Fin.ofNat 128 ((y 0).val - 3968)) (Fin.ofNat 5632 (y 1).val))

section W
variable (c : Dev nD)

abbrev highP (f : Buf (Elt F) (wHi.view.loc (c : Thread nD τ))) : sProp 𝕄 := wHi.view.loc (c : Thread nD τ) ↦[wHi.view.set]{fullShare} f

theorem mem_low (y : S4096x5632.Idx) : y ∈ Rlow.set ↔ (y 0).val < 3968 := by
  have h0 : (y 0).val < 4096 := (y 0).isLt
  have h1 : (y 1).val < 5632 := (y 1).isLt
  rw [Rect.mem_set_unit]
  constructor
  · intro H; have a0 : 0 ≤ (y 0).val ∧ (y 0).val < 0 + 3968 := H 0; omega
  · intro H i; fin_cases i
    · show 0 ≤ (y 0).val ∧ (y 0).val < 0 + 3968; omega
    · show 0 ≤ (y 1).val ∧ (y 1).val < 0 + 5632; omega
abbrev Rhi : Rect S4096x5632 := Rect.unit (s := S4096x5632) ![3968, 0] S128x5632.size inb_S4096x5632_S128x5632_3968_0
theorem mem_hi (y : S4096x5632.Idx) : y ∈ Rhi.set ↔ ¬ (y 0).val < 3968 := by
  have h0 : (y 0).val < 4096 := (y 0).isLt
  have h1 : (y 1).val < 5632 := (y 1).isLt
  rw [Rect.mem_set_unit]
  constructor
  · intro H; have a0 : 3968 ≤ (y 0).val ∧ (y 0).val < 3968 + 128 := H 0; omega
  · intro H i; fin_cases i
    · show 3968 ≤ (y 0).val ∧ (y 0).val < 3968 + 128; omega
    · show 0 ≤ (y 1).val ∧ (y 1).val < 0 + 5632; omega
theorem low_hi_disjoint : Disjoint Rlow.set Rhi.set := by
  rw [Finset.disjoint_left]; intro y h h'; rw [mem_low] at h; rw [mem_hi] at h'; exact h' h
theorem low_hi_cover : Rlow.set ∪ Rhi.set = Finset.univ := by
  ext y; simp only [Finset.mem_union, Finset.mem_univ, iff_true]; rw [mem_low, mem_hi]; exact em _

theorem lowSet : wM.view.setOn Rlow.set = (Rlow.set : Finset S4096x5632.Idx) := by
  show Finset.map (Function.Embedding.refl _) Rlow.set = Rlow.set
  exact Finset.map_refl
theorem lowP_eq (f) : lowP c f = (((c : Thread nD τ).loc cc0_scratch0) ↦[(Rlow.set : Finset S4096x5632.Idx)]{fullShare} f : sProp 𝕄) :=
  congrArg (fun S => (_ ↦[S]{fullShare} f : sProp 𝕄)) lowSet
theorem highP_eq (f) : highP c f = (((c : Thread nD τ).loc cc0_scratch0) ↦[(Rhi.set : Finset S4096x5632.Idx)]{fullShare} f : sProp 𝕄) :=
  congrArg (fun S => (_ ↦[S]{fullShare} f : sProp 𝕄)) (View.set_slice_whole _ _)
theorem wP_eq (f) : wP c f = (((c : Thread nD τ).loc cc0_scratch0) ↦{fullShare} f : sProp 𝕄) :=
  congrArg (fun S => (_ ↦[S]{fullShare} f : sProp 𝕄)) (View.set_whole _)

theorem w_split (f) : wP c f ⊢ (iprop(lowP c f ∗ highP c f) : sProp 𝕄) := by
  rw [wP_eq, lowP_eq, highP_eq, ← low_hi_cover]
  exact (pointsTo_union low_hi_disjoint).1
theorem pw_in (S : Finset S4096x5632.Idx) (f g : Buf (Elt F) ((c : Thread nD τ).loc cc0_scratch0)) (y : S4096x5632.Idx) (h : y ∈ S) :
    wM.view.read (Elt F) (Finset.piecewise S g f) y = wM.view.read (Elt F) g y :=
  Finset.piecewise_eq_of_mem S g f h
theorem pw_out (S : Finset S4096x5632.Idx) (f g : Buf (Elt F) ((c : Thread nD τ).loc cc0_scratch0)) (y : S4096x5632.Idx) (h : y ∉ S) :
    wM.view.read (Elt F) (Finset.piecewise S g f) y = wM.view.read (Elt F) f y :=
  Finset.piecewise_eq_of_notMem S g f h
theorem w_join (f g) : iprop(lowP c f ∗ highP c g) ⊢ (iprop(∃ W, ⌜(∀ y : S4096x5632.Idx, (y 0).val < 3968 → wM.view.read (Elt F) W y = wM.view.read (Elt F) f y)
    ∧ (∀ y : S4096x5632.Idx, ¬ (y 0).val < 3968 → wM.view.read (Elt F) W y = wM.view.read (Elt F) g y)⌝ ∗ wP c W) : sProp 𝕄) := by
  iintro H
  iexists (Finset.piecewise (Rhi.set : Finset S4096x5632.Idx) g f)
  isplitr
  · ipureintro
    constructor
    · intro y hy
      exact pw_out c _ f g y (fun h => (mem_hi y).1 h hy)
    · intro y hy
      exact pw_in c _ f g y ((mem_hi y).2 hy)
  iapply (entails_of_eq (wP_eq c _).symm)
  iapply (show iprop(lowP c f ∗ highP c g) ⊢ (((c : Thread nD τ).loc cc0_scratch0) ↦{fullShare} (Finset.piecewise (Rhi.set : Finset S4096x5632.Idx) g f) : sProp 𝕄) from by
    rw [lowP_eq, highP_eq, ← low_hi_cover]
    exact pointsTo_join low_hi_disjoint)
  iexact H

/-- What the outlier weights' transfer leaves in the last rows. -/
theorem high_read (B : S128x5632.Idx → Elt F .bf16) (f : Buf (Elt F) (wHi.view.loc (c : Thread nD τ))) (y : S4096x5632.Idx) (hy : ¬ (y 0).val < 3968) :
    wM.view.read (Elt F) (wHi.view.writes (Elt F) f [⟨Rect.whole S128x5632, B⟩]) y = B (ix2 (Fin.ofNat 128 ((y 0).val - 3968)) (Fin.ofNat 5632 (y 1).val)) := by
  have h0 : (y 0).val < 4096 := (y 0).isLt
  have h1 : (y 1).val < 5632 := (y 1).isLt
  have e : wM.view.emb y = wHi.view.emb (ix2 (Fin.ofNat 128 ((y 0).val - 3968)) (Fin.ofNat 5632 (y 1).val)) := by
    show y = Rhi.emb (ix2 (Fin.ofNat 128 ((y 0).val - 3968)) (Fin.ofNat 5632 (y 1).val))
    funext a; apply Fin.ext; fin_cases a
    · show (y 0).val = 3968 + 1 * (((y 0).val - 3968) % 128); omega
    · show (y 1).val = 0 + 1 * ((y 1).val % 5632); omega
  have e2 : wM.view.read (Elt F) (wHi.view.writes (Elt F) f [⟨Rect.whole S128x5632, B⟩]) y
      = wHi.view.read (Elt F) (wHi.view.writes (Elt F) f [⟨Rect.whole S128x5632, B⟩]) (ix2 (Fin.ofNat 128 ((y 0).val - 3968)) (Fin.ofNat 5632 (y 1).val)) := by
    rw [View.read_apply, View.read_apply, e]
  rw [e2]
  have := View.read_writes_cons_emb (Val := Elt F) wHi.view f (Rect.whole S128x5632) B [] (ix2 (Fin.ofNat 128 ((y 0).val - 3968)) (Fin.ofNat 5632 (y 1).val))
  rw [Rect.emb_whole_apply] at this
  exact this
end W

/-! ## The body -/

section Body
variable (c : Dev nD) (XA : Buf (Elt F) (codesM.view.loc (c : Thread nD τ))) (XB : Buf (Elt F) (woutM.view.loc (c : Thread nD τ)))
  (i : grid0.Coords)
  (arg1 : Memref sig .tc .smem S31x44 .f32) (harg1 : arg1.IsWhole) (X1 : Buf (Elt F) (arg1.view.loc (c : Thread nD τ)))
  (arg2 : Memref sig .tc .vmem S31x128 .i32) (harg2 : arg2.IsWhole) (X2 : Buf (Elt F) (arg2.view.loc (c : Thread nD τ)))
  (arg3 : Memref sig .tc .vmem S1x128 .i32) (harg3 : arg3.IsWhole) (X3 : Buf (Elt F) (arg3.view.loc (c : Thread nD τ)))
  (arg4 : Memref sig .tc .vmem S256x4096 .bf16) (harg4 : arg4.IsWhole) (X4 : Buf (Elt F) (arg4.view.loc (c : Thread nD τ)))
  (arg7 : Memref sig .tc .vmem S256x5632 .bf16) (harg7 : arg7.IsWhole)
  (arg8 : Memref sig .tc .vmem S256x3968 .fp8e4m3) (harg8 : arg8.IsWhole)
  (arg9 : Memref sig .tc .vmem S256x31 .f32) (harg9 : arg9.IsWhole)

abbrev bodyG : Prog (TpuEff nD τ sig (Elt F) Λ₀ .tc) PUnit :=
  cc0_outlier_split_linear (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4

abbrev insP : sProp 𝕄 :=
  iprop(sclP c arg1 X1 ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4))
abbrev outP : sProp 𝕄 := woutM.view.loc (c : Thread nD τ) ↦[woutM.view.set]{fullShare} XB
abbrev cell4P : sProp 𝕄 := semVal ((c : Thread nD τ), SemLoc.dma cc0_scratch4.sem) 0
/-- What every point finds and leaves, beside the weight scratch. -/
abbrev coreP : sProp 𝕄 :=
  iprop(bigSep Finset.univ (homeP c XA) ∗ outP c XB ∗ (∃ f, xP c f) ∗ (∃ f, slotP c 0 f) ∗ (∃ f, slotP c 1 f) ∗ cellP c 0 ∗ cellP c 1 ∗ cell4P c)

/-- The weights as the body reads them off its buffers. -/
abbrev wOf : S4096x5632.Idx → Elt F .bf16 := wfull (arg1.view.read (Elt F) X1) (codesM.view.read (Elt F) XA) (woutM.view.read (Elt F) XB)
/-- What the body leaves. -/
abbrev POST : sProp 𝕄 :=
  iprop(insP c arg1 X1 arg2 X2 arg3 X3 arg4 X4
    ∗ (∃ f, ⌜arg7.view.read (Elt F) f = yT (xdT (Q2 c arg2 X2) (O3 c arg3 X3) (XX4 c arg4 X4)) (wOf c XA XB arg1 X1)⌝ ∗ (arg7.view.loc (c : Thread nD τ) ↦[arg7.view.set]{fullShare} f))
    ∗ (∃ f, ⌜arg8.view.read (Elt F) f = codesT (Q2 c arg2 X2) (XX4 c arg4 X4)⌝ ∗ (arg8.view.loc (c : Thread nD τ) ↦[arg8.view.set]{fullShare} f))
    ∗ (∃ f, ⌜arg9.view.read (Elt F) f = sclT (Q2 c arg2 X2) (XX4 c arg4 X4)⌝ ∗ (arg9.view.loc (c : Thread nD τ) ↦[arg9.view.set]{fullShare} f))
    ∗ (∃ W, ⌜wM.view.read (Elt F) W = wOf c XA XB arg1 X1⌝ ∗ wP c W)
    ∗ coreP c XA XB ∗ ∃ W, owes (c : Thread nD τ) 0 W)

/-- Every target at its loop's last trip is the whole buffer's. -/
theorem upto_all {R C : ℕ} {sp : Space} {e : EltTy} {M : Memref sig .tc sp ⟨2, ![R, C]⟩ e} {f : BufTy.Contents (Elt F) M.view.ty} {T : (⟨2, ![R, C]⟩ : Shape).Idx → Elt F e} {h w k : ℕ}
    (hk : R ≤ h * k) (H : UptoT M f T h w k 0) : M.view.read (Elt F) f = T := by
  funext y
  exact H y (Or.inl (lt_of_lt_of_le (y 0).isLt hk))
theorem upto_cols {R C : ℕ} {sp : Space} {e : EltTy} {M : Memref sig .tc sp ⟨2, ![R, C]⟩ e} {f : BufTy.Contents (Elt F) M.view.ty} {T : (⟨2, ![R, C]⟩ : Shape).Idx → Elt F e} {h w j : ℕ}
    (hh : R ≤ h) (hj : C ≤ w * j) (H : UptoT M f T h w 0 j) : M.view.read (Elt F) f = T := by
  funext y
  have h0 : (y 0).val < R := (y 0).isLt
  have h1 : (y 1).val < C := (y 1).isLt
  exact H y (Or.inr ⟨by omega, by omega⟩)
theorem upto_none {R C : ℕ} {sp : Space} {e : EltTy} {M : Memref sig .tc sp ⟨2, ![R, C]⟩ e} {f : BufTy.Contents (Elt F) M.view.ty} {T : (⟨2, ![R, C]⟩ : Shape).Idx → Elt F e} {h w : ℕ} :
    UptoT M f T h w 0 0 := by
  intro y hy
  omega

theorem trips1 : Scf.trips k0_t1_loop.lb k0_t1_loop.ub k0_t1_loop.st = 31 := by decide +kernel
theorem trips2 : Scf.trips k0_t2_loop.lb k0_t2_loop.ub k0_t2_loop.st = 8 := by decide +kernel
theorem trips3 : Scf.trips k0_t3_loop.lb k0_t3_loop.ub k0_t3_loop.st = 11 := by decide +kernel

/-- The matrix product: from the dequantised rows and the weights to the block of `y`. -/
theorem tail3 (D : Buf (Elt F) (xM.view.loc (c : Thread nD τ))) (W : Buf (Elt F) (wM.view.loc (c : Thread nD τ))) (f7 : Buf (Elt F) (arg7.view.loc (c : Thread nD τ))) (Q : PUnit → sProp 𝕄) :
    iprop((xP c D ∗ wP c W ∗ (arg7.view.loc (c : Thread nD τ) ↦[arg7.view.set]{fullShare} f7))
      ∗ ((xP c D ∗ wP c W ∗ ∃ f, ⌜arg7.view.read (Elt F) f = yT (xM.view.read (Elt F) D) (wM.view.read (Elt F) W)⌝ ∗ (arg7.view.loc (c : Thread nD τ) ↦[arg7.view.set]{fullShare} f)) -∗ Q ⟨⟩))
      ⊢ wp frame (wpE (defs₀ (F := F)) 𝒱₀ (c : Thread nD τ) none) Set.univ
        (do
          Scf.Loop.for k0_t3_loop k0_t3_ok ⟨⟩ (k0_t3_body (F := F) i arg1 harg1 arg2 harg2 arg3 harg3 arg4 harg4 codesM (Memref.isWhole_whole _) woutM (Memref.isWhole_whole _)
            arg7 harg7 arg8 harg8 arg9 harg9 wM (Memref.isWhole_whole _) xM (Memref.isWhole_whole _) ringM (Memref.isWhole_whole _) cc0_scratch3 cc0_scratch4)
          Pure.pure PUnit.unit) Q := by
  iintro ⟨⟨HX, HW, H7⟩, Hk⟩
  have h7 : UptoT arg7 f7 (yT (xM.view.read (Elt F) D) (wM.view.read (Elt F) W)) 256 512 0 0 := upto_none
  let L := loopInv3 (F := F) c i arg1 harg1 arg2 harg2 arg3 harg3 arg4 harg4 arg7 harg7 arg8 harg8 arg9 harg9 D W
  sl_exec
  sl_step
  iapply Hk
  isplitl [HX]; · iexact HX
  isplitl [HW]; · iexact HW
  iexists fL0
  isplitr
  · ipureintro; exact upto_cols (h := 256) (w := 512) (j := 11) (by decide) (by decide) (trips3 ▸ hL2)
  iexact H7

/-- The body at a point that finds the weights in place. -/
theorem bodyLater (hi : ¬ k0_cond1 i = 1#1) (W : Buf (Elt F) (wM.view.loc (c : Thread nD τ))) (hW : wM.view.read (Elt F) W = wOf c XA XB arg1 X1)
    (f7 f8 f9 L) (Q : PUnit → sProp 𝕄) :
    iprop((insP c arg1 X1 arg2 X2 arg3 X3 arg4 X4 ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ wP c W ∗ coreP c XA XB ∗ owes (c : Thread nD τ) 0 L)
      ∗ (POST c XA XB arg1 X1 arg2 X2 arg3 X3 arg4 X4 arg7 arg8 arg9 -∗ Q ⟨⟩))
      ⊢ wp frame (wpE (defs₀ (F := F)) 𝒱₀ (c : Thread nD τ) none) Set.univ
        (bodyG i arg1 harg1 arg2 harg2 arg3 harg3 arg4 harg4 arg7 harg7 arg8 harg8 arg9 harg9) Q := by
  iintro ⟨⟨⟨H1, H2, H3, H4⟩, H7, H8, H9, HW, ⟨Hh, HB, ⟨%fx, HX⟩, Hs0, Hs1, Hc0, Hc1, Hc4⟩, HO⟩, Hk⟩
  have h8 : UptoT arg8 f8 (codesT (Q2 c arg2 X2) (XX4 c arg4 X4)) 32 128 0 0 := upto_none
  have h9 : UptoT arg9 f9 (sclT (Q2 c arg2 X2) (XX4 c arg4 X4)) 32 31 0 0 := upto_none
  have hx : UptoT xM fx (xdT (Q2 c arg2 X2) (O3 c arg3 X3) (XX4 c arg4 X4)) 32 128 0 0 := upto_none
  sl_exec
  iapply (tail3 c i arg1 harg1 arg2 harg2 arg3 harg3 arg4 harg4 arg7 harg7 arg8 harg8 arg9 harg9 fL2 W f7)
  isplitl [HX HW H7]
  · isplitl [HX]; · iexact HX
    isplitl [HW]; · iexact HW
    iexact H7
  iintro ⟨HX, HW, ⟨%g7, %e7, H7⟩⟩
  iapply Hk
  isplitl [H1 H2 H3 H4]
  · isplitl [H1]; · iexact H1
    isplitl [H2]; · iexact H2
    isplitl [H3]; · iexact H3
    iexact H4
  isplitl [H7]
  · iexists g7
    isplitr
    · ipureintro; rw [e7, hW, upto_all (h := 32) (k := 8) (by decide) (trips2 ▸ hL7)]
    iexact H7
  isplitl [H8]
  · iexists fL0
    isplitr
    · ipureintro; exact upto_all (h := 32) (k := 8) (by decide) (trips2 ▸ hL3)
    iexact H8
  isplitl [H9]
  · iexists fL1
    isplitr
    · ipureintro; exact upto_all (h := 32) (k := 8) (by decide) (trips2 ▸ hL5)
    iexact H9
  isplitl [HW]
  · iexists W
    isplitr
    · ipureintro; exact hW
    iexact HW
  isplitr [HO]
  · isplitl [Hh]; · iexact Hh
    isplitl [HB]; · iexact HB
    isplitl [HX]; · iexists fL2; iexact HX
    isplitl [Hs0]; · iexact Hs0
    isplitl [Hs1]; · iexact Hs1
    isplitl [Hc0]; · iexact Hc0
    isplitl [Hc1]; · iexact Hc1
    iexact Hc4
  iexists L; iexact HO

theorem sl2_0 : Ring.sl 2 0 = 0 := Fin.ext (by rfl)
theorem sl2_1 : Ring.sl 2 (0 + 1) = 1 := Fin.ext (by rfl)
theorem bk31_0 : Ring.bk 31 0 = 0 := Fin.ext (by rfl)

/-- At the loop's entry, group 0 apart from the rest. -/
theorem homes_zero : bigSep Finset.univ (homeP c XA) = iprop(homeP c XA 0 ∗ bigSep (Ring.homeSet 1 0) (homeP c XA)) := by
  have e : (Finset.univ : Finset (Fin 31)) = insert 0 (Ring.homeSet (NB := 31) 1 0) := by
    ext b; simp only [Finset.mem_univ, Finset.mem_insert, Ring.mem_homeSet, true_iff, Fin.ext_iff]; have := b.isLt; omega
  rw [e, bigSep_insert (by simp [Ring.mem_homeSet])]; rfl
/-- After the loop every group is home. -/
theorem homes_end : bigSep (Ring.homeSet 1 31) (homeP c XA) = bigSep Finset.univ (homeP c XA) := by
  have e : (Finset.univ : Finset (Fin 31)) = Ring.homeSet (NB := 31) 1 31 := by
    ext b; simp only [Finset.mem_univ, Ring.mem_homeSet, true_iff]; have := b.isLt; omega
  rw [e]

set_option warn.classDefReducibility false in
/-- What the loading loop hands on. -/
@[reducible] def exit1 (k0_h1 : k0_cond1 i = 1#1) :
    LoopExit (loopInv1 (F := F) c XA i arg1 harg1 X1 arg2 harg2 arg3 harg3 arg4 harg4 arg7 harg7 arg8 harg8 arg9 harg9 k0_h1) where
  post _ := iprop((∃ f, ⌜Upto c (arg1.view.read (Elt F) X1) (codesM.view.read (Elt F) XA) 31 0 f⌝ ∗ lowP c f) ∗ sclP c arg1 X1 ∗ (∃ W, owes (c : Thread nD τ) 0 W)
    ∗ bigSep Finset.univ (homeP c XA) ∗ (∃ f, slotP c 1 f) ∗ cellP c 1 ∗ (∃ f, slotP c 0 f) ∗ cellP c 0)
  exit acc := by
    rw [trips1]
    show invAt c XA arg1 X1 31 ⊢ _
    unfold invAt curAt
    rw [if_neg (by decide), homes_end, show Ring.sl 2 31 = 1 from rfl, show Ring.sl 2 (31 + 1) = 0 from rfl]
    iintro ⟨Hl, HS, HW, Hh, ⟨Hs1, Hc1⟩, Hs0, Hc0⟩
    isplitl [Hl]; · iexact Hl
    isplitl [HS]; · iexact HS
    isplitl [HW]; · iexact HW
    isplitl [Hh]; · iexact Hh
    isplitl [Hs1]; · iexact Hs1
    isplitl [Hc1]; · iexact Hc1
    isplitl [Hs0]; · iexact Hs0
    iexact Hc0

attribute [local instance] exit1 in
attribute [local sl_canon] sl2_0 sl2_1 bk31_0 in
/-- The body at the first point. -/
theorem bodyFirst (k0_h1 : k0_cond1 i = 1#1) (W : Buf (Elt F) (wM.view.loc (c : Thread nD τ)))
    (f7 f8 f9 L) (Q : PUnit → sProp 𝕄) :
    iprop((insP c arg1 X1 arg2 X2 arg3 X3 arg4 X4 ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ wP c W ∗ coreP c XA XB ∗ owes (c : Thread nD τ) 0 L)
      ∗ (POST c XA XB arg1 X1 arg2 X2 arg3 X3 arg4 X4 arg7 arg8 arg9 -∗ Q ⟨⟩))
      ⊢ wp frame (wpE (defs₀ (F := F)) 𝒱₀ (c : Thread nD τ) none) Set.univ
        (bodyG i arg1 harg1 arg2 harg2 arg3 harg3 arg4 harg4 arg7 harg7 arg8 harg8 arg9 harg9) Q := by
  iintro ⟨⟨⟨H1, H2, H3, H4⟩, H7, H8, H9, HW, ⟨Hh, HB, ⟨%fx, HX⟩, ⟨%s0, Hs0⟩, ⟨%s1, Hs1⟩, Hc0, Hc1, Hc4⟩, HO⟩, Hk⟩
  have h8 : UptoT arg8 f8 (codesT (Q2 c arg2 X2) (XX4 c arg4 X4)) 32 128 0 0 := upto_none
  have h9 : UptoT arg9 f9 (sclT (Q2 c arg2 X2) (XX4 c arg4 X4)) 32 31 0 0 := upto_none
  have hx : UptoT xM fx (xdT (Q2 c arg2 X2) (O3 c arg3 X3) (XX4 c arg4 X4)) 32 128 0 0 := upto_none
  have hw : Upto c (arg1.view.read (Elt F) X1) (codesM.view.read (Elt F) XA) 0 0 W := fun y hy => by omega
  ihave HW2 := (w_split c W) $$ HW
  icases HW2 with ⟨HWl, HWh⟩
  ihave Hh2 := (entails_of_eq (homes_zero c XA)) $$ Hh
  icases Hh2 with ⟨Hg, Hrest⟩
  sl_exec
  ihave HJ := (w_join c fL0 _) $$ [HL1 HWh]
  · isplitl [HL1]; · iexact HL1
    iexact HWh
  icases HJ with ⟨%V, %eV, HW⟩
  have hV : wM.view.read (Elt F) V = wOf c XA XB arg1 X1 := by
    funext y
    show wM.view.read (Elt F) V y = wfull _ _ _ y
    unfold wfull
    by_cases hy : (y 0).val < 3968
    · rw [if_pos hy, eV.1 y hy]; exact hL0 y (Or.inl hy)
    · rw [if_neg hy, eV.2 y hy]
      exact high_read c (woutM.view.read (Elt F) XB) _ y hy
  iapply (tail3 c i arg1 harg1 arg2 harg2 arg3 harg3 arg4 harg4 arg7 harg7 arg8 harg8 arg9 harg9 fL6 V f7)
  isplitl [HX HW H7]
  · isplitl [HX]; · iexact HX
    isplitl [HW]; · iexact HW
    iexact H7
  iintro ⟨HX, HW, ⟨%g7, %e7, H7⟩⟩
  iapply Hk
  isplitl [HL2 H2 H3 H4]
  · isplitl [HL2]; · iexact HL2
    isplitl [H2]; · iexact H2
    isplitl [H3]; · iexact H3
    iexact H4
  isplitl [H7]
  · iexists g7
    isplitr
    · ipureintro; rw [e7, hV, upto_all (h := 32) (k := 8) (by decide) (trips2 ▸ hL16)]
    iexact H7
  isplitl [H8]
  · iexists fL4
    isplitr
    · ipureintro; exact upto_all (h := 32) (k := 8) (by decide) (trips2 ▸ hL12)
    iexact H8
  isplitl [H9]
  · iexists fL5
    isplitr
    · ipureintro; exact upto_all (h := 32) (k := 8) (by decide) (trips2 ▸ hL14)
    iexact H9
  isplitl [HW]
  · iexists V
    isplitr
    · ipureintro; exact hV
    iexact HW
  isplitr [HL3]
  · isplitl [HL4]; · iexact HL4
    isplitl [HB]; · iexact HB
    isplitl [HX]; · iexists fL6; iexact HX
    isplitl [HL7]; · iexists fL3; iexact HL7
    isplitl [HL5]; · iexists fL2; iexact HL5
    isplitl [HL8]; · iexact HL8
    isplitl [HL6]; · iexact HL6
    iexact Hc4
  iexists _; iexact HL3
end Body

end Cert.KernelIdeal.Own
end
-- ==== Proof.Run.lean ====
/-
  The kernel's region: its proof data, the body obligation at every grid point, and the run of the whole program.
-/
module

public import proofs.«01_k».proof.Proof.Body

public import proofs.«01_k».proof.Proof.Gen.KernelIdeal.Frame

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The kernel's own cells -/

def osem (s : Fin 3) : SemLoc sig := ![.dma (csm 0).sem, .dma (csm 1).sem, .dma cc0_scratch4.sem] s
theorem ownSemFacts : Pipeline.OwnSemFacts spec0 osem := by decide

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cell4P c) := by
  unfold Pipeline.ownSems0; rw [bigSep_fin3]; rfl

/-! ## Element sets: the row groups of the codes, the two slots of the ring -/

abbrev G31 (b : Fin 31) : Finset S3968x5632.Idx := (Rect.unit (s := S3968x5632) (grpOff b) S128x5632.size (grpOff_inb b)).set
abbrev SL2 (s : Fin 2) : Finset S2x128x5632.Idx := (Rect.unit (s := S2x128x5632) (slotOff s) S1x128x5632.size (slotOff_inb s)).set
theorem grp_set (b : Fin 31) : (grp b : Memref sig .tc .hbm _ _).view.set = G31 b := View.set_slice_whole _ _
theorem rslot_set (s : Fin 2) : (rslot s : Memref sig .tc .vmem _ _).view.set = SL2 s := (View.set_reshape _ _).trans (View.set_slice_whole _ _)

theorem mem_G31 (b : Fin 31) (y : S3968x5632.Idx) : y ∈ G31 b ↔ (y 0).val / 128 = b.val := by
  rw [Rect.mem_set_unit]
  have h1 : (y 1).val < 5632 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 5632; omega
theorem mem_SL2 (s : Fin 2) (y : S2x128x5632.Idx) : y ∈ SL2 s ↔ (y 0).val = s.val := by
  rw [Rect.mem_set_unit]
  have h1 : (y 1).val < 128 := (y 1).isLt
  have h2 : (y 2).val < 5632 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 5632; omega
theorem G31_disjoint : ∀ b b' : Fin 31, b ≠ b' → Disjoint (G31 b) (G31 b') := by
  intro b b' hne; rw [Finset.disjoint_left]; intro y hy hy'; rw [mem_G31] at hy hy'; exact hne (Fin.ext (hy.symm.trans hy'))
theorem G31_cover : (Finset.univ : Finset (Fin 31)).biUnion G31 = Finset.univ := by
  ext y; simp only [Finset.mem_biUnion, Finset.mem_univ, true_and, iff_true]
  have h0 : (y 0).val < 3968 := (y 0).isLt
  exact ⟨⟨(y 0).val / 128, by omega⟩, by rw [mem_G31]⟩
theorem SL2_disjoint : ∀ s s' : Fin 2, s ≠ s' → Disjoint (SL2 s) (SL2 s') := by
  intro s s' hne; rw [Finset.disjoint_left]; intro y hy hy'; rw [mem_SL2] at hy hy'; exact hne (Fin.ext (hy.symm.trans hy'))
theorem SL2_cover : (Finset.univ : Finset (Fin 2)).biUnion SL2 = Finset.univ := by
  ext y; simp only [Finset.mem_biUnion, Finset.mem_univ, true_and, iff_true]; exact ⟨(y 0).cast (by decide), by rw [mem_SL2]; rfl⟩

/-- The codes whole are their row groups, home. -/
theorem codes_eq (c : Dev nD) (XA : Buf (Elt F) ((c : Thread nD τ).loc main_arg4)) :
    (((c : Thread nD τ).loc main_arg4) ↦{fullShare} XA : sProp 𝕄) = bigSep Finset.univ (homeP c XA) := by
  rw [Ring.pointsTo_blocks (ℓ := (c : Thread nD τ).loc main_arg4) G31 G31_disjoint G31_cover]
  exact bigSep_congr fun b _ => by rw [← grp_set]; rfl
theorem slotP_eq (c : Dev nD) (s : Fin 2) (f) : slotP c s f = (((c : Thread nD τ).loc cc0_scratch2) ↦[SL2 s]{fullShare} f : sProp 𝕄) :=
  congrArg (fun S => (_ ↦[S]{fullShare} f : sProp 𝕄)) (rslot_set s)
theorem outP_eq (c : Dev nD) (XB : Buf (Elt F) ((c : Thread nD τ).loc main_arg3)) :
    outP c XB = (((c : Thread nD τ).loc main_arg3) ↦{fullShare} XB : sProp 𝕄) :=
  congrArg (fun S => (_ ↦[S]{fullShare} XB : sProp 𝕄)) (View.set_whole _)
theorem xP_eq (c : Dev nD) (f : Buf (Elt F) ((c : Thread nD τ).loc cc0_scratch1)) :
    xP c f = (((c : Thread nD τ).loc cc0_scratch1) ↦{fullShare} f : sProp 𝕄) :=
  congrArg (fun S => (_ ↦[S]{fullShare} f : sProp 𝕄)) (View.set_whole _)
theorem ring_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) SL2 SL2_disjoint SL2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem ring_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) SL2 SL2_disjoint SL2_cover f0)
  irw [bigSep_fin2]
  isplitl [H0]
  · iexists f0; iapply (entails_of_eq (slotP_eq c 0 f0)); iexact H0
  · iexists f1; iapply (entails_of_eq (slotP_eq c 1 f1)); iexact H1

/-! ## The pipeline's proof data -/

abbrev XA (c : Dev nD) : Buf (Elt F) (codesM.view.loc (c : Thread nD τ)) := V m c main_arg4
abbrev XB (c : Dev nD) : Buf (Elt F) (woutM.view.loc (c : Thread nD τ)) := V m c main_arg3

/-- The inputs' blocks at a point, at the kernel's own shapes. -/
abbrev in0 (c : Dev nD) (t : Fin cfg0.N) : S31x44.Idx → Elt F .f32 := iblk m c 0 t
abbrev in1 (c : Dev nD) (t : Fin cfg0.N) : S31x128.Idx → BitVec 32 := iblk m c 1 t
abbrev in2 (c : Dev nD) (t : Fin cfg0.N) : S1x128.Idx → BitVec 32 := iblk m c 2 t
abbrev in3 (c : Dev nD) (t : Fin cfg0.N) : S256x4096.Idx → Elt F .bf16 := iblk m c 3 t

abbrev t0 : Fin cfg0.N := ⟨0, by rw [show cfg0.N = 96 from N_0]; decide⟩
/-- The weights as the scratch holds them from the first point on. -/
abbrev wAll (c : Dev nD) : S4096x5632.Idx → Elt F .bf16 :=
  wfull (in0 m c t0) (codesM.view.read (Elt F) (XA m c)) (woutM.view.read (Elt F) (XB m c))
theorem in0_const (c : Dev nD) (t : Fin cfg0.N) : in0 m c t = in0 m c t0 := rfl

def Φ (c : Dev nD) (n : ℕ) : sProp 𝕄 :=
  iprop(coreP c (XA m c) (XB m c) ∗ (∃ W, ⌜n ≠ 0 → wM.view.read (Elt F) W = wAll m c⌝ ∗ wP c W) ∗ (∃ r, prngReg c r))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yT (xdT (in1 m c t) (in2 m c t) (in3 m c t)) (wAll m c)
    | ⟨5, _⟩ => codesT (in1 m c t) (in3 m c t)
    | ⟨6, _⟩ => sclT (in1 m c t) (in3 m c t)
  Φ n := Φ m c n.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = yT (xdT (in1 m c t) (in2 m c t) (in3 m c t)) (wAll m c) := by dsimp only [dats]
theorem after_w5 (c : Dev nD) (t : Fin cfg0.N) : (dats m 0 c).after 5 t = codesT (in1 m c t) (in3 m c t) := by dsimp only [dats]
theorem after_w6 (c : Dev nD) (t : Fin cfg0.N) : (dats m 0 c).after 6 t = sclT (in1 m c t) (in3 m c t) := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; dsimp only [dats]; try rfl) t d).trans
    (by unfold Dat.fetched Dat.blockOf iblk; dsimp only [dats]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; dsimp only [dats]; try rfl) t d).trans
    (by unfold Dat.fetched Dat.blockOf iblk; dsimp only [dats]; try rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; dsimp only [dats]; try rfl) t d).trans
    (by unfold Dat.fetched Dat.blockOf iblk; dsimp only [dats]; try rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; dsimp only [dats]; try rfl) t d).trans
    (by unfold Dat.fetched Dat.blockOf iblk; dsimp only [dats]; try rfl)

/-! ## The body obligation -/

theorem cond1_iff (t : Fin cfg0.N) : k0_cond1 (grid0.coords t) = 1#1 ↔ t.val = 0 :=
  (by decide +kernel : ∀ t : Fin grid0.N, k0_cond1 (grid0.coords t) = 1#1 ↔ t.val = 0) t

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) := rfl
theorem prog_eq (t : Fin cfg0.N) : (defs₀ (F := F)) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5)) (st0_6 t) (hstage0_6 ((cfg0.slots t 6).cast nbuf0_6)) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4, after_w5, after_w6]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨Hcore, ⟨%W, %hW, HW⟩, Hp⟩, ⟨%L, -, HL⟩, ⟨%d0, %g0, %e0, H0⟩, ⟨%d1, %g1, %e1, H1⟩, ⟨%d2, %g2, %e2, H2⟩, ⟨%d3, %g3, %e3, H3⟩, ⟨%d4, %g4, -, H4⟩, ⟨%d5, %g5, -, H5⟩, ⟨%d6, %g6, -, H6⟩⟩
  sl_rw [prog_eq t]
  have E0 : wOf c (XA m c) (XB m c) (st0_0 t) g0 = wAll m c := by show wfull _ _ _ = wfull _ _ _; rw [e0]; exact congrArg (fun S => wfull S _ _) (in0_const m c t)
  have Q2e : Q2 c (st0_1 t) g1 = in1 m c t := e1
  have O3e : O3 c (st0_2 t) g2 = in2 m c t := e2
  have X4e : XX4 c (st0_3 t) g3 = in3 m c t := e3
  have key : ∀ Q : PUnit → sProp 𝕄,
      iprop((insP c (st0_0 t) g0 (st0_1 t) g1 (st0_2 t) g2 (st0_3 t) g3 ∗ ((st0_4 t).view.loc (c : Thread nD τ) ↦[(st0_4 t).view.set]{fullShare} g4)
        ∗ ((st0_5 t).view.loc (c : Thread nD τ) ↦[(st0_5 t).view.set]{fullShare} g5) ∗ ((st0_6 t).view.loc (c : Thread nD τ) ↦[(st0_6 t).view.set]{fullShare} g6)
        ∗ wP c W ∗ coreP c (XA m c) (XB m c) ∗ owes (c : Thread nD τ) 0 L)
        ∗ (POST c (XA m c) (XB m c) (st0_0 t) g0 (st0_1 t) g1 (st0_2 t) g2 (st0_3 t) g3 (st0_4 t) (st0_5 t) (st0_6 t) -∗ Q ⟨⟩))
        ⊢ wp frame (wpE (defs₀ (F := F)) 𝒱₀ (c : Thread nD τ) none) Set.univ
          (bodyG (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4)) (st0_5 t) (hstage0_5 ((cfg0.slots t 5).cast nbuf0_5)) (st0_6 t) (hstage0_6 ((cfg0.slots t 6).cast nbuf0_6))) Q := by
    intro Q
    by_cases hi : k0_cond1 (grid0.coords t) = 1#1
    · exact bodyFirst c (XA m c) (XB m c) _ _ _ _ _ _ _ _ _ _ _ _ _ _ _ _ _ _ _ hi W g4 g5 g6 L Q
    · exact bodyLater c (XA m c) (XB m c) _ _ _ _ _ _ _ _ _ _ _ _ _ _ _ _ _ _ _ hi W ((hW fun h => hi ((cond1_iff t).mpr h)).trans E0.symm) g4 g5 g6 L Q
  unfold POST at key
  rw [E0, Q2e, O3e, X4e] at key
  iapply (key _)
  isplitl [H0 H1 H2 H3 H4 H5 H6 HW Hcore HL]
  · isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    isplitl [HW]; · iexact HW
    isplitl [Hcore]; · iexact Hcore
    iexact HL
  · iintro ⟨⟨H0, H1, H2, H3⟩, H4, H5, H6, ⟨%W', %hW', HW⟩, Hcore, ⟨%L', HL⟩⟩
    isplitl [Hcore HW Hp]
    · isplitl [Hcore]; · iexact Hcore
      isplitl [HW]
      · iexists W'; isplitr
        · ipureintro; exact fun _ => hW'
        iexact HW
      iexact Hp
    isplitl [HL]
    · iexists L'; isplitr; · ipureintro; exact fun _ _ => Or.inl trivial
      iexact HL
    isplitl [H0]
    · iexists g0; isplitr; · ipureintro; exact e0
      iexact H0
    isplitl [H1]
    · iexists g1; isplitr; · ipureintro; exact e1
      iexact H1
    isplitl [H2]
    · iexists g2; isplitr; · ipureintro; exact e2
      iexact H2
    isplitl [H3]
    · iexists g3; isplitr; · ipureintro; exact e3
      iexact H3
    isplitl [H4]; · iexact H4
    isplitl [H5]; · iexact H5
    iexact H6

/-! ## The run -/

/-- The arrays the kernel reads by its own copies. -/
def H34 : Finset (Ref sig .tc) := {main_arg3, main_arg4}
theorem bigSep_H34 (Ψ : Ref sig .tc → sProp 𝕄) : bigSep H34 Ψ = iprop(Ψ main_arg3 ∗ Ψ main_arg4) :=
  bigSep_eq_bigSepL_of_eq [main_arg3, main_arg4] (by decide) (by decide) Ψ

theorem hmain : Pipeline.HMain (Ix := Unit) (Name := ℕ) (U := UU nD τ) (Lvl := ℕ) cfgs 0 (defs₀ (F := F)) 𝒱₀ m main (V m) :=
  Pipeline.hmain_prefix cfgs 0 defs₀ 𝒱₀ m main hostOps0 hostOps0_sub hostOps0_fresh main_chain

set_option backward.isDefEq.respectTransparency.types false in
/-- Every weakly fair execution of @main terminates; every final state has each window's array at the contents the
    region leaves, every other unscoped buffer at what the host prefix left there, and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ 𝒱₀ ownSemFacts H34 (by decide) m ρ main
    (hbody := fun c => (body_obligation m c).loose) (hshare := fun c => (dats m 0 c).share_full fun _ => rfl)
    (howed := fun _ _ => rfl) (V := V m) (hmain := hmain m) (hA := fun _ _ => rfl)
    (hin := fun c => by
      rw [Pipeline.ΦD_eq, scopedRest0_eq, ownSems0_eq, bigSep_H34, show (dats m 0 c).Φ 0 = Φ m c 0 from rfl]
      unfold Φ coreP
      iintro ⟨⟨⟨%W, HW⟩, ⟨%X, HX⟩, HR⟩, Hp, ⟨Hc0, Hc1, Hc4⟩, HB, HA⟩
      ihave HR2 := (ring_split c) $$ HR
      icases HR2 with ⟨Hs0, Hs1⟩
      isplitl [HX Hs0 Hs1 Hc0 Hc1 Hc4 HA HB]
      · isplitl [HA]; · iapply (entails_of_eq (codes_eq c (XA m c))); iexact HA
        isplitl [HB]; · iapply (entails_of_eq (outP_eq c (XB m c)).symm); iexact HB
        isplitl [HX]; · iexists X; iapply (entails_of_eq (xP_eq c X).symm); iexact HX
        isplitl [Hs0]; · iexact Hs0
        isplitl [Hs1]; · iexact Hs1
        isplitl [Hc0]; · iexact Hc0
        isplitl [Hc1]; · iexact Hc1
        iexact Hc4
      isplitl [HW]
      · iexists W; isplitr
        · ipureintro; exact fun h => absurd rfl h
        iapply (entails_of_eq (wP_eq c W).symm); iexact HW
      iexact Hp)
    (hout := fun c => by
      rw [Pipeline.ΦD_eq, scopedRest0_eq, ownSems0_eq, bigSep_H34, show (dats m 0 c).Φ (Fin.last cfg0.N) = Φ m c cfg0.N from rfl]
      unfold Φ coreP
      iintro ⟨⟨HA, HB, ⟨%X, HX⟩, Hs0, Hs1, Hc0, Hc1, Hc4⟩, ⟨%W, -, HW⟩, Hp⟩
      isplitl [HW HX Hs0 Hs1]
      · isplitl [HW]; · iexists W; iapply (entails_of_eq (wP_eq c W)); iexact HW
        isplitl [HX]; · iexists X; iapply (entails_of_eq (xP_eq c X)); iexact HX
        iapply (ring_join c)
        isplitl [Hs0]; · iexact Hs0
        iexact Hs1
      isplitl [Hp]; · iexact Hp
      isplitl [Hc0 Hc1 Hc4]
      · isplitl [Hc0]; · iexact Hc0
        isplitl [Hc1]; · iexact Hc1
        iexact Hc4
      isplitl [HB]; · iapply (entails_of_eq (outP_eq c (XB m c))); iexact HB
      iapply (entails_of_eq (codes_eq c (XA m c)).symm); iexact HA)
    (hQ' := fun _ h => h)

/-- What a run leaves: the arguments as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).1 0).trans (((dats m 0 c).arrAt_in 0 rfl _).trans (V_main_arg5 m c))⟩

end Cert.KernelIdeal.Own
end
-- ==== Proof.KLoad.lean ====
/-
  The first grid point's fill of the weight scratch: a two-slot ring that streams the 31 row groups of the fp8
  weight codes and writes each group, scaled, into its rows of the scratch.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic
public import Idealize.ShloMosaic.Lib.WritesUnit
public import Idealize.ShloMosaic.Lib.ValueIdxCore
public import Idealize.ShloMosaic.Lib.Pipeline.Value

@[expose] public section

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Canonical names: row group `b` of the codes, slot `s` of the staging ring, slot `s`'s cell -/

abbrev codesM : Memref sig .tc .hbm S3968x5632 .fp8e4m3 := Memref.whole main_arg4
abbrev woutM : Memref sig .tc .hbm S128x5632 .bf16 := Memref.whole main_arg3
abbrev wM : Memref sig .tc .vmem S4096x5632 .bf16 := Memref.whole cc0_scratch0
abbrev xM : Memref sig .tc .vmem S256x4096 .bf16 := Memref.whole cc0_scratch1
abbrev ringM : Memref sig .tc .vmem S2x128x5632 .fp8e4m3 := Memref.whole cc0_scratch2

abbrev grpOff (b : Fin 31) : Fin 2 → Nat := ![128 * b.val, 0]
theorem grpOff_inb (b : Fin 31) : ∀ a, grpOff b a + S128x5632.size a ≤ S3968x5632.size a := by
  have := b.isLt; intro a; fin_cases a
  · show 128 * b.val + 128 ≤ 3968; omega
  · show 0 + 5632 ≤ 5632; omega
abbrev slotOff (s : Fin 2) : Fin 3 → Nat := ![s.val, 0, 0]
theorem slotOff_inb (s : Fin 2) : ∀ a, slotOff s a + S1x128x5632.size a ≤ S2x128x5632.size a := by
  have := s.isLt; intro a; fin_cases a
  · show s.val + 1 ≤ 2; omega
  · show 0 + 128 ≤ 128; omega
  · show 0 + 5632 ≤ 5632; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Row group `b` of the codes, as the body slices it. -/
def grp (b : Fin 31) : Memref sig .tc .hbm S128x5632 .fp8e4m3 :=
  codesM.slice (Rect.unit (s := S3968x5632) (grpOff b) S128x5632.size (grpOff_inb b)) (fun _ => rfl)
/-- Slot `s` of the ring, as the body slices and squeezes it. -/
def rslot (s : Fin 2) : Memref sig .tc .vmem S128x5632 .fp8e4m3 :=
  (ringM.slice (Rect.unit (s := S2x128x5632) (slotOff s) S1x128x5632.size (slotOff_inb s)) (fun _ => rfl)).squeeze S128x5632 squeezes_S1x128x5632_S128x5632
/-- Slot `s`'s DMA semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
theorem slotOff_sl (n : ℕ) : slotOff (Ring.sl 2 n) = ![n % 2, 0, 0] := rfl
instance (priority := high) (n : ℕ) : ClosedOff (slotOff (Ring.sl 2 n)) := ⟨![n % 2, 0, 0], slotOff_sl n⟩
instance (b : Fin 31) : ClosedOff (grpOff b) := ⟨grpOff b, rfl⟩

theorem t1_lt (k : Fin k0_t1_loop.trips) : k.val < 31 := lt_of_lt_of_le k.isLt k0_t1_abs.2.1

theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 2} (e : off = slotOff s) (hh hs) :
    (ringM.slice (Rect.unit (s := S2x128x5632) off S1x128x5632.size hh) hs).squeeze S128x5632 squeezes_S1x128x5632_S128x5632 = rslot s :=
  congrArg (fun M : Memref sig .tc .vmem S1x128x5632 .fp8e4m3 => M.squeeze S128x5632 squeezes_S1x128x5632_S128x5632) (Memref.slice_unit_congr _ e _ _ _ _)
theorem grp_congr {off : Fin 2 → Nat} {b : Fin 31} (e : off = grpOff b) (hh hs) :
    codesM.slice (Rect.unit (s := S3968x5632) off S128x5632.size hh) hs = grp b :=
  Memref.slice_unit_congr _ e _ _ _ (fun _ => rfl)

theorem off1_eq (k : Fin k0_t1_loop.trips) : k0_off1 k = semOff (Ring.sl 2 (k.val + 1)) := by
  rw [k0_off1_eq]; unfold semOff; congr 1; simp [Ring.sl, Fin.ofNat]; omega
theorem off2_eq (k : Fin k0_t1_loop.trips) : k0_off2 k = slotOff (Ring.sl 2 (k.val + 1)) := by
  rw [k0_off2_eq]; unfold slotOff; congr 1; simp [Ring.sl, Fin.ofNat]; omega
theorem off3_eq (k : Fin k0_t1_loop.trips) (hk : k.val + 1 < 31) : k0_off3 k = grpOff (Ring.bk 31 (k.val + 1)) := by
  rw [k0_off3_eq]; unfold grpOff; rw [Ring.bk_val hk]; congr 1
theorem off4_eq (k : Fin k0_t1_loop.trips) : k0_off4 k = semOff (Ring.sl 2 k.val) := by
  rw [k0_off4_eq]; unfold semOff; congr 1
theorem off5_eq (k : Fin k0_t1_loop.trips) : k0_off5 k = slotOff (Ring.sl 2 k.val) := by
  rw [k0_off5_eq]; unfold slotOff; congr 1
theorem off6_eq (k : Fin k0_t1_loop.trips) : k0_off6 k = grpOff (Ring.bk 31 k.val) := by
  rw [k0_off6_eq]; unfold grpOff; rw [Ring.bk_val (t1_lt k)]

@[sl_canon] theorem semL0 (hh) : (cc0_scratch3.slice (Rect.unit (s := S2) ![0] S1.size hh)).squeeze S_ squeezes_S1_S_ = csm 0 := csm_congr (by decide) _
@[sl_canon] theorem slotL0 (hh hs) : (ringM.slice (Rect.unit (s := S2x128x5632) ![0, 0, 0] S1x128x5632.size hh) hs).squeeze S128x5632 squeezes_S1x128x5632_S128x5632 = rslot 0 := rslot_congr (by decide) _ _
@[sl_canon] theorem grpL0 (hh hs) : codesM.slice (Rect.unit (s := S3968x5632) ![0, 0] S128x5632.size hh) hs = grp 0 := grp_congr (by decide) _ _
@[sl_canon] theorem semN (k : Fin k0_t1_loop.trips) (hh) : (cc0_scratch3.slice (Rect.unit (s := S2) (k0_off1 k) S1.size hh)).squeeze S_ squeezes_S1_S_ = csm (Ring.sl 2 (k.val + 1)) := csm_congr (off1_eq k) _
@[sl_canon] theorem slotN (k : Fin k0_t1_loop.trips) (hh hs) : (ringM.slice (Rect.unit (s := S2x128x5632) (k0_off2 k) S1x128x5632.size hh) hs).squeeze S128x5632 squeezes_S1x128x5632_S128x5632 = rslot (Ring.sl 2 (k.val + 1)) := rslot_congr (off2_eq k) _ _
@[sl_canon] theorem grpN (k : Fin k0_t1_loop.trips) (hk : k.val + 1 < 31) (hh hs) : codesM.slice (Rect.unit (s := S3968x5632) (k0_off3 k) S128x5632.size hh) hs = grp (Ring.bk 31 (k.val + 1)) := grp_congr (off3_eq k hk) _ _
@[sl_canon] theorem semK (k : Fin k0_t1_loop.trips) (hh) : (cc0_scratch3.slice (Rect.unit (s := S2) (k0_off4 k) S1.size hh)).squeeze S_ squeezes_S1_S_ = csm (Ring.sl 2 k.val) := csm_congr (off4_eq k) _
@[sl_canon] theorem slotK (k : Fin k0_t1_loop.trips) (hh hs) : (ringM.slice (Rect.unit (s := S2x128x5632) (k0_off5 k) S1x128x5632.size hh) hs).squeeze S128x5632 squeezes_S1x128x5632_S128x5632 = rslot (Ring.sl 2 k.val) := rslot_congr (off5_eq k) _ _
@[sl_canon] theorem grpK (k : Fin k0_t1_loop.trips) (hh hs) : codesM.slice (Rect.unit (s := S3968x5632) (k0_off6 k) S128x5632.size hh) hs = grp (Ring.bk 31 k.val) := grp_congr (off6_eq k) _ _

/-! ## The pieces -/

/-- The rows of the weight scratch that the loop fills. -/
abbrev Rlow : Rect S4096x5632 := Rect.unit (s := S4096x5632) ![0, 0] S3968x5632.size (by intro a; fin_cases a <;> decide)

section Pieces
variable (c : Dev nD) (XA : Buf (Elt F) (codesM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Row group `b` HOME: held on its elements at the codes' contents. -/
abbrev homeP (b : Fin 31) : sProp 𝕄 := (grp b).view.loc (c : Thread nD τ) ↦[(grp b).view.set]{fullShare} XA
/-- What group `b`'s transfer leaves in slot `s` over prior contents `f`. -/
abbrev landed (s : Fin 2) (b : Fin 31) (f : Buf (Elt F) ((rslot s).view.loc (c : Thread nD τ))) : Buf (Elt F) ((rslot s).view.loc (c : Thread nD τ)) :=
  (rslot s).view.writes (Elt F) f [⟨Rect.whole S128x5632, ReadAs.same.apply ((grp b).view.read (Elt F) XA)⟩]
/-- Slot `s` IN FLIGHT with group `b`, issued over `f`. -/
abbrev flightP (s : Fin 2) (b : Fin 31) (f : Buf (Elt F) ((rslot s).view.loc (c : Thread nD τ))) : sProp 𝕄 :=
  Transfers.Flight countersEmb (c : Thread nD τ) (SemLoc.dma (csm s).sem) () 22528 iprop(slotP c s (landed c XA s b f) ∗ homeP c XA b)
abbrev lowP (f : Buf (Elt F) (wM.view.loc (c : Thread nD τ))) : sProp 𝕄 :=
  wM.view.loc (c : Thread nD τ) ↦[wM.view.setOn Rlow.set]{fullShare} f

theorem homes_here (k : ℕ) (hk : k + 1 < 31) :
    bigSep (Ring.homeSet 1 k) (homeP c XA) = iprop(homeP c XA (Ring.bk 31 (k + 1)) ∗ bigSep ((Ring.homeSet 1 k).erase (Ring.bk 31 (k + 1))) (homeP c XA)) := by
  conv_lhs => rw [Ring.homeSet_out 1 k hk, bigSep_insert (Ring.bkL_not_mem_erase 1 k)]
  rfl
theorem homes_next (k : ℕ) (hk : k + 1 < 31) :
    bigSep (Ring.homeSet 1 (k + 1)) (homeP c XA) = iprop(homeP c XA (Ring.bk 31 k) ∗ bigSep ((Ring.homeSet 1 k).erase (Ring.bk 31 (k + 1))) (homeP c XA)) := by
  conv_lhs => rw [Ring.homeSet_succ 1 k hk, bigSep_insert (Ring.bk_not_mem_erase 1 k (by omega) (by decide))]
  rfl
theorem homes_last (k : ℕ) (hk : ¬ k + 1 < 31) (hk31 : k < 31) :
    bigSep (Ring.homeSet 1 (k + 1)) (homeP c XA) = iprop(homeP c XA (Ring.bk 31 k) ∗ bigSep (Ring.homeSet 1 k) (homeP c XA)) := by
  conv_lhs => rw [Ring.homeSet_succ_tail 1 k (by omega) hk31, bigSep_insert (Ring.bk_not_mem_homeSet 1 k hk31 (by decide))]
  rfl
omit [FloatOps F] in
theorem sl2_add2 (k : ℕ) : Ring.sl 2 (k + 1 + 1) = Ring.sl 2 k := by rw [show k + 1 + 1 = k + 2 from rfl, Ring.sl_add]
end Pieces

/-! ## What the loop writes -/

section Values
open Idealize.ShloMosaic.ValueIdx

/-- One dequantised weight: a code times its block's scale, both as bf16. -/
def wel (sc : Elt F .f32) (w : Elt F .fp8e4m3) : Elt F .bf16 :=
  FloatOps.mulf (F := F) (φ := .bf16) (FloatOps.extf (F := F) (φ := .fp8e4m3) .bf16 (by decide) w) (FloatOps.truncf (F := F) (φ := .f32) .bf16 (by decide) sc)

/-- The dequantised weight of row `y 0`, column `y 1`, from the scales `S` and the codes `C`. -/
def wlow (S : S31x44.Idx → Elt F .f32) (C : S3968x5632.Idx → Elt F .fp8e4m3) (y : S4096x5632.Idx) : Elt F .bf16 :=
  wel (S (ix2 (Fin.ofNat 31 ((y 0).val / 128)) (Fin.ofNat 44 ((y 1).val / 128)))) (C (ix2 (Fin.ofNat 3968 (y 0).val) (Fin.ofNat 5632 (y 1).val)))

variable (c : Dev nD)

/-- The scratch holds the dequantised weights in the rows below `128 k`, and in the rows of group `k` in the columns
    below `128 j`. -/
def Upto (S : S31x44.Idx → Elt F .f32) (C : S3968x5632.Idx → Elt F .fp8e4m3) (k j : ℕ) (f : Buf (Elt F) (wM.view.loc (c : Thread nD τ))) : Prop :=
  ∀ y : S4096x5632.Idx, ((y 0).val < 128 * k ∨ ((y 0).val < 128 * k + 128 ∧ (y 1).val < 128 * j)) → wM.view.read (Elt F) f y = wlow S C y

theorem rslot_emb (s : Fin 2) (r : Fin 128) (q : Fin 5632) : (rslot s).view.emb (ix2 r q) = ringM.view.emb (ix3 s r q) := by
  show (Rect.unit (s := S2x128x5632) (slotOff s) S1x128x5632.size (slotOff_inb s)).emb (Shape.reshapeEquiv (s := S1x128x5632) (s' := S128x5632) (squeezes_S1x128x5632_S128x5632).numel_eq (ix2 r q)) = ix3 s r q
  rw [show Shape.reshapeEquiv (s := S1x128x5632) (s' := S128x5632) (squeezes_S1x128x5632_S128x5632).numel_eq (ix2 r q) = ix3 0 r q from Shape.reshapeEquiv_cons_one (d := ![128, 5632]) _ _ |>.trans (by funext a; fin_cases a <;> rfl)]
  funext a; apply Fin.ext; fin_cases a
  · show s.val + 1 * 0 = s.val; omega
  · show 0 + 1 * r.val = r.val; omega
  · show 0 + 1 * q.val = q.val; omega

theorem read_ring (s : Fin 2) (f : Buf (Elt F) ((rslot s).view.loc (c : Thread nD τ))) (p : S128x5632.Idx → Elt F .fp8e4m3) (r : Fin 128) (q : Fin 5632) :
    ringM.view.read (Elt F) ((rslot s).view.writes (Elt F) f [⟨Rect.whole S128x5632, p⟩]) (ix3 s r q) = p (ix2 r q) := by
  have h := View.read_writes_cons_emb (Val := Elt F) (rslot s).view f (Rect.whole S128x5632) p [] (ix2 r q)
  rw [Rect.emb_whole_apply] at h
  rw [← h]
  have e : ∀ G : S2x128x5632.Idx → Elt F .fp8e4m3, G (ringM.view.emb (ix3 s r q)) = G ((rslot s).view.emb (ix2 r q)) := fun G => congrArg G (rslot_emb s r q).symm
  exact e _

theorem read_grp (XA : Buf (Elt F) (codesM.view.loc (c : Thread nD τ))) (b : Fin 31) (r : Fin 128) (q : Fin 5632) :
    (grp b).view.read (Elt F) XA (ix2 r q) = codesM.view.read (Elt F) XA (ix2 (Fin.ofNat 3968 (128 * b.val + r.val)) q) := by
  have e : (grp b).view.emb (ix2 r q) = codesM.view.emb (ix2 (Fin.ofNat 3968 (128 * b.val + r.val)) q) := by
    show codesM.view.emb ((Rect.unit (s := S3968x5632) (grpOff b) S128x5632.size (grpOff_inb b)).emb (ix2 r q)) = _
    congr 1
    have := b.isLt; have := r.isLt
    funext a; apply Fin.ext; fin_cases a
    · show 128 * b.val + 1 * r.val = (128 * b.val + r.val) % 3968; omega
    · show 0 + 1 * q.val = q.val; omega
  exact congrArg (fun i : S3968x5632.Idx => (XA : S3968x5632.Idx → Elt F .fp8e4m3) i) e

theorem pay5_apply (v : Elt F .f32) (w : S1x128x128.Idx → Elt F .fp8e4m3) (y : S128x128.Idx) :
    k0_pay5 (F := F) v w y = wel v (shapeCast S128x128 w shapeCasts_S1x128x128_S128x128 y) := by
  unfold k0_pay5
  rw [shapeCast_self]
  rfl

theorem upto_step (XA : Buf (Elt F) (codesM.view.loc (c : Thread nD τ)))
    (arg1 : Memref sig .tc .smem S31x44 .f32) (X1 : Buf (Elt F) (arg1.view.loc (c : Thread nD τ)))
    {k j : ℕ} (hk : k < 31) (hj : j < 44) {off : Fin 2 → ℕ} {inb} {w : (Rect.unit (s := S4096x5632) off S128x128.size inb).shape.Idx → Elt F .bf16}
    {L : List (View.Piece (Elt F) S4096x5632 .bf16)} {f : Buf (Elt F) (wM.view.loc (c : Thread nD τ))}
    {offS : Fin 2 → ℕ} {inbS} {hF} {offR : Fin 3 → ℕ} {inbR} {s : Fin 2} {b : Fin 31} {g}
    (hw : w = k0_pay5 (F := F)
      (arg1.view.readAt (Elt F) (Rect.unit (s := S31x44) offS S1x1.size inbS).toLoadRect X1 (Shape.Idx.first hF))
      (ringM.view.readAt (Elt F) (Rect.unit (s := S2x128x5632) offR S1x128x128.size inbR).toLoadRect
        ((rslot s).view.writes (Elt F) g [⟨Rect.whole S128x5632, ReadAs.same.apply ((grp b).view.read (Elt F) XA)⟩])))
    (hoff : off = ![128 * k, 128 * j]) (hS : offS = ![k, j]) (hR : offR = ![k % 2, 0, 128 * j])
    (hs : s.val = k % 2) (hb : b.val = k)
    (h : Upto c (arg1.view.read (Elt F) X1) (codesM.view.read (Elt F) XA) k j (wM.view.writes (Elt F) f L)) :
    Upto c (arg1.view.read (Elt F) X1) (codesM.view.read (Elt F) XA) k (j + 1) (wM.view.writes (Elt F) f (⟨Rect.unit off S128x128.size inb, w⟩ :: L)) := by
  intro y hy
  by_cases hm : 128 * k ≤ (y 0).val ∧ (y 0).val < 128 * k + 128 ∧ 128 * j ≤ (y 1).val ∧ (y 1).val < 128 * j + 128
  · obtain ⟨h0, h0', h1, h1'⟩ := hm
    have hr : (y 0).val - 128 * k < 128 := by omega
    have hq : (y 1).val - 128 * j < 128 := by omega
    rw [View.read_writes_cons_unit_of_mem (Val := Elt F) wM.view f inb w L y (ix2 ⟨_, hr⟩ ⟨_, hq⟩) hoff (by
      intro a; fin_cases a
      · show (y 0).val = 128 * k + ((y 0).val - 128 * k); omega
      · show (y 1).val = 128 * j + ((y 1).val - 128 * j); omega)]
    subst hw hS hR hoff
    rw [pay5_apply]
    unfold wlow
    refine congrArg₂ wel ?_ ?_
    rotate_left
    · refine (shapeCast_dropUnit_apply ![128, 128] _ _ _).trans ?_
      have e := read_ring c s g (ReadAs.same.apply ((grp b).view.read (Elt F) XA)) ⟨_, hr⟩ ⟨(y 1).val, (y 1).isLt⟩
      have e' := read_grp c XA b ⟨_, hr⟩ ⟨(y 1).val, (y 1).isLt⟩
      refine Eq.trans (congrArg (ringM.view.read (Elt F) _) (a₂ := ix3 s ⟨_, hr⟩ ⟨(y 1).val, (y 1).isLt⟩) ?_) ?_
      rotate_left
      · refine Eq.trans e (Eq.trans e' ?_)
        have h1 : Fin.ofNat 3968 (128 * b.val + ((y 0).val - 128 * k)) = Fin.ofNat 3968 (y 0).val := congrArg (Fin.ofNat 3968) (by omega)
        have h2 : (⟨(y 1).val, (y 1).isLt⟩ : Fin 5632) = Fin.ofNat 5632 (y 1).val := Fin.ext (Nat.mod_eq_of_lt (y 1).isLt).symm
        have h3 : ∀ a a' b b', a = a' → b = b' → codesM.view.read (Elt F) XA (ix2 a b) = codesM.view.read (Elt F) XA (ix2 a' b') := by
          rintro _ _ _ _ rfl rfl; rfl
        exact h3 _ _ _ _ h1 h2
      · funext a; apply Fin.ext; fin_cases a
        · show k % 2 + 1 * 0 = s.val; omega
        · show 0 + 1 * ((y 0).val - 128 * k) = (y 0).val - 128 * k; omega
        · show 128 * j + 1 * ((y 1).val - 128 * j) = (y 1).val; omega
    · refine congrArg (arg1.view.read (Elt F) X1) ?_
      funext a; apply Fin.ext; fin_cases a
      · show k + 1 * 0 = (y 0).val / 128 % 31; omega
      · show j + 1 * 0 = (y 1).val / 128 % 44; omega
  · have e : wM.view.read (Elt F) (wM.view.writes (Elt F) f (⟨Rect.unit off S128x128.size inb, w⟩ :: L)) y = wM.view.read (Elt F) (wM.view.writes (Elt F) f L) y := by
      by_cases hm0 : 128 * k ≤ (y 0).val ∧ (y 0).val < 128 * k + 128
      · exact View.read_writes_cons_unit_of_not_mem (Val := Elt F) wM.view f inb w L y hoff 1 (by
          show (y 1).val < 128 * j ∨ 128 * j + 128 ≤ (y 1).val; omega)
      · exact View.read_writes_cons_unit_of_not_mem (Val := Elt F) wM.view f inb w L y hoff 0 (by
          show (y 0).val < 128 * k ∨ 128 * k + 128 ≤ (y 0).val; omega)
    rw [e]; exact h y (by omega)

theorem upto_next {S : S31x44.Idx → Elt F .f32} {C : S3968x5632.Idx → Elt F .fp8e4m3} {k : ℕ} {f : Buf (Elt F) (wM.view.loc (c : Thread nD τ))}
    (h : Upto c S C k 44 f) : Upto c S C (k + 1) 0 f := fun y hy => h y (by
  have : (y 1).val < 5632 := (y 1).isLt
  omega)

end Values

/-! ## One trip -/

section Trip
variable (c : Dev nD) (XA : Buf (Elt F) (codesM.view.loc (c : Thread nD τ)))
  (i : grid0.Coords)
  (arg1 : Memref sig .tc .smem S31x44 .f32) (harg1 : arg1.IsWhole) (X1 : Buf (Elt F) (arg1.view.loc (c : Thread nD τ)))
  (arg2 : Memref sig .tc .vmem S31x128 .i32) (harg2 : arg2.IsWhole)
  (arg3 : Memref sig .tc .vmem S1x128 .i32) (harg3 : arg3.IsWhole)
  (arg4 : Memref sig .tc .vmem S256x4096 .bf16) (harg4 : arg4.IsWhole)
  (arg7 : Memref sig .tc .vmem S256x5632 .bf16) (harg7 : arg7.IsWhole)
  (arg8 : Memref sig .tc .vmem S256x3968 .fp8e4m3) (harg8 : arg8.IsWhole)
  (arg9 : Memref sig .tc .vmem S256x31 .f32) (harg9 : arg9.IsWhole)
  (k0_h1 : k0_cond1 i = 1#1)

abbrev sclP : sProp 𝕄 := arg1.view.loc (c : Thread nD τ) ↦[arg1.view.set]{fullShare} X1

/-- Slot `k % 2` before trip `k`: group `k` in flight, or idle after the last. -/
def curAt (k : ℕ) : sProp 𝕄 :=
  if k < 31 then iprop(∃ f, flightP c XA (Ring.sl 2 k) (Ring.bk 31 k) f)
  else iprop((∃ f, slotP c (Ring.sl 2 k) f) ∗ cellP c (Ring.sl 2 k))

def invAt (k : ℕ) : sProp 𝕄 :=
  iprop((∃ f, ⌜Upto c (arg1.view.read (Elt F) X1) (codesM.view.read (Elt F) XA) k 0 f⌝ ∗ lowP c f) ∗ sclP c arg1 X1 ∗ (∃ W, owes (c : Thread nD τ) 0 W)
    ∗ bigSep (Ring.homeSet 1 k) (homeP c XA) ∗ curAt c XA k
    ∗ (∃ f, slotP c (Ring.sl 2 (k + 1)) f) ∗ cellP c (Ring.sl 2 (k + 1)))

abbrev tripG (k : Fin k0_t1_loop.trips) : Prog (TpuEff nD τ sig (Elt F) Λ₀ .tc) Unit :=
  k0_t1_body (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4 k0_h1 k ()

theorem cond2_of (k : Fin k0_t1_loop.trips) : k0_cond2 k = 1#1 ↔ k.val + 1 < 31 := by
  revert k; decide +kernel

theorem trip_mid (k : Fin k0_t1_loop.trips) (hk : k.val + 1 < 31) :
    invAt c XA arg1 X1 k.val ⊢ wp frame (wpE (defs₀ (F := F)) 𝒱₀ (c : Thread nD τ) none) Set.univ
      (tripG i arg1 harg1 arg2 harg2 arg3 harg3 arg4 harg4 arg7 harg7 arg8 harg8 arg9 harg9 k0_h1 k)
      (fun _ => invAt c XA arg1 X1 (k.val + 1)) := by
  have k0_h2 : k0_cond2 k = 1#1 := (cond2_of k).2 hk
  have hk31 : k.val < 31 := by omega
  unfold invAt curAt
  rw [if_pos hk31, if_pos hk, homes_here c XA k.val hk, homes_next c XA k.val hk, sl2_add2]
  iintro ⟨⟨%f, %hf, HO⟩, HS, ⟨%W, HW⟩, ⟨Hg, Hrest⟩, ⟨%f0, HF0⟩, ⟨%f1, Hs1⟩, Hc1⟩
  dsimp only [tripG]
  sl_unfold [k0_t1_body]
  sl_exec
  sl_step
  isplitl [HO]
  · iexists _
    isplitr
    rotate_left
    · iexact HO
    ipureintro
    sl_unfold_run_names
    apply upto_next
    iterate 44
      refine upto_step c XA arg1 X1 (s := Ring.sl 2 k.val) (b := Ring.bk 31 k.val) (offS := ?_) (inbS := ?_) (hF := ?_) (offR := ?_) (inbR := ?_) (g := ?_) hk31 (by decide) ?_ ?_ ?_ ?_ rfl (Ring.bk_val hk31) ?_
      rotate_left 6
      · rfl
      · exact ClosedOff.eq
      · exact ClosedOff.eq
      · exact ClosedOff.eq
    exact hf
  isplitl [HS]; · iexact HS
  isplitl [HW]; · iexists _; iexact HW
  isplitl [HF0_src Hrest]
  · isplitl [HF0_src]; · iexact HF0_src
    iexact Hrest
  isplitl [Hc1]; · iexists f1; iexact Hc1
  isplitl [HF0_dst]; · iexists _; iexact HF0_dst
  iexact HF0

theorem trip_last (k : Fin k0_t1_loop.trips) (hk : ¬ k.val + 1 < 31) (hk31 : k.val < 31) :
    invAt c XA arg1 X1 k.val ⊢ wp frame (wpE (defs₀ (F := F)) 𝒱₀ (c : Thread nD τ) none) Set.univ
      (tripG i arg1 harg1 arg2 harg2 arg3 harg3 arg4 harg4 arg7 harg7 arg8 harg8 arg9 harg9 k0_h1 k)
      (fun _ => invAt c XA arg1 X1 (k.val + 1)) := by
  have k0_h2 : ¬ k0_cond2 k = 1#1 := fun h => hk ((cond2_of k).1 h)
  unfold invAt curAt
  rw [if_pos hk31, if_neg hk, homes_last c XA k.val hk hk31, sl2_add2]
  iintro ⟨⟨%f, %hf, HO⟩, HS, ⟨%W, HW⟩, Hrest, ⟨%f0, HF0⟩, ⟨%f1, Hs1⟩, Hc1⟩
  dsimp only [tripG]
  sl_unfold [k0_t1_body]
  sl_exec
  sl_step
  isplitl [HO]
  · iexists _
    isplitr
    rotate_left
    · iexact HO
    ipureintro
    sl_unfold_run_names
    apply upto_next
    iterate 44
      refine upto_step c XA arg1 X1 (s := Ring.sl 2 k.val) (b := Ring.bk 31 k.val) (offS := ?_) (inbS := ?_) (hF := ?_) (offR := ?_) (inbR := ?_) (g := ?_) hk31 (by decide) ?_ ?_ ?_ ?_ rfl (Ring.bk_val hk31) ?_
      rotate_left 6
      · rfl
      · exact ClosedOff.eq
      · exact ClosedOff.eq
      · exact ClosedOff.eq
    exact hf
  isplitl [HS]; · iexact HS
  isplitl [HW]; · iexists _; iexact HW
  isplitl [HF0_src Hrest]
  · isplitl [HF0_src]; · iexact HF0_src
    iexact Hrest
  isplitl [Hs1 Hc1]
  · isplitl [Hs1]; · iexists f1; iexact Hs1
    iexact Hc1
  isplitl [HF0_dst]; · iexists _; iexact HF0_dst
  iexact HF0

theorem trip (k : Fin k0_t1_loop.trips) :
    invAt c XA arg1 X1 k.val ⊢ wp frame (wpE (defs₀ (F := F)) 𝒱₀ (c : Thread nD τ) none) Set.univ
      (tripG i arg1 harg1 arg2 harg2 arg3 harg3 arg4 harg4 arg7 harg7 arg8 harg8 arg9 harg9 k0_h1 k)
      (fun _ => invAt c XA arg1 X1 (k.val + 1)) := by
  have hk31 : k.val < 31 := Nat.lt_of_lt_of_le k.isLt k0_t1_abs.2.1
  by_cases hk : k.val + 1 < 31
  · exact trip_mid c XA i arg1 harg1 X1 arg2 harg2 arg3 harg3 arg4 harg4 arg7 harg7 arg8 harg8 arg9 harg9 k0_h1 k hk
  · exact trip_last c XA i arg1 harg1 X1 arg2 harg2 arg3 harg3 arg4 harg4 arg7 harg7 arg8 harg8 arg9 harg9 k0_h1 k hk hk31

set_option warn.classDefReducibility false in
/-- The loading loop by its invariant. -/
@[sl_loop] def loopInv1 :
    LoopInvTy_k0_t1 (F := F) Unit ℕ (UU nD τ) ℕ 𝒱₀ c none Set.univ i arg1 harg1 arg2 harg2 arg3 harg3 arg4 harg4 codesM (Memref.isWhole_whole _) woutM (Memref.isWhole_whole _)
      arg7 harg7 arg8 harg8 arg9 harg9 wM (Memref.isWhole_whole _) xM (Memref.isWhole_whole _) ringM (Memref.isWhole_whole _) cc0_scratch3 cc0_scratch4 k0_h1 where
  inv k _ := invAt c XA arg1 X1 k
  step k acc := by
    exact (trip c XA i arg1 harg1 X1 arg2 harg2 arg3 harg3 arg4 harg4 arg7 harg7 arg8 harg8 arg9 harg9 k0_h1 k : _)

end Trip
end Cert.Kernel.Own
end
-- ==== Proof.KSlab.lean ====
/-
  The quantising loop: one trip takes 32 rows of the block of activations. What a trip leaves is stated by the
  functions below (a tile's words gathered, its largest magnitude, its power-of-two scale, its codes).
-/
module

public import proofs.«01_k».proof.Proof.KLoad

@[expose] public section

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UU nD τ) ℕ

/-! ## Filling a matrix tile by tile -/

section Tiles
variable {R C : ℕ} {e : EltTy} {sp : Space}

/-- The memref holds `T` in the rows below `h k`, and in the rows of band `k` in the columns below `w j`. -/
def UptoT (M : Memref sig .tc sp ⟨2, ![R, C]⟩ e) (f : BufTy.Contents (Elt F) M.view.ty) (T : (⟨2, ![R, C]⟩ : Shape).Idx → Elt F e) (h w k j : ℕ) : Prop :=
  ∀ y : (⟨2, ![R, C]⟩ : Shape).Idx, ((y 0).val < h * k ∨ ((y 0).val < h * k + h ∧ (y 1).val < w * j)) → M.view.read (Elt F) f y = T y

variable {M : Memref sig .tc sp ⟨2, ![R, C]⟩ e} {f : BufTy.Contents (Elt F) M.view.ty} {T : (⟨2, ![R, C]⟩ : Shape).Idx → Elt F e} {h w k j : ℕ}

theorem upto_tile {off : Fin 2 → ℕ} {inb} {p : (Rect.unit (s := ⟨2, ![R, C]⟩) off ![h, w] inb).shape.Idx → Elt F e}
    {L : List (View.Piece (Elt F) ⟨2, ![R, C]⟩ e)}
    (hp : ∀ (r : Fin h) (q : Fin w) (y : (⟨2, ![R, C]⟩ : Shape).Idx), (y 0).val = h * k + r.val → (y 1).val = w * j + q.val → p (ix2 r q) = T y)
    (hoff : off = ![h * k, w * j])
    (H : UptoT M (M.view.writes (Elt F) f L) T h w k j) :
    UptoT M (M.view.writes (Elt F) f (⟨Rect.unit off ![h, w] inb, p⟩ :: L)) T h w k (j + 1) := by
  intro y hy
  rw [Nat.mul_succ] at hy
  by_cases hm : h * k ≤ (y 0).val ∧ (y 0).val < h * k + h ∧ w * j ≤ (y 1).val ∧ (y 1).val < w * j + w
  · obtain ⟨h0, h0', h1, h1'⟩ := hm
    have hr : (y 0).val - h * k < h := by omega
    have hq : (y 1).val - w * j < w := by omega
    refine (View.read_writes_cons_unit_of_mem (Val := Elt F) M.view f inb p L y (ix2 ⟨_, hr⟩ ⟨_, hq⟩) hoff (by
      intro a; fin_cases a
      · show (y 0).val = h * k + ((y 0).val - h * k); omega
      · show (y 1).val = w * j + ((y 1).val - w * j); omega)).trans ?_
    exact hp _ _ y (by show _ = h * k + ((y 0).val - h * k); omega) (by show _ = w * j + ((y 1).val - w * j); omega)
  · have e : M.view.read (Elt F) (M.view.writes (Elt F) f (⟨Rect.unit off ![h, w] inb, p⟩ :: L)) y = M.view.read (Elt F) (M.view.writes (Elt F) f L) y := by
      by_cases hm0 : h * k ≤ (y 0).val ∧ (y 0).val < h * k + h
      · exact View.read_writes_cons_unit_of_not_mem (Val := Elt F) M.view f inb p L y hoff 1 (by
          show (y 1).val < w * j ∨ w * j + w ≤ (y 1).val; omega)
      · exact View.read_writes_cons_unit_of_not_mem (Val := Elt F) M.view f inb p L y hoff 0 (by
          show (y 0).val < h * k ∨ h * k + h ≤ (y 0).val; omega)
    rw [e]; exact H y (by omega)

theorem upto_band {n : ℕ} (hn : C ≤ w * n) (H : UptoT M f T h w k n) : UptoT M f T h w (k + 1) 0 := fun y hy => H y (by
  have : (y 1).val < C := (y 1).isLt
  rw [Nat.mul_succ, Nat.mul_zero] at hy
  omega)

end Tiles

/-! ## One block of 128 inlier columns -/

section Block

/-- A tile of activations as f32. -/
def wide (v : Vec F S32x128 .bf16) : FVec F S32x128 .f32 := extf .f32 (shapeCast S32x128 v shapeCasts_S32x128_S32x128) bitsLt_bf16_f32
/-- A row of indices over the 32 rows of a slab. -/
def rowsOf (r : Vec F S1x128 .i32) : IVec S32x128 32 :=
  broadcastTo S32x128 (shapeCast S1x128 (shapeCast S1x128 r shapeCasts_S1x128_S1x128) shapeCasts_S1x128_S1x128) broadcasts_S1x128_S32x128
/-- The lane an index names, and the tile it names. -/
def laneOf (q : IVec S32x128 32) : IVec S32x128 32 := andi q (broadcast S32x128 127#32)
def tileNo (q : IVec S32x128 32) : IVec S32x128 32 := shrsi q (broadcast S32x128 7#32)
/-- A tile's lanes gathered at `p`. -/
def gat (x : FVec F S32x128 .f32) (p : IVec S32x128 32) : FVec F S32x128 .f32 :=
  dynamicGather 1 x (shapeCast S32x128 (shapeCast S32x128x1 (select (cmpi .slt p (broadcast S32x128 0#32)) (addi p (broadcast S32x128 128#32)) p) shapeCasts_S32x128_S32x128x1) shapeCasts_S32x128x1_S32x128)
/-- The inliers of block `b`: gathered from tile `b` or tile `b + 1`. -/
def words (b : BitVec 32) (r : Vec F S1x128 .i32) (x0 x1 : Vec F S32x128 .bf16) : FVec F S32x128 .bf16 :=
  truncf .bf16 (select (cmpi .eq (tileNo (rowsOf (F := F) r)) (broadcast S32x128 b)) (gat (wide x0) (laneOf (rowsOf (F := F) r))) (gat (wide x1) (laneOf (rowsOf (F := F) r)))) bitsLt_bf16_f32
/-- The largest magnitude of each row, over all its lanes. -/
def amaxOf (v : FVec F S32x128 .bf16) : FVec F S32x128 .bf16 :=
  broadcastTo S32x128 (shapeCast S32x1 (shapeCast S32x1 (multiReduction .maximumf [1] S32 (absf v) 0xFF80#16 reduces_S32x128_S32 (.inr rfl) rfl) shapeCasts_S32_S32x1) shapeCasts_S32x1_S32x1) broadcasts_S32x1_S32x128
def kF (b : BitVec 32) : FVec F S32x128 .f32 := broadcast S32x128 (Scalar.ofBits (F := F) .f32 b)
def oneB : FVec F S32x128 .bf16 := broadcast S32x128 (Scalar.ofBits (F := F) .bf16 0x3F80#16)
/-- The power of two of a largest magnitude, before and after the two corrections. -/
def pow0 (a : FVec F S32x128 .f32) : FVec F S32x128 .f32 :=
  exp2 (addf (floor (divf (log (divf a (kF 0x43E00000#32))) (log (kF 0x40000000#32)))) (kF 0x3F800000#32))
def pow1 (a : FVec F S32x128 .f32) : FVec F S32x128 .f32 :=
  select (cmpf .oge a (mulf (pow0 a) (kF 0x43E00000#32))) (mulf (pow0 a) (kF 0x40000000#32)) (pow0 a)
def pow2 (a : FVec F S32x128 .f32) : FVec F S32x128 .f32 :=
  select (cmpf .olt a (mulf (pow1 a) (kF 0x43600000#32))) (mulf (pow1 a) (kF 0x3F000000#32)) (pow1 a)
/-- Whether the quotient is a normal number. -/
def normalOf (m : FVec F S32x128 .bf16) : IVec S32x128 1 := cmpf .oge m (broadcast S32x128 (Scalar.ofBits (F := F) .bf16 0x04E0#16))
def scaleOf (m : FVec F S32x128 .bf16) : FVec F S32x128 .bf16 :=
  select (normalOf m) (truncf .bf16 (pow2 (extf .f32 m bitsLt_bf16_f32)) bitsLt_bf16_f32) oneB
def invOf (m : FVec F S32x128 .bf16) : FVec F S32x128 .bf16 :=
  select (normalOf m) (truncf .bf16 (divf (kF 0x3F800000#32) (pow2 (extf .f32 m bitsLt_bf16_f32))) bitsLt_bf16_f32) oneB
/-- The codes, the dequantised values. -/
def codesOf (v : FVec F S32x128 .bf16) : FVec F S32x128 .fp8e4m3 :=
  truncf .fp8e4m3 (minimumf (broadcast S32x128 (Scalar.truncf .bf16 bitsLt_bf16_f32 (Scalar.ofBits (F := F) .f32 0x43E00000#32)))
    (maximumf (broadcast S32x128 (Scalar.truncf .bf16 bitsLt_bf16_f32 (Scalar.ofBits (F := F) .f32 0xC3E00000#32))) (mulf v (invOf (amaxOf v))))) bitsLt_fp8e4m3_bf16
def deqOf (v : FVec F S32x128 .bf16) : FVec F S32x128 .bf16 :=
  shapeCast S32x128 (mulf (extf .bf16 (codesOf v) bitsLt_fp8e4m3_bf16) (scaleOf (amaxOf v))) shapeCasts_S32x128_S32x128

variable (Q : S31x128.Idx → BitVec 32) (O : S1x128.Idx → BitVec 32) (X : S256x4096.Idx → Elt F .bf16)

/-- Row `b` of the inlier indices; tile `b` of the rows of slab `k`. -/
def qRow (b : ℕ) : Vec F S1x128 .i32 := fun i => Q (ix2 (Fin.ofNat 31 b) (Fin.ofNat 128 (i 1).val))
def xTile (k b : ℕ) : Vec F S32x128 .bf16 := fun i => X (ix2 (Fin.ofNat 256 (32 * k + (i 0).val)) (Fin.ofNat 4096 (128 * b + (i 1).val)))
/-- The inliers of block `b` in slab `k`. -/
def blk (k b : ℕ) : FVec F S32x128 .bf16 := words (BitVec.ofNat 32 b) (qRow (F := F) Q b) (xTile X k b) (xTile X k (b + 1))
/-- The scales of the blocks before `n`, a lane per block; the outliers found in the tiles before `n`. -/
def sclTo (k : ℕ) : ℕ → FVec F S32x128 .f32
  | 0 => kF 0#32
  | n + 1 => select (cmpi .eq (iota .tc S32x128 32 [1] iota_S32x128_d1_w32) (broadcast S32x128 (BitVec.ofNat 32 n))) (extf .f32 (scaleOf (amaxOf (blk Q X k n))) bitsLt_bf16_f32) (sclTo k n)
def outTo (k : ℕ) : ℕ → FVec F S32x128 .f32
  | 0 => kF 0#32
  | n + 1 => select (cmpi .eq (tileNo (rowsOf (F := F) O)) (broadcast S32x128 (BitVec.ofNat 32 n))) (gat (wide (xTile X k n)) (laneOf (rowsOf (F := F) O))) (outTo k n)
def sclK (k : ℕ) : FVec F S32x31 .f32 := extractStridedSlice S32x31 ![0, 0] (sclTo Q X k 31) slices_S32x128_o0_0_S32x31
def outK (k : ℕ) : FVec F S32x128 .bf16 := shapeCast S32x128 (truncf .bf16 (outTo O X k 32) bitsLt_bf16_f32) shapeCasts_S32x128_S32x128

/-- What the loop leaves in the three buffers. -/
def codesT (y : S256x3968.Idx) : Elt F .fp8e4m3 := codesOf (blk Q X ((y 0).val / 32) ((y 1).val / 128)) (ix2 (Fin.ofNat 32 (y 0).val) (Fin.ofNat 128 (y 1).val))
def xdT (y : S256x4096.Idx) : Elt F .bf16 :=
  if (y 1).val < 3968 then deqOf (blk Q X ((y 0).val / 32) ((y 1).val / 128)) (ix2 (Fin.ofNat 32 (y 0).val) (Fin.ofNat 128 (y 1).val))
  else outK O X ((y 0).val / 32) (ix2 (Fin.ofNat 32 (y 0).val) (Fin.ofNat 128 (y 1).val))
def sclT (y : S256x31.Idx) : Elt F .f32 := sclK Q X ((y 0).val / 32) (ix2 (Fin.ofNat 32 (y 0).val) (Fin.ofNat 31 (y 1).val))

end Block

/-! ## One trip -/

section Trip
variable (c : Dev nD)
  (i : grid0.Coords)
  (arg1 : Memref sig .tc .smem S31x44 .f32) (harg1 : arg1.IsWhole)
  (arg2 : Memref sig .tc .vmem S31x128 .i32) (harg2 : arg2.IsWhole) (X2 : Buf (Elt F) (arg2.view.loc (c : Thread nD τ)))
  (arg3 : Memref sig .tc .vmem S1x128 .i32) (harg3 : arg3.IsWhole) (X3 : Buf (Elt F) (arg3.view.loc (c : Thread nD τ)))
  (arg4 : Memref sig .tc .vmem S256x4096 .bf16) (harg4 : arg4.IsWhole) (X4 : Buf (Elt F) (arg4.view.loc (c : Thread nD τ)))
  (arg7 : Memref sig .tc .vmem S256x5632 .bf16) (harg7 : arg7.IsWhole)
  (arg8 : Memref sig .tc .vmem S256x3968 .fp8e4m3) (harg8 : arg8.IsWhole)
  (arg9 : Memref sig .tc .vmem S256x31 .f32) (harg9 : arg9.IsWhole)

abbrev Q2 : S31x128.Idx → BitVec 32 := arg2.view.read (Elt F) X2
abbrev O3 : S1x128.Idx → BitVec 32 := arg3.view.read (Elt F) X3
abbrev XX4 : S256x4096.Idx → Elt F .bf16 := arg4.view.read (Elt F) X4

abbrev xP (f : Buf (Elt F) (xM.view.loc (c : Thread nD τ))) : sProp 𝕄 := xM.view.loc (c : Thread nD τ) ↦[xM.view.set]{fullShare} f

def inv2 (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, ⌜UptoT arg8 f (codesT (Q2 c arg2 X2) (XX4 c arg4 X4)) 32 128 k 0⌝ ∗ (arg8.view.loc (c : Thread nD τ) ↦[arg8.view.set]{fullShare} f))
    ∗ (∃ f, ⌜UptoT arg9 f (sclT (Q2 c arg2 X2) (XX4 c arg4 X4)) 32 31 k 0⌝ ∗ (arg9.view.loc (c : Thread nD τ) ↦[arg9.view.set]{fullShare} f))
    ∗ (∃ f, ⌜UptoT xM f (xdT (Q2 c arg2 X2) (O3 c arg3 X3) (XX4 c arg4 X4)) 32 128 k 0⌝ ∗ xP c f))

abbrev tripG2 (k : Fin k0_t2_loop.trips) : Prog (TpuEff nD τ sig (Elt F) Λ₀ .tc) Unit :=
  k0_t2_body (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4 k ()

theorem tile4 (k b : ℕ) (hk : k < 8) (hb : b < 32) {off : Fin 2 → ℕ} {inb} (hoff : off = ![32 * k, 128 * b]) :
    arg4.view.readAt (Elt F) (Rect.unit (s := S256x4096) off S32x128.size inb).toLoadRect X4 = xTile (XX4 c arg4 X4) k b := by
  subst hoff
  funext y
  have h0 : (y 0).val < 32 := (y 0).isLt
  have h1 : (y 1).val < 128 := (y 1).isLt
  have e : (Rect.unit (s := S256x4096) ![32 * k, 128 * b] S32x128.size inb).toLoadRect.idx y = ix2 (Fin.ofNat 256 (32 * k + (y 0).val)) (Fin.ofNat 4096 (128 * b + (y 1).val)) := by
    funext a; apply Fin.ext; fin_cases a
    · show 32 * k + 1 * (y 0).val = (32 * k + (y 0).val) % 256; omega
    · show 128 * b + 1 * (y 1).val = (128 * b + (y 1).val) % 4096; omega
  exact congrArg (arg4.view.read (Elt F) X4) e

theorem row2 (b : ℕ) (hb : b < 31) {inb} :
    arg2.view.readAt (Elt F) (Rect.unit (s := S31x128) ![b, 0] S1x128.size inb).toLoadRect X2 = qRow (F := F) (Q2 c arg2 X2) b := by
  funext y
  have h0 : (y 0).val < 1 := (y 0).isLt
  have e : (Rect.unit (s := S31x128) ![b, 0] S1x128.size inb).toLoadRect.idx y = ix2 (Fin.ofNat 31 b) (Fin.ofNat 128 (y 1).val) := by
    have h1 : (y 1).val < 128 := (y 1).isLt
    funext a; apply Fin.ext; fin_cases a
    · show b + 1 * (y 0).val = b % 31; omega
    · show 0 + 1 * (y 1).val = (y 1).val % 128; omega
  exact congrArg (arg2.view.read (Elt F) X2) e

theorem codes_step {k b : ℕ} (hk : k < 8) (hb : b < 31) {f : Buf (Elt F) (arg8.view.loc (c : Thread nD τ))} {off inb p L}
    {offA inbA offB inbB inbQ}
    (hw : p = codesOf (words (BitVec.ofNat 32 b) (arg2.view.readAt (Elt F) (Rect.unit (s := S31x128) ![b, 0] S1x128.size inbQ).toLoadRect X2)
      (arg4.view.readAt (Elt F) (Rect.unit (s := S256x4096) offA S32x128.size inbA).toLoadRect X4)
      (arg4.view.readAt (Elt F) (Rect.unit (s := S256x4096) offB S32x128.size inbB).toLoadRect X4)))
    (hoff : off = ![32 * k, 128 * b]) (hA : offA = ![32 * k, 128 * b]) (hB : offB = ![32 * k, 128 * (b + 1)])
    (H : UptoT arg8 (arg8.view.writes (Elt F) f L) (codesT (Q2 c arg2 X2) (XX4 c arg4 X4)) 32 128 k b) :
    UptoT arg8 (arg8.view.writes (Elt F) f (⟨Rect.unit (s := S256x3968) off S32x128.size inb, p⟩ :: L)) (codesT (Q2 c arg2 X2) (XX4 c arg4 X4)) 32 128 k (b + 1) := by
  refine upto_tile ?_ hoff H
  intro r q y h0 h1
  rw [hw, row2 c arg2 X2 b hb, tile4 c arg4 X4 k b hk (by omega) hA, tile4 c arg4 X4 k (b + 1) hk (by omega) hB]
  have e0 : (y 0).val / 32 = k := by omega
  have e1 : (y 1).val / 128 = b := by omega
  have e2 : ix2 r q = ix2 (Fin.ofNat 32 (y 0).val) (Fin.ofNat 128 (y 1).val) := by
    funext a; apply Fin.ext; fin_cases a
    · show r.val = (y 0).val % 32; omega
    · show q.val = (y 1).val % 128; omega
  unfold codesT
  rw [e0, e1, ← e2]
  rfl

theorem deq_step {k b : ℕ} (hk : k < 8) (hb : b < 31) {f : Buf (Elt F) (xM.view.loc (c : Thread nD τ))} {off inb p L}
    {offA inbA offB inbB inbQ}
    (hw : p = deqOf (words (BitVec.ofNat 32 b) (arg2.view.readAt (Elt F) (Rect.unit (s := S31x128) ![b, 0] S1x128.size inbQ).toLoadRect X2)
      (arg4.view.readAt (Elt F) (Rect.unit (s := S256x4096) offA S32x128.size inbA).toLoadRect X4)
      (arg4.view.readAt (Elt F) (Rect.unit (s := S256x4096) offB S32x128.size inbB).toLoadRect X4)))
    (hoff : off = ![32 * k, 128 * b]) (hA : offA = ![32 * k, 128 * b]) (hB : offB = ![32 * k, 128 * (b + 1)])
    (H : UptoT xM (xM.view.writes (Elt F) f L) (xdT (Q2 c arg2 X2) (O3 c arg3 X3) (XX4 c arg4 X4)) 32 128 k b) :
    UptoT xM (xM.view.writes (Elt F) f (⟨Rect.unit (s := S256x4096) off S32x128.size inb, p⟩ :: L)) (xdT (Q2 c arg2 X2) (O3 c arg3 X3) (XX4 c arg4 X4)) 32 128 k (b + 1) := by
  refine upto_tile ?_ hoff H
  intro r q y h0 h1
  rw [hw, row2 c arg2 X2 b hb, tile4 c arg4 X4 k b hk (by omega) hA, tile4 c arg4 X4 k (b + 1) hk (by omega) hB]
  have e0 : (y 0).val / 32 = k := by omega
  have e1 : (y 1).val / 128 = b := by omega
  have e2 : ix2 r q = ix2 (Fin.ofNat 32 (y 0).val) (Fin.ofNat 128 (y 1).val) := by
    funext a; apply Fin.ext; fin_cases a
    · show r.val = (y 0).val % 32; omega
    · show q.val = (y 1).val % 128; omega
  unfold xdT
  rw [if_pos (show (y 1).val < 3968 by omega), e0, e1, ← e2]
  rfl

theorem scl_step {k b : ℕ} (hk : k < 8) (hb : b < 31) {p acc : FVec F S32x128 .f32} {offA inbA offB inbB inbQ}
    (hw : p = select (cmpi .eq (iota .tc S32x128 32 [1] iota_S32x128_d1_w32) (broadcast S32x128 (BitVec.ofNat 32 b)))
      (extf .f32 (scaleOf (amaxOf (words (BitVec.ofNat 32 b) (arg2.view.readAt (Elt F) (Rect.unit (s := S31x128) ![b, 0] S1x128.size inbQ).toLoadRect X2)
        (arg4.view.readAt (Elt F) (Rect.unit (s := S256x4096) offA S32x128.size inbA).toLoadRect X4)
        (arg4.view.readAt (Elt F) (Rect.unit (s := S256x4096) offB S32x128.size inbB).toLoadRect X4)))) bitsLt_bf16_f32) acc)
    (hA : offA = ![32 * k, 128 * b]) (hB : offB = ![32 * k, 128 * (b + 1)])
    (H : acc = sclTo (Q2 c arg2 X2) (XX4 c arg4 X4) k b) : p = sclTo (Q2 c arg2 X2) (XX4 c arg4 X4) k (b + 1) := by
  rw [hw, row2 c arg2 X2 b hb, tile4 c arg4 X4 k b hk (by omega) hA, tile4 c arg4 X4 k (b + 1) hk (by omega) hB, H]
  rfl

theorem out_step {k b : ℕ} (hk : k < 8) (hb : b < 32) {p acc : FVec F S32x128 .f32} {offA inbA inbO}
    (hw : p = select (cmpi .eq (tileNo (rowsOf (F := F) (arg3.view.readAt (Elt F) (Rect.unit (s := S1x128) ![0, 0] S1x128.size inbO).toLoadRect X3))) (broadcast S32x128 (BitVec.ofNat 32 b)))
      (gat (wide (arg4.view.readAt (Elt F) (Rect.unit (s := S256x4096) offA S32x128.size inbA).toLoadRect X4))
        (laneOf (rowsOf (F := F) (arg3.view.readAt (Elt F) (Rect.unit (s := S1x128) ![0, 0] S1x128.size inbO).toLoadRect X3)))) acc)
    (hA : offA = ![32 * k, 128 * b])
    (H : acc = outTo (O3 c arg3 X3) (XX4 c arg4 X4) k b) : p = outTo (O3 c arg3 X3) (XX4 c arg4 X4) k (b + 1) := by
  have e : arg3.view.readAt (Elt F) (Rect.unit (s := S1x128) ![0, 0] S1x128.size inbO).toLoadRect X3 = O3 c arg3 X3 := by
    funext y
    have e : (Rect.unit (s := S1x128) ![0, 0] S1x128.size inbO).toLoadRect.idx y = y := by
      funext a; apply Fin.ext; fin_cases a
      · show 0 + 1 * (y 0).val = (y 0).val; omega
      · show 0 + 1 * (y 1).val = (y 1).val; omega
    exact congrArg (arg3.view.read (Elt F) X3) e
  rw [hw, e, tile4 c arg4 X4 k b hk (by omega) hA, H]
  rfl

theorem scl_piece {k : ℕ} (hk : k < 8) {p : FVec F S32x31 .f32} {acc : FVec F S32x128 .f32}
    (hw : p = extractStridedSlice S32x31 ![0, 0] acc slices_S32x128_o0_0_S32x31)
    (H : acc = sclTo (Q2 c arg2 X2) (XX4 c arg4 X4) k 31) (r : Fin 32) (q : Fin 31) (y : S256x31.Idx)
    (h0 : (y 0).val = 32 * k + r.val) (h1 : (y 1).val = 31 * 0 + q.val) : p (ix2 r q) = sclT (Q2 c arg2 X2) (XX4 c arg4 X4) y := by
  rw [hw, H]
  have e0 : (y 0).val / 32 = k := by omega
  have e2 : ix2 r q = ix2 (Fin.ofNat 32 (y 0).val) (Fin.ofNat 31 (y 1).val) := by
    funext a; apply Fin.ext; fin_cases a
    · show r.val = (y 0).val % 32; omega
    · show q.val = (y 1).val % 31; omega
  unfold sclT
  rw [e0, ← e2]
  rfl

theorem out_piece {k : ℕ} (hk : k < 8) {p : FVec F S32x128 .bf16} {acc : FVec F S32x128 .f32}
    (hw : p = shapeCast S32x128 (truncf .bf16 acc bitsLt_bf16_f32) shapeCasts_S32x128_S32x128)
    (H : acc = outTo (O3 c arg3 X3) (XX4 c arg4 X4) k 32) (r : Fin 32) (q : Fin 128) (y : S256x4096.Idx)
    (h0 : (y 0).val = 32 * k + r.val) (h1 : (y 1).val = 128 * 31 + q.val) : p (ix2 r q) = xdT (Q2 c arg2 X2) (O3 c arg3 X3) (XX4 c arg4 X4) y := by
  rw [hw, H]
  have e0 : (y 0).val / 32 = k := by omega
  have e2 : ix2 r q = ix2 (Fin.ofNat 32 (y 0).val) (Fin.ofNat 128 (y 1).val) := by
    funext a; apply Fin.ext; fin_cases a
    · show r.val = (y 0).val % 32; omega
    · show q.val = (y 1).val % 128; omega
  unfold xdT
  rw [if_neg (show ¬ (y 1).val < 3968 by omega), e0, ← e2]
  rfl

theorem trip2 (k : Fin k0_t2_loop.trips) :
    inv2 c arg2 X2 arg3 X3 arg4 X4 arg8 arg9 k.val ⊢ wp frame (wpE (defs₀ (F := F)) 𝒱₀ (c : Thread nD τ) none) Set.univ
      (tripG2 i arg1 harg1 arg2 harg2 arg3 harg3 arg4 harg4 arg7 harg7 arg8 harg8 arg9 harg9 k)
      (fun _ => inv2 c arg2 X2 arg3 X3 arg4 X4 arg8 arg9 (k.val + 1)) := by
  have hk : k.val < 8 := Nat.lt_of_lt_of_le k.isLt k0_t2_abs.2.1
  unfold inv2
  iintro ⟨H2, H3, H4, ⟨%f8, %h8, H8⟩, ⟨%f9, %h9, H9⟩, ⟨%fx, %hx, HX⟩⟩
  dsimp only [tripG2]
  sl_unfold [k0_t2_body]
  sl_exec
  sl_step
  isplitl [H2]; · iexact H2
  isplitl [H3]; · iexact H3
  isplitl [H4]; · iexact H4
  isplitl [H8]
  · iexists _
    isplitr
    rotate_left
    · iexact H8
    ipureintro
    sl_unfold_run_names
    apply upto_band (n := 31) (by decide)
    iterate 31
      refine codes_step c arg2 X2 arg4 X4 arg8 (offA := ?_) (inbA := ?_) (offB := ?_) (inbB := ?_) (inbQ := ?_) hk (by decide) ?_ ?_ ?_ ?_ ?_
      rotate_left 5
      · rfl
      · exact ClosedOff.eq
      · exact ClosedOff.eq
      · exact ClosedOff.eq
    exact h8
  isplitl [H9]
  · iexists _
    isplitr
    rotate_left
    · iexact H9
    ipureintro
    sl_unfold_run_names
    apply upto_band (n := 1) (by decide)
    refine upto_tile (w := 31) (j := 0) ?_ ClosedOff.eq ?_
    rotate_left
    · exact h9
    refine scl_piece c arg2 X2 arg4 X4 hk (acc := ?_) ?_ ?_
    rotate_left
    · rfl
    iterate 31
      refine scl_step c arg2 X2 arg4 X4 (acc := ?_) (offA := ?_) (inbA := ?_) (offB := ?_) (inbB := ?_) (inbQ := ?_) hk (by decide) ?_ ?_ ?_ ?_
      rotate_left 6
      · rfl
      · exact ClosedOff.eq
      · exact ClosedOff.eq
    rfl
  iexists _
  isplitr
  rotate_left
  · iexact HX
  ipureintro
  sl_unfold_run_names
  apply upto_band (n := 32) (by decide)
  refine upto_tile (w := 128) (j := 31) ?_ ClosedOff.eq ?_
  · refine out_piece c arg2 X2 arg3 X3 arg4 X4 hk (acc := ?_) ?_ ?_
    rotate_left
    · rfl
    iterate 32
      refine out_step c arg3 X3 arg4 X4 (acc := ?_) (offA := ?_) (inbA := ?_) (inbO := ?_) hk (by decide) ?_ ?_ ?_
      rotate_left 4
      · rfl
      · exact ClosedOff.eq
    rfl
  iterate 31
    refine deq_step c arg2 X2 arg3 X3 arg4 X4 (offA := ?_) (inbA := ?_) (offB := ?_) (inbB := ?_) (inbQ := ?_) hk (by decide) ?_ ?_ ?_ ?_ ?_
    rotate_left 5
    · rfl
    · exact ClosedOff.eq
    · exact ClosedOff.eq
    · exact ClosedOff.eq
  exact hx

set_option warn.classDefReducibility false in
/-- The quantising loop by its invariant. -/
@[sl_loop] def loopInv2 :
    LoopInvTy_k0_t2 (F := F) Unit ℕ (UU nD τ) ℕ 𝒱₀ c none Set.univ i arg1 harg1 arg2 harg2 arg3 harg3 arg4 harg4 codesM (Memref.isWhole_whole _) woutM (Memref.isWhole_whole _)
      arg7 harg7 arg8 harg8 arg9 harg9 wM (Memref.isWhole_whole _) xM (Memref.isWhole_whole _) ringM (Memref.isWhole_whole _) cc0_scratch3 cc0_scratch4 where
  inv k _ := inv2 c arg2 X2 arg3 X3 arg4 X4 arg8 arg9 k
  step k acc := (trip2 c i arg1 harg1 arg2 harg2 X2 arg3 harg3 X3 arg4 harg4 X4 arg7 harg7 arg8 harg8 arg9 harg9 k : _)

/-! ## The matrix product, 512 columns a trip -/

/-- Columns `512 n …` of the weights. -/
def wCols (W : S4096x5632.Idx → Elt F .bf16) (n : ℕ) : Vec F S4096x512 .bf16 := fun i => W (ix2 (Fin.ofNat 4096 (i 0).val) (Fin.ofNat 5632 (512 * n + (i 1).val)))
/-- What the loop leaves. -/
def yT (D : S256x4096.Idx → Elt F .bf16) (W : S4096x5632.Idx → Elt F .bf16) (y : S256x5632.Idx) : Elt F .bf16 :=
  k0_pay4 (F := F) D (wCols W ((y 1).val / 512)) (ix2 (Fin.ofNat 256 (y 0).val) (Fin.ofNat 512 (y 1).val))

abbrev wP (W : Buf (Elt F) (wM.view.loc (c : Thread nD τ))) : sProp 𝕄 := wM.view.loc (c : Thread nD τ) ↦[wM.view.set]{fullShare} W
variable (D : Buf (Elt F) (xM.view.loc (c : Thread nD τ))) (W : Buf (Elt F) (wM.view.loc (c : Thread nD τ)))

def inv3 (k : ℕ) : sProp 𝕄 :=
  iprop(xP c D ∗ wP c W
    ∗ (∃ f, ⌜UptoT arg7 f (yT (xM.view.read (Elt F) D) (wM.view.read (Elt F) W)) 256 512 0 k⌝ ∗ (arg7.view.loc (c : Thread nD τ) ↦[arg7.view.set]{fullShare} f)))

abbrev tripG3 (k : Fin k0_t3_loop.trips) : Prog (TpuEff nD τ sig (Elt F) Λ₀ .tc) Unit :=
  k0_t3_body (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4 k ()

theorem y_step {k : ℕ} (hk : k < 11) {f : Buf (Elt F) (arg7.view.loc (c : Thread nD τ))} {off inb p L} {offW inbW inbD}
    (hw : p = k0_pay4 (F := F) (xM.view.readAt (Elt F) (Rect.unit (s := S256x4096) ![0, 0] S256x4096.size inbD).toLoadRect D)
      (wM.view.readAt (Elt F) (Rect.unit (s := S4096x5632) offW S4096x512.size inbW).toLoadRect W))
    (hoff : off = ![256 * 0, 512 * k]) (hW : offW = ![0, 512 * k])
    (H : UptoT arg7 (arg7.view.writes (Elt F) f L) (yT (xM.view.read (Elt F) D) (wM.view.read (Elt F) W)) 256 512 0 k) :
    UptoT arg7 (arg7.view.writes (Elt F) f (⟨Rect.unit (s := S256x5632) off S256x512.size inb, p⟩ :: L)) (yT (xM.view.read (Elt F) D) (wM.view.read (Elt F) W)) 256 512 0 (k + 1) := by
  refine upto_tile ?_ hoff H
  intro r q y h0 h1
  subst hW
  have eD : xM.view.readAt (Elt F) (Rect.unit (s := S256x4096) ![0, 0] S256x4096.size inbD).toLoadRect D = xM.view.read (Elt F) D := by
    funext z
    have e : (Rect.unit (s := S256x4096) ![0, 0] S256x4096.size inbD).toLoadRect.idx z = z := by
      funext a; apply Fin.ext; fin_cases a
      · show 0 + 1 * (z 0).val = (z 0).val; omega
      · show 0 + 1 * (z 1).val = (z 1).val; omega
    exact congrArg (xM.view.read (Elt F) D) e
  have eW : wM.view.readAt (Elt F) (Rect.unit (s := S4096x5632) ![0, 512 * k] S4096x512.size inbW).toLoadRect W = wCols (wM.view.read (Elt F) W) k := by
    funext z
    have z0 : (z 0).val < 4096 := (z 0).isLt
    have z1 : (z 1).val < 512 := (z 1).isLt
    have e : (Rect.unit (s := S4096x5632) ![0, 512 * k] S4096x512.size inbW).toLoadRect.idx z = ix2 (Fin.ofNat 4096 (z 0).val) (Fin.ofNat 5632 (512 * k + (z 1).val)) := by
      funext a; apply Fin.ext; fin_cases a
      · show 0 + 1 * (z 0).val = (z 0).val % 4096; omega
      · show 512 * k + 1 * (z 1).val = (512 * k + (z 1).val) % 5632; omega
    exact congrArg (wM.view.read (Elt F) W) e
  rw [hw, eD, eW]
  have e1 : (y 1).val / 512 = k := by omega
  have e2 : ix2 r q = ix2 (Fin.ofNat 256 (y 0).val) (Fin.ofNat 512 (y 1).val) := by
    funext a; apply Fin.ext; fin_cases a
    · show r.val = (y 0).val % 256; omega
    · show q.val = (y 1).val % 512; omega
  unfold yT
  rw [e1, ← e2]

theorem trip3 (k : Fin k0_t3_loop.trips) :
    inv3 c arg7 D W k.val ⊢ wp frame (wpE (defs₀ (F := F)) 𝒱₀ (c : Thread nD τ) none) Set.univ
      (tripG3 i arg1 harg1 arg2 harg2 arg3 harg3 arg4 harg4 arg7 harg7 arg8 harg8 arg9 harg9 k)
      (fun _ => inv3 c arg7 D W (k.val + 1)) := by
  have hk : k.val < 11 := Nat.lt_of_lt_of_le k.isLt k0_t3_abs.2.1
  unfold inv3
  iintro ⟨HX, HW, ⟨%f, %h, H7⟩⟩
  dsimp only [tripG3]
  sl_unfold [k0_t3_body]
  sl_exec
  sl_step
  isplitl [HX]; · iexact HX
  isplitl [HW]; · iexact HW
  iexists _
  isplitr
  rotate_left
  · iexact H7
  ipureintro
  sl_unfold_run_names
  refine y_step c arg7 D W (offW := ?_) (inbW := ?_) (inbD := ?_) hk ?_ ?_ ?_ h
  rotate_left 3
  · rfl
  · exact ClosedOff.eq
  · exact ClosedOff.eq

set_option warn.classDefReducibility false in
/-- The product's loop by its invariant. -/
def loopInv3 :
    LoopInvTy_k0_t3 (F := F) Unit ℕ (UU nD τ) ℕ 𝒱₀ c none Set.univ i arg1 harg1 arg2 harg2 arg3 harg3 arg4 harg4 codesM (Memref.isWhole_whole _) woutM (Memref.isWhole_whole _)
      arg7 harg7 arg8 harg8 arg9 harg9 wM (Memref.isWhole_whole _) xM (Memref.isWhole_whole _) ringM (Memref.isWhole_whole _) cc0_scratch3 cc0_scratch4 where
  inv k _ := inv3 c arg7 D W k
  step k acc := (trip3 c i arg1 harg1 arg2 harg2 arg3 harg3 arg4 harg4 arg7 harg7 arg8 harg8 arg9 harg9 D W k : _)

end Trip
end Cert.Kernel.Own
end
-- ==== Proof.KBody.lean ====
/-
  The kernel body at a grid point: at the first point the weight scratch is filled, at the later ones it is found
  filled; then the block of rows is quantised and multiplied.
-/
module

public import proofs.«01_k».proof.Proof.KSlab

@[expose] public section

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UU nD τ) ℕ

/-! ## The weight scratch: the rows the loop fills, and the rows one transfer fills -/

/-- The rows of the outlier weights. -/
abbrev wHi : Memref sig .tc .vmem S128x5632 .bf16 :=
  wM.slice (Rect.unit (s := S4096x5632) ![3968, 0] S128x5632.size inb_S4096x5632_S128x5632_3968_0) (fun _ => rfl)

/-- All of the weights: dequantised rows, then the outlier rows. -/
def wfull (S : S31x44.Idx → Elt F .f32) (C : S3968x5632.Idx → Elt F .fp8e4m3) (B : S128x5632.Idx → Elt F .bf16) (y : S4096x5632.Idx) : Elt F .bf16 :=
  if (y 0).val < 3968 then wlow S C y else B (ix2 (Fin.ofNat 128 ((y 0).val - 3968)) (Fin.ofNat 5632 (y 1).val))

section W
variable (c : Dev nD)

abbrev highP (f : Buf (Elt F) (wHi.view.loc (c : Thread nD τ))) : sProp 𝕄 := wHi.view.loc (c : Thread nD τ) ↦[wHi.view.set]{fullShare} f

theorem mem_low (y : S4096x5632.Idx) : y ∈ Rlow.set ↔ (y 0).val < 3968 := by
  have h0 : (y 0).val < 4096 := (y 0).isLt
  have h1 : (y 1).val < 5632 := (y 1).isLt
  rw [Rect.mem_set_unit]
  constructor
  · intro H; have a0 : 0 ≤ (y 0).val ∧ (y 0).val < 0 + 3968 := H 0; omega
  · intro H i; fin_cases i
    · show 0 ≤ (y 0).val ∧ (y 0).val < 0 + 3968; omega
    · show 0 ≤ (y 1).val ∧ (y 1).val < 0 + 5632; omega
abbrev Rhi : Rect S4096x5632 := Rect.unit (s := S4096x5632) ![3968, 0] S128x5632.size inb_S4096x5632_S128x5632_3968_0
theorem mem_hi (y : S4096x5632.Idx) : y ∈ Rhi.set ↔ ¬ (y 0).val < 3968 := by
  have h0 : (y 0).val < 4096 := (y 0).isLt
  have h1 : (y 1).val < 5632 := (y 1).isLt
  rw [Rect.mem_set_unit]
  constructor
  · intro H; have a0 : 3968 ≤ (y 0).val ∧ (y 0).val < 3968 + 128 := H 0; omega
  · intro H i; fin_cases i
    · show 3968 ≤ (y 0).val ∧ (y 0).val < 3968 + 128; omega
    · show 0 ≤ (y 1).val ∧ (y 1).val < 0 + 5632; omega
theorem low_hi_disjoint : Disjoint Rlow.set Rhi.set := by
  rw [Finset.disjoint_left]; intro y h h'; rw [mem_low] at h; rw [mem_hi] at h'; exact h' h
theorem low_hi_cover : Rlow.set ∪ Rhi.set = Finset.univ := by
  ext y; simp only [Finset.mem_union, Finset.mem_univ, iff_true]; rw [mem_low, mem_hi]; exact em _

theorem lowSet : wM.view.setOn Rlow.set = (Rlow.set : Finset S4096x5632.Idx) := by
  show Finset.map (Function.Embedding.refl _) Rlow.set = Rlow.set
  exact Finset.map_refl
theorem lowP_eq (f) : lowP c f = (((c : Thread nD τ).loc cc0_scratch0) ↦[(Rlow.set : Finset S4096x5632.Idx)]{fullShare} f : sProp 𝕄) :=
  congrArg (fun S => (_ ↦[S]{fullShare} f : sProp 𝕄)) lowSet
theorem highP_eq (f) : highP c f = (((c : Thread nD τ).loc cc0_scratch0) ↦[(Rhi.set : Finset S4096x5632.Idx)]{fullShare} f : sProp 𝕄) :=
  congrArg (fun S => (_ ↦[S]{fullShare} f : sProp 𝕄)) (View.set_slice_whole _ _)
theorem wP_eq (f) : wP c f = (((c : Thread nD τ).loc cc0_scratch0) ↦{fullShare} f : sProp 𝕄) :=
  congrArg (fun S => (_ ↦[S]{fullShare} f : sProp 𝕄)) (View.set_whole _)

theorem w_split (f) : wP c f ⊢ (iprop(lowP c f ∗ highP c f) : sProp 𝕄) := by
  rw [wP_eq, lowP_eq, highP_eq, ← low_hi_cover]
  exact (pointsTo_union low_hi_disjoint).1
theorem pw_in (S : Finset S4096x5632.Idx) (f g : Buf (Elt F) ((c : Thread nD τ).loc cc0_scratch0)) (y : S4096x5632.Idx) (h : y ∈ S) :
    wM.view.read (Elt F) (Finset.piecewise S g f) y = wM.view.read (Elt F) g y :=
  Finset.piecewise_eq_of_mem S g f h
theorem pw_out (S : Finset S4096x5632.Idx) (f g : Buf (Elt F) ((c : Thread nD τ).loc cc0_scratch0)) (y : S4096x5632.Idx) (h : y ∉ S) :
    wM.view.read (Elt F) (Finset.piecewise S g f) y = wM.view.read (Elt F) f y :=
  Finset.piecewise_eq_of_notMem S g f h
theorem w_join (f g) : iprop(lowP c f ∗ highP c g) ⊢ (iprop(∃ W, ⌜(∀ y : S4096x5632.Idx, (y 0).val < 3968 → wM.view.read (Elt F) W y = wM.view.read (Elt F) f y)
    ∧ (∀ y : S4096x5632.Idx, ¬ (y 0).val < 3968 → wM.view.read (Elt F) W y = wM.view.read (Elt F) g y)⌝ ∗ wP c W) : sProp 𝕄) := by
  iintro H
  iexists (Finset.piecewise (Rhi.set : Finset S4096x5632.Idx) g f)
  isplitr
  · ipureintro
    constructor
    · intro y hy
      exact pw_out c _ f g y (fun h => (mem_hi y).1 h hy)
    · intro y hy
      exact pw_in c _ f g y ((mem_hi y).2 hy)
  iapply (entails_of_eq (wP_eq c _).symm)
  iapply (show iprop(lowP c f ∗ highP c g) ⊢ (((c : Thread nD τ).loc cc0_scratch0) ↦{fullShare} (Finset.piecewise (Rhi.set : Finset S4096x5632.Idx) g f) : sProp 𝕄) from by
    rw [lowP_eq, highP_eq, ← low_hi_cover]
    exact pointsTo_join low_hi_disjoint)
  iexact H

/-- What the outlier weights' transfer leaves in the last rows. -/
theorem high_read (B : S128x5632.Idx → Elt F .bf16) (f : Buf (Elt F) (wHi.view.loc (c : Thread nD τ))) (y : S4096x5632.Idx) (hy : ¬ (y 0).val < 3968) :
    wM.view.read (Elt F) (wHi.view.writes (Elt F) f [⟨Rect.whole S128x5632, B⟩]) y = B (ix2 (Fin.ofNat 128 ((y 0).val - 3968)) (Fin.ofNat 5632 (y 1).val)) := by
  have h0 : (y 0).val < 4096 := (y 0).isLt
  have h1 : (y 1).val < 5632 := (y 1).isLt
  have e : wM.view.emb y = wHi.view.emb (ix2 (Fin.ofNat 128 ((y 0).val - 3968)) (Fin.ofNat 5632 (y 1).val)) := by
    show y = Rhi.emb (ix2 (Fin.ofNat 128 ((y 0).val - 3968)) (Fin.ofNat 5632 (y 1).val))
    funext a; apply Fin.ext; fin_cases a
    · show (y 0).val = 3968 + 1 * (((y 0).val - 3968) % 128); omega
    · show (y 1).val = 0 + 1 * ((y 1).val % 5632); omega
  have e2 : wM.view.read (Elt F) (wHi.view.writes (Elt F) f [⟨Rect.whole S128x5632, B⟩]) y
      = wHi.view.read (Elt F) (wHi.view.writes (Elt F) f [⟨Rect.whole S128x5632, B⟩]) (ix2 (Fin.ofNat 128 ((y 0).val - 3968)) (Fin.ofNat 5632 (y 1).val)) := by
    rw [View.read_apply, View.read_apply, e]
  rw [e2]
  have := View.read_writes_cons_emb (Val := Elt F) wHi.view f (Rect.whole S128x5632) B [] (ix2 (Fin.ofNat 128 ((y 0).val - 3968)) (Fin.ofNat 5632 (y 1).val))
  rw [Rect.emb_whole_apply] at this
  exact this
end W

/-! ## The body -/

section Body
variable (c : Dev nD) (XA : Buf (Elt F) (codesM.view.loc (c : Thread nD τ))) (XB : Buf (Elt F) (woutM.view.loc (c : Thread nD τ)))
  (i : grid0.Coords)
  (arg1 : Memref sig .tc .smem S31x44 .f32) (harg1 : arg1.IsWhole) (X1 : Buf (Elt F) (arg1.view.loc (c : Thread nD τ)))
  (arg2 : Memref sig .tc .vmem S31x128 .i32) (harg2 : arg2.IsWhole) (X2 : Buf (Elt F) (arg2.view.loc (c : Thread nD τ)))
  (arg3 : Memref sig .tc .vmem S1x128 .i32) (harg3 : arg3.IsWhole) (X3 : Buf (Elt F) (arg3.view.loc (c : Thread nD τ)))
  (arg4 : Memref sig .tc .vmem S256x4096 .bf16) (harg4 : arg4.IsWhole) (X4 : Buf (Elt F) (arg4.view.loc (c : Thread nD τ)))
  (arg7 : Memref sig .tc .vmem S256x5632 .bf16) (harg7 : arg7.IsWhole)
  (arg8 : Memref sig .tc .vmem S256x3968 .fp8e4m3) (harg8 : arg8.IsWhole)
  (arg9 : Memref sig .tc .vmem S256x31 .f32) (harg9 : arg9.IsWhole)

abbrev bodyG : Prog (TpuEff nD τ sig (Elt F) Λ₀ .tc) PUnit :=
  cc0_outlier_split_linear (F := F) i arg1 harg1 arg2 harg2 arg3 harg3 arg4 harg4 codesM (Memref.isWhole_whole _) woutM (Memref.isWhole_whole _)
    arg7 harg7 arg8 harg8 arg9 harg9 wM (Memref.isWhole_whole _) xM (Memref.isWhole_whole _) ringM (Memref.isWhole_whole _) cc0_scratch3 cc0_scratch4

abbrev insP : sProp 𝕄 :=
  iprop(sclP c arg1 X1 ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4))
abbrev outP : sProp 𝕄 := woutM.view.loc (c : Thread nD τ) ↦[woutM.view.set]{fullShare} XB
abbrev cell4P : sProp 𝕄 := semVal ((c : Thread nD τ), SemLoc.dma cc0_scratch4.sem) 0
/-- What every point finds and leaves, beside the weight scratch. -/
abbrev coreP : sProp 𝕄 :=
  iprop(bigSep Finset.univ (homeP c XA) ∗ outP c XB ∗ (∃ f, xP c f) ∗ (∃ f, slotP c 0 f) ∗ (∃ f, slotP c 1 f) ∗ cellP c 0 ∗ cellP c 1 ∗ cell4P c)

/-- The weights as the body reads them off its buffers. -/
abbrev wOf : S4096x5632.Idx → Elt F .bf16 := wfull (arg1.view.read (Elt F) X1) (codesM.view.read (Elt F) XA) (woutM.view.read (Elt F) XB)
/-- What the body leaves. -/
abbrev POST : sProp 𝕄 :=
  iprop(insP c arg1 X1 arg2 X2 arg3 X3 arg4 X4
    ∗ (∃ f, ⌜arg7.view.read (Elt F) f = yT (xdT (Q2 c arg2 X2) (O3 c arg3 X3) (XX4 c arg4 X4)) (wOf c XA XB arg1 X1)⌝ ∗ (arg7.view.loc (c : Thread nD τ) ↦[arg7.view.set]{fullShare} f))
    ∗ (∃ f, ⌜arg8.view.read (Elt F) f = codesT (Q2 c arg2 X2) (XX4 c arg4 X4)⌝ ∗ (arg8.view.loc (c : Thread nD τ) ↦[arg8.view.set]{fullShare} f))
    ∗ (∃ f, ⌜arg9.view.read (Elt F) f = sclT (Q2 c arg2 X2) (XX4 c arg4 X4)⌝ ∗ (arg9.view.loc (c : Thread nD τ) ↦[arg9.view.set]{fullShare} f))
    ∗ (∃ W, ⌜wM.view.read (Elt F) W = wOf c XA XB arg1 X1⌝ ∗ wP c W)
    ∗ coreP c XA XB ∗ ∃ W, owes (c : Thread nD τ) 0 W)

/-- Every target at its loop's last trip is the whole buffer's. -/
theorem upto_all {R C : ℕ} {sp : Space} {e : EltTy} {M : Memref sig .tc sp ⟨2, ![R, C]⟩ e} {f : BufTy.Contents (Elt F) M.view.ty} {T : (⟨2, ![R, C]⟩ : Shape).Idx → Elt F e} {h w k : ℕ}
    (hk : R ≤ h * k) (H : UptoT M f T h w k 0) : M.view.read (Elt F) f = T := by
  funext y
  exact H y (Or.inl (lt_of_lt_of_le (y 0).isLt hk))
theorem upto_cols {R C : ℕ} {sp : Space} {e : EltTy} {M : Memref sig .tc sp ⟨2, ![R, C]⟩ e} {f : BufTy.Contents (Elt F) M.view.ty} {T : (⟨2, ![R, C]⟩ : Shape).Idx → Elt F e} {h w j : ℕ}
    (hh : R ≤ h) (hj : C ≤ w * j) (H : UptoT M f T h w 0 j) : M.view.read (Elt F) f = T := by
  funext y
  have h0 : (y 0).val < R := (y 0).isLt
  have h1 : (y 1).val < C := (y 1).isLt
  exact H y (Or.inr ⟨by omega, by omega⟩)
theorem upto_none {R C : ℕ} {sp : Space} {e : EltTy} {M : Memref sig .tc sp ⟨2, ![R, C]⟩ e} {f : BufTy.Contents (Elt F) M.view.ty} {T : (⟨2, ![R, C]⟩ : Shape).Idx → Elt F e} {h w : ℕ} :
    UptoT M f T h w 0 0 := by
  intro y hy
  omega

theorem trips1 : Scf.trips k0_t1_loop.lb k0_t1_loop.ub k0_t1_loop.st = 31 := by decide +kernel
theorem trips2 : Scf.trips k0_t2_loop.lb k0_t2_loop.ub k0_t2_loop.st = 8 := by decide +kernel
theorem trips3 : Scf.trips k0_t3_loop.lb k0_t3_loop.ub k0_t3_loop.st = 11 := by decide +kernel

/-- The matrix product: from the dequantised rows and the weights to the block of `y`. -/
theorem tail3 (D : Buf (Elt F) (xM.view.loc (c : Thread nD τ))) (W : Buf (Elt F) (wM.view.loc (c : Thread nD τ))) (f7 : Buf (Elt F) (arg7.view.loc (c : Thread nD τ))) (Q : PUnit → sProp 𝕄) :
    iprop((xP c D ∗ wP c W ∗ (arg7.view.loc (c : Thread nD τ) ↦[arg7.view.set]{fullShare} f7))
      ∗ ((xP c D ∗ wP c W ∗ ∃ f, ⌜arg7.view.read (Elt F) f = yT (xM.view.read (Elt F) D) (wM.view.read (Elt F) W)⌝ ∗ (arg7.view.loc (c : Thread nD τ) ↦[arg7.view.set]{fullShare} f)) -∗ Q ⟨⟩))
      ⊢ wp frame (wpE (defs₀ (F := F)) 𝒱₀ (c : Thread nD τ) none) Set.univ
        (do
          Scf.Loop.for k0_t3_loop k0_t3_ok ⟨⟩ (k0_t3_body (F := F) i arg1 harg1 arg2 harg2 arg3 harg3 arg4 harg4 codesM (Memref.isWhole_whole _) woutM (Memref.isWhole_whole _)
            arg7 harg7 arg8 harg8 arg9 harg9 wM (Memref.isWhole_whole _) xM (Memref.isWhole_whole _) ringM (Memref.isWhole_whole _) cc0_scratch3 cc0_scratch4)
          Pure.pure PUnit.unit) Q := by
  iintro ⟨⟨HX, HW, H7⟩, Hk⟩
  have h7 : UptoT arg7 f7 (yT (xM.view.read (Elt F) D) (wM.view.read (Elt F) W)) 256 512 0 0 := upto_none
  let L := loopInv3 (F := F) c i arg1 harg1 arg2 harg2 arg3 harg3 arg4 harg4 arg7 harg7 arg8 harg8 arg9 harg9 D W
  sl_exec
  sl_step
  iapply Hk
  isplitl [HX]; · iexact HX
  isplitl [HW]; · iexact HW
  iexists fL0
  isplitr
  · ipureintro; exact upto_cols (h := 256) (w := 512) (j := 11) (by decide) (by decide) (trips3 ▸ hL2)
  iexact H7

/-- The body at a point that finds the weights in place. -/
theorem bodyLater (hi : ¬ k0_cond1 i = 1#1) (W : Buf (Elt F) (wM.view.loc (c : Thread nD τ))) (hW : wM.view.read (Elt F) W = wOf c XA XB arg1 X1)
    (f7 f8 f9 L) (Q : PUnit → sProp 𝕄) :
    iprop((insP c arg1 X1 arg2 X2 arg3 X3 arg4 X4 ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ wP c W ∗ coreP c XA XB ∗ owes (c : Thread nD τ) 0 L)
      ∗ (POST c XA XB arg1 X1 arg2 X2 arg3 X3 arg4 X4 arg7 arg8 arg9 -∗ Q ⟨⟩))
      ⊢ wp frame (wpE (defs₀ (F := F)) 𝒱₀ (c : Thread nD τ) none) Set.univ
        (bodyG i arg1 harg1 arg2 harg2 arg3 harg3 arg4 harg4 arg7 harg7 arg8 harg8 arg9 harg9) Q := by
  iintro ⟨⟨⟨H1, H2, H3, H4⟩, H7, H8, H9, HW, ⟨Hh, HB, ⟨%fx, HX⟩, Hs0, Hs1, Hc0, Hc1, Hc4⟩, HO⟩, Hk⟩
  have h8 : UptoT arg8 f8 (codesT (Q2 c arg2 X2) (XX4 c arg4 X4)) 32 128 0 0 := upto_none
  have h9 : UptoT arg9 f9 (sclT (Q2 c arg2 X2) (XX4 c arg4 X4)) 32 31 0 0 := upto_none
  have hx : UptoT xM fx (xdT (Q2 c arg2 X2) (O3 c arg3 X3) (XX4 c arg4 X4)) 32 128 0 0 := upto_none
  sl_exec
  iapply (tail3 c i arg1 harg1 arg2 harg2 arg3 harg3 arg4 harg4 arg7 harg7 arg8 harg8 arg9 harg9 fL2 W f7)
  isplitl [HX HW H7]
  · isplitl [HX]; · iexact HX
    isplitl [HW]; · iexact HW
    iexact H7
  iintro ⟨HX, HW, ⟨%g7, %e7, H7⟩⟩
  iapply Hk
  isplitl [H1 H2 H3 H4]
  · isplitl [H1]; · iexact H1
    isplitl [H2]; · iexact H2
    isplitl [H3]; · iexact H3
    iexact H4
  isplitl [H7]
  · iexists g7
    isplitr
    · ipureintro; rw [e7, hW, upto_all (h := 32) (k := 8) (by decide) (trips2 ▸ hL7)]
    iexact H7
  isplitl [H8]
  · iexists fL0
    isplitr
    · ipureintro; exact upto_all (h := 32) (k := 8) (by decide) (trips2 ▸ hL3)
    iexact H8
  isplitl [H9]
  · iexists fL1
    isplitr
    · ipureintro; exact upto_all (h := 32) (k := 8) (by decide) (trips2 ▸ hL5)
    iexact H9
  isplitl [HW]
  · iexists W
    isplitr
    · ipureintro; exact hW
    iexact HW
  isplitr [HO]
  · isplitl [Hh]; · iexact Hh
    isplitl [HB]; · iexact HB
    isplitl [HX]; · iexists fL2; iexact HX
    isplitl [Hs0]; · iexact Hs0
    isplitl [Hs1]; · iexact Hs1
    isplitl [Hc0]; · iexact Hc0
    isplitl [Hc1]; · iexact Hc1
    iexact Hc4
  iexists L; iexact HO

theorem sl2_0 : Ring.sl 2 0 = 0 := Fin.ext (by rfl)
theorem sl2_1 : Ring.sl 2 (0 + 1) = 1 := Fin.ext (by rfl)
theorem bk31_0 : Ring.bk 31 0 = 0 := Fin.ext (by rfl)

/-- At the loop's entry, group 0 apart from the rest. -/
theorem homes_zero : bigSep Finset.univ (homeP c XA) = iprop(homeP c XA 0 ∗ bigSep (Ring.homeSet 1 0) (homeP c XA)) := by
  have e : (Finset.univ : Finset (Fin 31)) = insert 0 (Ring.homeSet (NB := 31) 1 0) := by
    ext b; simp only [Finset.mem_univ, Finset.mem_insert, Ring.mem_homeSet, true_iff, Fin.ext_iff]; have := b.isLt; omega
  rw [e, bigSep_insert (by simp [Ring.mem_homeSet])]; rfl
/-- After the loop every group is home. -/
theorem homes_end : bigSep (Ring.homeSet 1 31) (homeP c XA) = bigSep Finset.univ (homeP c XA) := by
  have e : (Finset.univ : Finset (Fin 31)) = Ring.homeSet (NB := 31) 1 31 := by
    ext b; simp only [Finset.mem_univ, Ring.mem_homeSet, true_iff]; have := b.isLt; omega
  rw [e]

set_option warn.classDefReducibility false in
/-- What the loading loop hands on. -/
@[reducible] def exit1 (k0_h1 : k0_cond1 i = 1#1) :
    LoopExit (loopInv1 (F := F) c XA i arg1 harg1 X1 arg2 harg2 arg3 harg3 arg4 harg4 arg7 harg7 arg8 harg8 arg9 harg9 k0_h1) where
  post _ := iprop((∃ f, ⌜Upto c (arg1.view.read (Elt F) X1) (codesM.view.read (Elt F) XA) 31 0 f⌝ ∗ lowP c f) ∗ sclP c arg1 X1 ∗ (∃ W, owes (c : Thread nD τ) 0 W)
    ∗ bigSep Finset.univ (homeP c XA) ∗ (∃ f, slotP c 1 f) ∗ cellP c 1 ∗ (∃ f, slotP c 0 f) ∗ cellP c 0)
  exit acc := by
    rw [trips1]
    show invAt c XA arg1 X1 31 ⊢ _
    unfold invAt curAt
    rw [if_neg (by decide), homes_end, show Ring.sl 2 31 = 1 from rfl, show Ring.sl 2 (31 + 1) = 0 from rfl]
    iintro ⟨Hl, HS, HW, Hh, ⟨Hs1, Hc1⟩, Hs0, Hc0⟩
    isplitl [Hl]; · iexact Hl
    isplitl [HS]; · iexact HS
    isplitl [HW]; · iexact HW
    isplitl [Hh]; · iexact Hh
    isplitl [Hs1]; · iexact Hs1
    isplitl [Hc1]; · iexact Hc1
    isplitl [Hs0]; · iexact Hs0
    iexact Hc0

attribute [local instance] exit1 in
attribute [local sl_canon] sl2_0 sl2_1 bk31_0 in
/-- The body at the first point. -/
theorem bodyFirst (k0_h1 : k0_cond1 i = 1#1) (W : Buf (Elt F) (wM.view.loc (c : Thread nD τ)))
    (f7 f8 f9 L) (Q : PUnit → sProp 𝕄) :
    iprop((insP c arg1 X1 arg2 X2 arg3 X3 arg4 X4 ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ wP c W ∗ coreP c XA XB ∗ owes (c : Thread nD τ) 0 L)
      ∗ (POST c XA XB arg1 X1 arg2 X2 arg3 X3 arg4 X4 arg7 arg8 arg9 -∗ Q ⟨⟩))
      ⊢ wp frame (wpE (defs₀ (F := F)) 𝒱₀ (c : Thread nD τ) none) Set.univ
        (bodyG i arg1 harg1 arg2 harg2 arg3 harg3 arg4 harg4 arg7 harg7 arg8 harg8 arg9 harg9) Q := by
  iintro ⟨⟨⟨H1, H2, H3, H4⟩, H7, H8, H9, HW, ⟨Hh, HB, ⟨%fx, HX⟩, ⟨%s0, Hs0⟩, ⟨%s1, Hs1⟩, Hc0, Hc1, Hc4⟩, HO⟩, Hk⟩
  have h8 : UptoT arg8 f8 (codesT (Q2 c arg2 X2) (XX4 c arg4 X4)) 32 128 0 0 := upto_none
  have h9 : UptoT arg9 f9 (sclT (Q2 c arg2 X2) (XX4 c arg4 X4)) 32 31 0 0 := upto_none
  have hx : UptoT xM fx (xdT (Q2 c arg2 X2) (O3 c arg3 X3) (XX4 c arg4 X4)) 32 128 0 0 := upto_none
  have hw : Upto c (arg1.view.read (Elt F) X1) (codesM.view.read (Elt F) XA) 0 0 W := fun y hy => by omega
  ihave HW2 := (w_split c W) $$ HW
  icases HW2 with ⟨HWl, HWh⟩
  ihave Hh2 := (entails_of_eq (homes_zero c XA)) $$ Hh
  icases Hh2 with ⟨Hg, Hrest⟩
  sl_exec
  ihave HJ := (w_join c fL0 _) $$ [HL1 HWh]
  · isplitl [HL1]; · iexact HL1
    iexact HWh
  icases HJ with ⟨%V, %eV, HW⟩
  have hV : wM.view.read (Elt F) V = wOf c XA XB arg1 X1 := by
    funext y
    show wM.view.read (Elt F) V y = wfull _ _ _ y
    unfold wfull
    by_cases hy : (y 0).val < 3968
    · rw [if_pos hy, eV.1 y hy]; exact hL0 y (Or.inl hy)
    · rw [if_neg hy, eV.2 y hy]
      exact high_read c (woutM.view.read (Elt F) XB) _ y hy
  iapply (tail3 c i arg1 harg1 arg2 harg2 arg3 harg3 arg4 harg4 arg7 harg7 arg8 harg8 arg9 harg9 fL6 V f7)
  isplitl [HX HW H7]
  · isplitl [HX]; · iexact HX
    isplitl [HW]; · iexact HW
    iexact H7
  iintro ⟨HX, HW, ⟨%g7, %e7, H7⟩⟩
  iapply Hk
  isplitl [HL2 H2 H3 H4]
  · isplitl [HL2]; · iexact HL2
    isplitl [H2]; · iexact H2
    isplitl [H3]; · iexact H3
    iexact H4
  isplitl [H7]
  · iexists g7
    isplitr
    · ipureintro; rw [e7, hV, upto_all (h := 32) (k := 8) (by decide) (trips2 ▸ hL16)]
    iexact H7
  isplitl [H8]
  · iexists fL4
    isplitr
    · ipureintro; exact upto_all (h := 32) (k := 8) (by decide) (trips2 ▸ hL12)
    iexact H8
  isplitl [H9]
  · iexists fL5
    isplitr
    · ipureintro; exact upto_all (h := 32) (k := 8) (by decide) (trips2 ▸ hL14)
    iexact H9
  isplitl [HW]
  · iexists V
    isplitr
    · ipureintro; exact hV
    iexact HW
  isplitr [HL3]
  · isplitl [HL4]; · iexact HL4
    isplitl [HB]; · iexact HB
    isplitl [HX]; · iexists fL6; iexact HX
    isplitl [HL7]; · iexists fL3; iexact HL7
    isplitl [HL5]; · iexists fL2; iexact HL5
    isplitl [HL8]; · iexact HL8
    isplitl [HL6]; · iexact HL6
    iexact Hc4
  iexists _; iexact HL3
end Body

end Cert.Kernel.Own
end
-- ==== Proof.KRun.lean ====
/-
  The kernel's region: its proof data, the body obligation at every grid point, and the run of the whole program.
-/
module

public import proofs.«01_k».proof.Proof.KBody

public import proofs.«01_k».proof.Proof.Gen.Kernel.Frame

@[expose] public section

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The kernel's own cells -/

def osem (s : Fin 3) : SemLoc sig := ![.dma (csm 0).sem, .dma (csm 1).sem, .dma cc0_scratch4.sem] s
theorem ownSemFacts : Pipeline.OwnSemFacts spec0 osem := by decide

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cell4P c) := by
  unfold Pipeline.ownSems0; rw [bigSep_fin3]; rfl

/-! ## Element sets: the row groups of the codes, the two slots of the ring -/

abbrev G31 (b : Fin 31) : Finset S3968x5632.Idx := (Rect.unit (s := S3968x5632) (grpOff b) S128x5632.size (grpOff_inb b)).set
abbrev SL2 (s : Fin 2) : Finset S2x128x5632.Idx := (Rect.unit (s := S2x128x5632) (slotOff s) S1x128x5632.size (slotOff_inb s)).set
theorem grp_set (b : Fin 31) : (grp b : Memref sig .tc .hbm _ _).view.set = G31 b := View.set_slice_whole _ _
theorem rslot_set (s : Fin 2) : (rslot s : Memref sig .tc .vmem _ _).view.set = SL2 s := (View.set_reshape _ _).trans (View.set_slice_whole _ _)

theorem mem_G31 (b : Fin 31) (y : S3968x5632.Idx) : y ∈ G31 b ↔ (y 0).val / 128 = b.val := by
  rw [Rect.mem_set_unit]
  have h1 : (y 1).val < 5632 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 5632; omega
theorem mem_SL2 (s : Fin 2) (y : S2x128x5632.Idx) : y ∈ SL2 s ↔ (y 0).val = s.val := by
  rw [Rect.mem_set_unit]
  have h1 : (y 1).val < 128 := (y 1).isLt
  have h2 : (y 2).val < 5632 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 5632; omega
theorem G31_disjoint : ∀ b b' : Fin 31, b ≠ b' → Disjoint (G31 b) (G31 b') := by
  intro b b' hne; rw [Finset.disjoint_left]; intro y hy hy'; rw [mem_G31] at hy hy'; exact hne (Fin.ext (hy.symm.trans hy'))
theorem G31_cover : (Finset.univ : Finset (Fin 31)).biUnion G31 = Finset.univ := by
  ext y; simp only [Finset.mem_biUnion, Finset.mem_univ, true_and, iff_true]
  have h0 : (y 0).val < 3968 := (y 0).isLt
  exact ⟨⟨(y 0).val / 128, by omega⟩, by rw [mem_G31]⟩
theorem SL2_disjoint : ∀ s s' : Fin 2, s ≠ s' → Disjoint (SL2 s) (SL2 s') := by
  intro s s' hne; rw [Finset.disjoint_left]; intro y hy hy'; rw [mem_SL2] at hy hy'; exact hne (Fin.ext (hy.symm.trans hy'))
theorem SL2_cover : (Finset.univ : Finset (Fin 2)).biUnion SL2 = Finset.univ := by
  ext y; simp only [Finset.mem_biUnion, Finset.mem_univ, true_and, iff_true]; exact ⟨(y 0).cast (by decide), by rw [mem_SL2]; rfl⟩

/-- The codes whole are their row groups, home. -/
theorem codes_eq (c : Dev nD) (XA : Buf (Elt F) ((c : Thread nD τ).loc main_arg4)) :
    (((c : Thread nD τ).loc main_arg4) ↦{fullShare} XA : sProp 𝕄) = bigSep Finset.univ (homeP c XA) := by
  rw [Ring.pointsTo_blocks (ℓ := (c : Thread nD τ).loc main_arg4) G31 G31_disjoint G31_cover]
  exact bigSep_congr fun b _ => by rw [← grp_set]; rfl
theorem slotP_eq (c : Dev nD) (s : Fin 2) (f) : slotP c s f = (((c : Thread nD τ).loc cc0_scratch2) ↦[SL2 s]{fullShare} f : sProp 𝕄) :=
  congrArg (fun S => (_ ↦[S]{fullShare} f : sProp 𝕄)) (rslot_set s)
theorem outP_eq (c : Dev nD) (XB : Buf (Elt F) ((c : Thread nD τ).loc main_arg3)) :
    outP c XB = (((c : Thread nD τ).loc main_arg3) ↦{fullShare} XB : sProp 𝕄) :=
  congrArg (fun S => (_ ↦[S]{fullShare} XB : sProp 𝕄)) (View.set_whole _)
theorem xP_eq (c : Dev nD) (f : Buf (Elt F) ((c : Thread nD τ).loc cc0_scratch1)) :
    xP c f = (((c : Thread nD τ).loc cc0_scratch1) ↦{fullShare} f : sProp 𝕄) :=
  congrArg (fun S => (_ ↦[S]{fullShare} f : sProp 𝕄)) (View.set_whole _)
theorem ring_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) SL2 SL2_disjoint SL2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem ring_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) SL2 SL2_disjoint SL2_cover f0)
  irw [bigSep_fin2]
  isplitl [H0]
  · iexists f0; iapply (entails_of_eq (slotP_eq c 0 f0)); iexact H0
  · iexists f1; iapply (entails_of_eq (slotP_eq c 1 f1)); iexact H1

/-! ## The pipeline's proof data -/

abbrev XA (c : Dev nD) : Buf (Elt F) (codesM.view.loc (c : Thread nD τ)) := V m c main_arg4
abbrev XB (c : Dev nD) : Buf (Elt F) (woutM.view.loc (c : Thread nD τ)) := V m c main_arg3

/-- The inputs' blocks at a point, at the kernel's own shapes. -/
abbrev in0 (c : Dev nD) (t : Fin cfg0.N) : S31x44.Idx → Elt F .f32 := iblk m c 0 t
abbrev in1 (c : Dev nD) (t : Fin cfg0.N) : S31x128.Idx → BitVec 32 := iblk m c 1 t
abbrev in2 (c : Dev nD) (t : Fin cfg0.N) : S1x128.Idx → BitVec 32 := iblk m c 2 t
abbrev in3 (c : Dev nD) (t : Fin cfg0.N) : S256x4096.Idx → Elt F .bf16 := iblk m c 3 t

abbrev t0 : Fin cfg0.N := ⟨0, by rw [show cfg0.N = 96 from N_0]; decide⟩
/-- The weights as the scratch holds them from the first point on. -/
abbrev wAll (c : Dev nD) : S4096x5632.Idx → Elt F .bf16 :=
  wfull (in0 m c t0) (codesM.view.read (Elt F) (XA m c)) (woutM.view.read (Elt F) (XB m c))
theorem in0_const (c : Dev nD) (t : Fin cfg0.N) : in0 m c t = in0 m c t0 := rfl

def Φ (c : Dev nD) (n : ℕ) : sProp 𝕄 :=
  iprop(coreP c (XA m c) (XB m c) ∗ (∃ W, ⌜n ≠ 0 → wM.view.read (Elt F) W = wAll m c⌝ ∗ wP c W) ∗ (∃ r, prngReg c r))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yT (xdT (in1 m c t) (in2 m c t) (in3 m c t)) (wAll m c)
    | ⟨5, _⟩ => codesT (in1 m c t) (in3 m c t)
    | ⟨6, _⟩ => sclT (in1 m c t) (in3 m c t)
  Φ n := Φ m c n.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = yT (xdT (in1 m c t) (in2 m c t) (in3 m c t)) (wAll m c) := by dsimp only [dats]
theorem after_w5 (c : Dev nD) (t : Fin cfg0.N) : (dats m 0 c).after 5 t = codesT (in1 m c t) (in3 m c t) := by dsimp only [dats]
theorem after_w6 (c : Dev nD) (t : Fin cfg0.N) : (dats m 0 c).after 6 t = sclT (in1 m c t) (in3 m c t) := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; dsimp only [dats]; try rfl) t d).trans
    (by unfold Dat.fetched Dat.blockOf iblk; dsimp only [dats]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; dsimp only [dats]; try rfl) t d).trans
    (by unfold Dat.fetched Dat.blockOf iblk; dsimp only [dats]; try rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; dsimp only [dats]; try rfl) t d).trans
    (by unfold Dat.fetched Dat.blockOf iblk; dsimp only [dats]; try rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; dsimp only [dats]; try rfl) t d).trans
    (by unfold Dat.fetched Dat.blockOf iblk; dsimp only [dats]; try rfl)

/-! ## The body obligation -/

theorem cond1_iff (t : Fin cfg0.N) : k0_cond1 (grid0.coords t) = 1#1 ↔ t.val = 0 :=
  (by decide +kernel : ∀ t : Fin grid0.N, k0_cond1 (grid0.coords t) = 1#1 ↔ t.val = 0) t

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) := rfl
theorem prog_eq (t : Fin cfg0.N) : (defs₀ (F := F)) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5)) (st0_6 t) (hstage0_6 ((cfg0.slots t 6).cast nbuf0_6)) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4, after_w5, after_w6]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨Hcore, ⟨%W, %hW, HW⟩, Hp⟩, ⟨%L, -, HL⟩, ⟨%d0, %g0, %e0, H0⟩, ⟨%d1, %g1, %e1, H1⟩, ⟨%d2, %g2, %e2, H2⟩, ⟨%d3, %g3, %e3, H3⟩, ⟨%d4, %g4, -, H4⟩, ⟨%d5, %g5, -, H5⟩, ⟨%d6, %g6, -, H6⟩⟩
  sl_rw [prog_eq t]
  have E0 : wOf c (XA m c) (XB m c) (st0_0 t) g0 = wAll m c := by show wfull _ _ _ = wfull _ _ _; rw [e0]; exact congrArg (fun S => wfull S _ _) (in0_const m c t)
  have Q2e : Q2 c (st0_1 t) g1 = in1 m c t := e1
  have O3e : O3 c (st0_2 t) g2 = in2 m c t := e2
  have X4e : XX4 c (st0_3 t) g3 = in3 m c t := e3
  have key : ∀ Q : PUnit → sProp 𝕄,
      iprop((insP c (st0_0 t) g0 (st0_1 t) g1 (st0_2 t) g2 (st0_3 t) g3 ∗ ((st0_4 t).view.loc (c : Thread nD τ) ↦[(st0_4 t).view.set]{fullShare} g4)
        ∗ ((st0_5 t).view.loc (c : Thread nD τ) ↦[(st0_5 t).view.set]{fullShare} g5) ∗ ((st0_6 t).view.loc (c : Thread nD τ) ↦[(st0_6 t).view.set]{fullShare} g6)
        ∗ wP c W ∗ coreP c (XA m c) (XB m c) ∗ owes (c : Thread nD τ) 0 L)
        ∗ (POST c (XA m c) (XB m c) (st0_0 t) g0 (st0_1 t) g1 (st0_2 t) g2 (st0_3 t) g3 (st0_4 t) (st0_5 t) (st0_6 t) -∗ Q ⟨⟩))
        ⊢ wp frame (wpE (defs₀ (F := F)) 𝒱₀ (c : Thread nD τ) none) Set.univ
          (bodyG (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4)) (st0_5 t) (hstage0_5 ((cfg0.slots t 5).cast nbuf0_5)) (st0_6 t) (hstage0_6 ((cfg0.slots t 6).cast nbuf0_6))) Q := by
    intro Q
    by_cases hi : k0_cond1 (grid0.coords t) = 1#1
    · exact bodyFirst c (XA m c) (XB m c) _ _ _ _ _ _ _ _ _ _ _ _ _ _ _ _ _ _ _ hi W g4 g5 g6 L Q
    · exact bodyLater c (XA m c) (XB m c) _ _ _ _ _ _ _ _ _ _ _ _ _ _ _ _ _ _ _ hi W ((hW fun h => hi ((cond1_iff t).mpr h)).trans E0.symm) g4 g5 g6 L Q
  unfold POST at key
  rw [E0, Q2e, O3e, X4e] at key
  iapply (key _)
  isplitl [H0 H1 H2 H3 H4 H5 H6 HW Hcore HL]
  · isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    isplitl [HW]; · iexact HW
    isplitl [Hcore]; · iexact Hcore
    iexact HL
  · iintro ⟨⟨H0, H1, H2, H3⟩, H4, H5, H6, ⟨%W', %hW', HW⟩, Hcore, ⟨%L', HL⟩⟩
    isplitl [Hcore HW Hp]
    · isplitl [Hcore]; · iexact Hcore
      isplitl [HW]
      · iexists W'; isplitr
        · ipureintro; exact fun _ => hW'
        iexact HW
      iexact Hp
    isplitl [HL]
    · iexists L'; isplitr; · ipureintro; exact fun _ _ => Or.inl trivial
      iexact HL
    isplitl [H0]
    · iexists g0; isplitr; · ipureintro; exact e0
      iexact H0
    isplitl [H1]
    · iexists g1; isplitr; · ipureintro; exact e1
      iexact H1
    isplitl [H2]
    · iexists g2; isplitr; · ipureintro; exact e2
      iexact H2
    isplitl [H3]
    · iexists g3; isplitr; · ipureintro; exact e3
      iexact H3
    isplitl [H4]; · iexact H4
    isplitl [H5]; · iexact H5
    iexact H6

/-! ## The run -/

/-- The arrays the kernel reads by its own copies. -/
def H34 : Finset (Ref sig .tc) := {main_arg3, main_arg4}
theorem bigSep_H34 (Ψ : Ref sig .tc → sProp 𝕄) : bigSep H34 Ψ = iprop(Ψ main_arg3 ∗ Ψ main_arg4) :=
  bigSep_eq_bigSepL_of_eq [main_arg3, main_arg4] (by decide) (by decide) Ψ

theorem hmain : Pipeline.HMain (Ix := Unit) (Name := ℕ) (U := UU nD τ) (Lvl := ℕ) cfgs 0 (defs₀ (F := F)) 𝒱₀ m main (V m) :=
  Pipeline.hmain_prefix cfgs 0 defs₀ 𝒱₀ m main hostOps0 hostOps0_sub hostOps0_fresh main_chain

set_option backward.isDefEq.respectTransparency.types false in
/-- Every weakly fair execution of @main terminates; every final state has each window's array at the contents the
    region leaves, every other unscoped buffer at what the host prefix left there, and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ 𝒱₀ ownSemFacts H34 (by decide) m ρ main
    (hbody := fun c => (body_obligation m c).loose) (hshare := fun c => (dats m 0 c).share_full fun _ => rfl)
    (howed := fun _ _ => rfl) (V := V m) (hmain := hmain m) (hA := fun _ _ => rfl)
    (hin := fun c => by
      rw [Pipeline.ΦD_eq, scopedRest0_eq, ownSems0_eq, bigSep_H34, show (dats m 0 c).Φ 0 = Φ m c 0 from rfl]
      unfold Φ coreP
      iintro ⟨⟨⟨%W, HW⟩, ⟨%X, HX⟩, HR⟩, Hp, ⟨Hc0, Hc1, Hc4⟩, HB, HA⟩
      ihave HR2 := (ring_split c) $$ HR
      icases HR2 with ⟨Hs0, Hs1⟩
      isplitl [HX Hs0 Hs1 Hc0 Hc1 Hc4 HA HB]
      · isplitl [HA]; · iapply (entails_of_eq (codes_eq c (XA m c))); iexact HA
        isplitl [HB]; · iapply (entails_of_eq (outP_eq c (XB m c)).symm); iexact HB
        isplitl [HX]; · iexists X; iapply (entails_of_eq (xP_eq c X).symm); iexact HX
        isplitl [Hs0]; · iexact Hs0
        isplitl [Hs1]; · iexact Hs1
        isplitl [Hc0]; · iexact Hc0
        isplitl [Hc1]; · iexact Hc1
        iexact Hc4
      isplitl [HW]
      · iexists W; isplitr
        · ipureintro; exact fun h => absurd rfl h
        iapply (entails_of_eq (wP_eq c W).symm); iexact HW
      iexact Hp)
    (hout := fun c => by
      rw [Pipeline.ΦD_eq, scopedRest0_eq, ownSems0_eq, bigSep_H34, show (dats m 0 c).Φ (Fin.last cfg0.N) = Φ m c cfg0.N from rfl]
      unfold Φ coreP
      iintro ⟨⟨HA, HB, ⟨%X, HX⟩, Hs0, Hs1, Hc0, Hc1, Hc4⟩, ⟨%W, -, HW⟩, Hp⟩
      isplitl [HW HX Hs0 Hs1]
      · isplitl [HW]; · iexists W; iapply (entails_of_eq (wP_eq c W)); iexact HW
        isplitl [HX]; · iexists X; iapply (entails_of_eq (xP_eq c X)); iexact HX
        iapply (ring_join c)
        isplitl [Hs0]; · iexact Hs0
        iexact Hs1
      isplitl [Hp]; · iexact Hp
      isplitl [Hc0 Hc1 Hc4]
      · isplitl [Hc0]; · iexact Hc0
        isplitl [Hc1]; · iexact Hc1
        iexact Hc4
      isplitl [HB]; · iapply (entails_of_eq (outP_eq c (XB m c))); iexact HB
      iapply (entails_of_eq (codes_eq c (XA m c)).symm); iexact HA)
    (hQ' := fun _ h => h)

/-- What a run leaves: the arguments as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).1 0).trans (((dats m 0 c).arrAt_in 0 rfl _).trans (V_main_arg5 m c))⟩

end Cert.Kernel.Own
end
-- ==== Proof.Scale.lean ====
/-
  The scale of a block as a function of the block's largest magnitude, over the extended reals: as the reference states it,
  as the kernel computes it, and why the two are one function.
-/
module

public import Idealize.ShloMosaic.PureOps
public import Idealize.ShloMosaic.PureOps.Ideal.Laws
public import Mathlib.Analysis.SpecialFunctions.Pow.Real

@[expose] public section

noncomputable section

namespace Cert.Own

open Idealize.ShloMosaic

/-! ## The constants -/

def k448 : EReal := Ideal.ofBits .f32 0x43E00000#32
def k224 : EReal := Ideal.ofBits .f32 0x43600000#32
def k2 : EReal := Ideal.ofBits .f32 0x40000000#32
def k1 : EReal := Ideal.ofBits .f32 0x3F800000#32
def kHalf : EReal := Ideal.ofBits .f32 0x3F000000#32
def k0 : EReal := Ideal.ofBits .f32 0x00000000#32
def kTiny : EReal := Ideal.ofBits .f32 0x00800000#32
def kFloor : EReal := Ideal.ofBits .bf16 0x04E0#16
def k1b : EReal := Ideal.ofBits .bf16 0x3F80#16

theorem k448_eq : k448 = ((448 : ℝ) : EReal) := by
  simp [k448, Ideal.ofBits, Ideal.ieee, -EReal.coe_mul]; norm_num
theorem k224_eq : k224 = ((224 : ℝ) : EReal) := by
  simp [k224, Ideal.ofBits, Ideal.ieee, -EReal.coe_mul]; norm_num
theorem k2_eq : k2 = ((2 : ℝ) : EReal) := by
  simp [k2, Ideal.ofBits, Ideal.ieee, -EReal.coe_mul]; norm_num
theorem k1_eq : k1 = ((1 : ℝ) : EReal) := by
  simp [k1, Ideal.ofBits, Ideal.ieee, -EReal.coe_mul]; norm_num
theorem k1b_eq : k1b = ((1 : ℝ) : EReal) := by
  simp [k1b, Ideal.ofBits, Ideal.ieee, -EReal.coe_mul]; norm_num
theorem k0_eq : k0 = ((0 : ℝ) : EReal) := by
  simp [k0, Ideal.ofBits, Ideal.ieee]
theorem kTiny_eq : kTiny = (((2 : ℝ) ^ (-126 : ℤ) : ℝ) : EReal) := by
  simp [kTiny, Ideal.ofBits, Ideal.ieee, -EReal.coe_mul]; norm_num
theorem kFloor_eq : kFloor = ((448 * (2 : ℝ) ^ (-126 : ℤ) : ℝ) : EReal) := by
  simp [kFloor, Ideal.ofBits, Ideal.ieee, -EReal.coe_mul]; norm_num

/-! ## The two scales -/

/-- The exponent of the scale of a block with largest magnitude `a`: one above the floor of the binary logarithm of
    `a / 448`, and zero where the quotient is below the least normal number. -/
def expo (a : EReal) : EReal :=
  Scalar.select (Ideal.cmp .olt (Ideal.div a k448) kTiny) k0
    (Ideal.liftRound Int.floor (Ideal.div (Ideal.log (Ideal.div a k448)) (Ideal.log k2)) + k1)
/-- The scale, and what the values are multiplied by. -/
def scale (a : EReal) : EReal := Ideal.exp2 (expo a)
def inv (a : EReal) : EReal := Ideal.exp2 (k0 - expo a)

/-- The kernel's power of two: the first one, and the two corrections. -/
def kpow0 (a : EReal) : EReal :=
  Ideal.exp2 (Ideal.liftRound Int.floor (Ideal.div (Ideal.log (Ideal.div a k448)) (Ideal.log k2)) + k1)
def kpow1 (a : EReal) : EReal := Scalar.select (Ideal.cmp .oge a (kpow0 a * k448)) (kpow0 a * k2) (kpow0 a)
def kpow2 (a : EReal) : EReal := Scalar.select (Ideal.cmp .olt a (kpow1 a * k224)) (kpow1 a * kHalf) (kpow1 a)
def kscale (a : EReal) : EReal := Scalar.select (Ideal.cmp .oge a kFloor) (kpow2 a) k1b
def kinv (a : EReal) : EReal := Scalar.select (Ideal.cmp .oge a kFloor) (Ideal.div k1 (kpow2 a)) k1b

theorem select_olt (x y u v : EReal) : Scalar.select (Ideal.cmp .olt x y) u v = if x < y then u else v := by
  by_cases h : x < y <;> simp [Scalar.select, Ideal.cmp, h]
theorem select_oge (x y u v : EReal) : Scalar.select (Ideal.cmp .oge x y) u v = if y ≤ x then u else v := by
  by_cases h : y ≤ x <;> simp [Scalar.select, Ideal.cmp, h]

theorem div_real (x y : ℝ) (h : y ≠ 0) : Ideal.div (x : EReal) (y : EReal) = ((x / y : ℝ) : EReal) := by
  rw [Ideal.div_coe h, ← EReal.coe_mul]; congr 1; ring

/-- The first power of two, of a positive real: it lies between `a / 448` and twice that. -/
theorem pow_bounds (a : ℝ) (ha : 0 < a) :
    224 * (2 : ℝ) ^ (⌊Real.log (a / 448) / Real.log 2⌋ + 1) ≤ a ∧ a < 448 * (2 : ℝ) ^ (⌊Real.log (a / 448) / Real.log 2⌋ + 1) := by
  have hq : 0 < a / 448 := by positivity
  have h2 : (0 : ℝ) < Real.log 2 := Real.log_pos (by norm_num)
  set L := Real.log (a / 448) / Real.log 2 with hL
  have e : a / 448 = (2 : ℝ) ^ L := by
    rw [Real.rpow_def_of_pos (by norm_num), hL, mul_div_cancel₀ _ (ne_of_gt h2), Real.exp_log hq]
  have lo : (2 : ℝ) ^ ((⌊L⌋ : ℤ) : ℝ) ≤ (2 : ℝ) ^ L := Real.rpow_le_rpow_of_exponent_le (by norm_num) (Int.floor_le L)
  have hi : (2 : ℝ) ^ L < (2 : ℝ) ^ (((⌊L⌋ + 1 : ℤ)) : ℝ) := Real.rpow_lt_rpow_of_exponent_lt (by norm_num) (by
    push_cast; exact Int.lt_floor_add_one L)
  rw [Real.rpow_intCast] at lo hi
  rw [← e] at lo hi
  have d : (2 : ℝ) ^ (⌊L⌋ + 1) = 2 * (2 : ℝ) ^ ⌊L⌋ := by
    rw [zpow_add₀ (by norm_num), zpow_one]; ring
  constructor
  · rw [d]; linarith
  · linarith

/-- The exponent of a real block maximum. -/
theorem expo_arg (a : ℝ) (ha : 0 < a) :
    Ideal.liftRound Int.floor (Ideal.div (Ideal.log (Ideal.div (a : EReal) k448)) (Ideal.log k2)) + k1
      = (((⌊Real.log (a / 448) / Real.log 2⌋ + 1 : ℤ) : ℝ) : EReal) := by
  have hq : ¬ a / 448 ≤ 0 := not_le.mpr (by positivity)
  have h2 : Real.log 2 ≠ 0 := ne_of_gt (Real.log_pos (by norm_num))
  rw [k448_eq, k2_eq, k1_eq, div_real _ _ (by norm_num), Ideal.log_coe, if_neg hq, Ideal.log_coe, if_neg (by norm_num),
    div_real _ _ h2, Ideal.liftRound_coe, ← EReal.coe_add]
  push_cast; rfl

theorem exp2_int (n : ℤ) : Ideal.exp2 (((n : ℤ) : ℝ) : EReal) = (((2 : ℝ) ^ n : ℝ) : EReal) := by
  rw [Ideal.exp2_coe]; exact congrArg _ (Real.rpow_intCast 2 n)

theorem expo_arg_top : Ideal.liftRound Int.floor (Ideal.div (Ideal.log (Ideal.div ⊤ k448)) (Ideal.log k2)) + k1 = ⊤ := by
  have h2 : (0 : ℝ) < Real.log 2 := Real.log_pos (by norm_num)
  rw [k448_eq, k2_eq, k1_eq, Ideal.div_coe (by norm_num), EReal.top_mul_coe_of_pos (by norm_num), Ideal.log_top, Ideal.log_coe,
    if_neg (by norm_num), Ideal.div_coe (ne_of_gt h2), EReal.top_mul_coe_of_pos (by positivity), Ideal.liftRound_top,
    EReal.top_add_coe]

/-- The test on the magnitude is the test on the quotient. -/
theorem floor_iff (a : EReal) (ha : 0 ≤ a) : Ideal.div a k448 < kTiny ↔ ¬ kFloor ≤ a := by
  induction a with
  | bot => simp at ha
  | top =>
    rw [k448_eq, Ideal.div_coe (by norm_num), EReal.top_mul_coe_of_pos (by norm_num)]
    simp
  | coe r =>
    rw [k448_eq, div_real _ _ (by norm_num), kTiny_eq, kFloor_eq, EReal.coe_lt_coe_iff, EReal.coe_le_coe_iff, not_le,
      div_lt_iff₀ (by norm_num), mul_comm]

/-- The corrections change nothing, and the kernel's scale and inverse are the reference's. -/
theorem kscale_kinv (a : EReal) (ha : 0 ≤ a) : kscale a = scale a ∧ kinv a = inv a := by
  have key : kFloor ≤ a → kpow2 a = kpow0 a ∧ Ideal.div k1 (kpow0 a)
      = Ideal.exp2 (k0 - (Ideal.liftRound Int.floor (Ideal.div (Ideal.log (Ideal.div a k448)) (Ideal.log k2)) + k1)) := by
    intro h
    induction a with
    | bot => simp at ha
    | top =>
      have e0 : kpow0 ⊤ = ⊤ := by rw [kpow0, expo_arg_top, Ideal.exp2_top]
      have e1 : kpow1 ⊤ = ⊤ := by
        rw [kpow1, e0, select_oge, if_pos le_top, k2_eq, EReal.top_mul_coe_of_pos (by norm_num)]
      refine ⟨?_, ?_⟩
      · rw [kpow2, e1, select_olt, if_neg not_top_lt, e0]
      · rw [e0, expo_arg_top, k1_eq, k0_eq, Ideal.div, if_neg (by simp)]
        simp
    | coe r =>
      have hr : 0 < r := by
        rw [kFloor_eq, EReal.coe_le_coe_iff] at h
        exact lt_of_lt_of_le (by positivity) h
      obtain ⟨lo, hi⟩ := pow_bounds r hr
      have e0 : kpow0 (r : EReal) = (((2 : ℝ) ^ (⌊Real.log (r / 448) / Real.log 2⌋ + 1) : ℝ) : EReal) := by
        rw [kpow0, expo_arg r hr, exp2_int]
      have e1 : kpow1 (r : EReal) = kpow0 (r : EReal) := by
        rw [kpow1, select_oge, if_neg]
        rw [e0, k448_eq, ← EReal.coe_mul, EReal.coe_le_coe_iff]; linarith
      have hp : (2 : ℝ) ^ (⌊Real.log (r / 448) / Real.log 2⌋ + 1) ≠ 0 := by positivity
      refine ⟨?_, ?_⟩
      · rw [kpow2, e1, select_olt, if_neg]
        rw [e0, k224_eq, ← EReal.coe_mul, EReal.coe_lt_coe_iff]; linarith
      · rw [e0, expo_arg r hr, k1_eq, k0_eq, div_real _ _ hp, ← EReal.coe_sub, zero_sub, ← Int.cast_neg, exp2_int, zpow_neg,
          one_div]
  have ht := floor_iff a ha
  rw [kscale, kinv, scale, inv, expo, select_oge, select_oge, select_olt]
  by_cases h : kFloor ≤ a
  · rw [if_pos h, if_pos h, if_neg (by rw [ht]; exact not_not.mpr h), (key h).1]
    exact ⟨rfl, (key h).2⟩
  · rw [if_neg h, if_neg h, if_pos (ht.mpr h), k0_eq, k1b_eq]
    refine ⟨?_, ?_⟩
    · rw [Ideal.exp2_coe]; simp
    · rw [← EReal.coe_sub, Ideal.exp2_coe]; simp

end Cert.Own

end
-- ==== Proof.Spec.lean ====
/-
  What both programs compute, over the extended reals: the codes and the scale of a block of 128 values, and the three
  results from the inlier columns, the outlier columns and the weights.
-/
module

public import proofs.«01_k».proof.Proof.Scale
public import Idealize.ShloMosaic.Lib.ValueIdx

@[expose] public section

noncomputable section

namespace Cert.Own

open Idealize.ShloMosaic Idealize.ShloMosaic.ValueIdx

/-- The largest magnitude of a block. -/
def amax (f : Fin 128 → EReal) : EReal := (Finset.univ : Finset (Fin 128)).fold max ⊥ fun k => max (f k) (-(f k))

theorem amax_nonneg (f : Fin 128 → EReal) : 0 ≤ amax f := by
  refine (Finset.le_fold_max (0 : EReal)).mpr (Or.inr ⟨0, Finset.mem_univ _, ?_⟩)
  rcases le_total 0 (f 0) with h | h
  · exact le_max_of_le_left h
  · exact le_max_of_le_right (EReal.neg_nonneg.mpr h)

/-- The code of value `q` of a block, and its dequantised value. -/
def code (f : Fin 128 → EReal) (q : Fin 128) : EReal :=
  min k448 (max (Ideal.ofBits .f32 0xC3E00000#32) (f q * inv (amax f)))
def deq (f : Fin 128 → EReal) (q : Fin 128) : EReal := code f q * scale (amax f)

/-- Block `b` of row `r` of the inlier columns. -/
def block (xi : (⟨2, ![24576, 3968]⟩ : Shape).Idx → EReal) (r : Fin 24576) (b : Fin 31) : Fin 128 → EReal :=
  fun q => xi (ix2 r ⟨128 * b.val + q.val, by omega⟩)
/-- The block a column lies in, and its place in it. -/
def blockNo (j : Fin 3968) : Fin 31 := ⟨j.val / 128, by omega⟩
def place (j : Fin 3968) : Fin 128 := ⟨j.val % 128, by omega⟩

/-- The scales, the codes, and the product. -/
def scaleA (xi : (⟨2, ![24576, 3968]⟩ : Shape).Idx → EReal) (y : (⟨2, ![24576, 31]⟩ : Shape).Idx) : EReal := scale (amax (block xi (y 0) (y 1)))
def codeA (xi : (⟨2, ![24576, 3968]⟩ : Shape).Idx → EReal) (y : (⟨2, ![24576, 3968]⟩ : Shape).Idx) : EReal :=
  code (block xi (y 0) (blockNo (y 1))) (place (y 1))
def prodA (xi : (⟨2, ![24576, 3968]⟩ : Shape).Idx → EReal) (xo : (⟨2, ![24576, 128]⟩ : Shape).Idx → EReal)
    (wo : (⟨2, ![128, 5632]⟩ : Shape).Idx → EReal) (wc : (⟨2, ![3968, 5632]⟩ : Shape).Idx → EReal)
    (ws : (⟨2, ![31, 44]⟩ : Shape).Idx → EReal) (y : (⟨2, ![24576, 5632]⟩ : Shape).Idx) : EReal :=
  (∑ j : Fin 3968, deq (block xi (y 0) (blockNo j)) (place j) * (wc (ix2 j (y 1)) * ws (ix2 (blockNo j) ⟨(y 1).val / 128, by
      have : (y 1).val < 5632 := (y 1).isLt
      omega⟩)))
    + ∑ j : Fin 128, xo (ix2 (y 0) j) * wo (ix2 j (y 1))

end Cert.Own

end
-- ==== Proof.Quantise.lean ====
/-
  The quantising loop over the extended reals: what the buffers of codes, dequantised values and scales hold, for index
  rows that name lanes of the two tiles beside their block.
-/
module

public import proofs.«01_k».proof.Proof.Slab
public import proofs.«01_k».proof.Proof.Spec

@[expose] public section

noncomputable section

namespace Cert.KernelIdeal.Own

open Cert.KernelIdeal Cert.KernelIdeal.Gen Cert.Own
open Idealize.ShloMosaic Idealize.ShloMosaic.ValueIdx

/-- A row of indices, read at a lane. -/
theorem rowsOf_apply (r : Vec Ideal S1x128 .i32) (y : S32x128.Idx) : rowsOf (F := Ideal) r y = r (ix2 0 (y 1)) := by
  unfold rowsOf
  rw [shapeCast_self, shapeCast_self]
  refine broadcastTo_apply _ _ _ (ix2 0 (y 1)) ?_
  intro a
  fin_cases a
  · rfl
  · rfl

theorem slt_false (w : BitVec 32) (h : w.toNat < 128) : IntOp.cmpi .slt w 0#32 = 0#1 := by
  have : w.slt 0#32 = false := by
    rw [BitVec.slt_eq_decide, decide_eq_false_iff_not, BitVec.toInt_eq_toNat_cond, if_pos (by omega)]
    simp
  simp [IntOp.cmpi, this]

/-- A gather of lanes in range. -/
theorem gat_apply (x : FVec Ideal S32x128 .f32) (p : IVec S32x128 32) (y : S32x128.Idx) (h : (p y).toNat < 128) :
    gat x p y = x (ix2 (y 0) ⟨(p y).toNat, h⟩) := by
  unfold gat
  rw [shapeCast_shapeCast]
  have e : select (cmpi .slt p (broadcast S32x128 0#32)) (addi p (broadcast S32x128 128#32)) p y = p y := by
    show Scalar.select (IntOp.cmpi .slt (p y) 0#32) _ _ = _
    rw [slt_false _ h]; rfl
  unfold dynamicGather
  refine congrArg x (funext fun a => Fin.ext ?_)
  fin_cases a
  · rfl
  · show (select (cmpi .slt p (broadcast S32x128 0#32)) (addi p (broadcast S32x128 128#32)) p y).toNat % 128 = (p y).toNat
    rw [e]; omega

theorem lane_toNat (w : BitVec 32) : (IntOp.andi w 127#32).toNat = w.toNat % 128 := by
  show (w &&& 127#32).toNat = _
  rw [BitVec.toNat_and]
  exact Nat.and_two_pow_sub_one_eq_mod _ 7

theorem tile_toNat (w : BitVec 32) (h : w.toNat < 4096) : IntOp.shrsi .vector w 7#32 = BitVec.ofNat 32 (w.toNat / 128) := by
  have hm : w.msb = false := by
    rw [BitVec.msb_eq_decide, decide_eq_false_iff_not]; omega
  have e : IntOp.shrsi .vector w 7#32 = w.sshiftRight' 7#32 := by
    unfold IntOp.shrsi; rw [if_pos (by decide)]
  apply BitVec.eq_of_toNat_eq
  rw [e, BitVec.sshiftRight_eq', BitVec.sshiftRight_eq_of_msb_false hm, BitVec.toNat_ushiftRight, BitVec.toNat_ofNat, Nat.shiftRight_eq_div_pow]
  show w.toNat / 128 = w.toNat / 128 % 2 ^ 32
  omega

theorem tile_iff (w : BitVec 32) (h : w.toNat < 4096) (b : ℕ) (hb : b < 32) :
    IntOp.cmpi .eq (IntOp.shrsi .vector w 7#32) (BitVec.ofNat 32 b) = BitVec.ofBool (decide (w.toNat / 128 = b)) := by
  rw [tile_toNat w h]
  show BitVec.ofBool (BitVec.ofNat 32 (w.toNat / 128) == BitVec.ofNat 32 b) = _
  congr 1
  rw [Bool.eq_iff_iff, beq_iff_eq, decide_eq_true_eq]
  constructor
  · intro e
    have := congrArg BitVec.toNat e
    simp only [BitVec.toNat_ofNat] at this
    omega
  · intro e; rw [e]

/-- The inliers of a block, gathered from the two tiles beside it. -/
theorem words_apply (b : ℕ) (hb : b < 31) (r : Vec Ideal S1x128 .i32) (x0 x1 : Vec Ideal S32x128 .bf16) (y : S32x128.Idx)
    (lo : 128 * b ≤ (r (ix2 0 (y 1))).toNat) (hi : (r (ix2 0 (y 1))).toNat < 128 * b + 256) :
    words (BitVec.ofNat 32 b) r x0 x1 y
      = if (r (ix2 0 (y 1))).toNat / 128 = b then x0 (ix2 (y 0) ⟨(r (ix2 0 (y 1))).toNat % 128, by omega⟩)
        else x1 (ix2 (y 0) ⟨(r (ix2 0 (y 1))).toNat % 128, by omega⟩) := by
  have hl : (laneOf (rowsOf (F := Ideal) r) y).toNat = (r (ix2 0 (y 1))).toNat % 128 := by
    show (IntOp.andi (rowsOf (F := Ideal) r y) 127#32).toNat = _
    rw [rowsOf_apply, lane_toNat]
  have hl' : (laneOf (rowsOf (F := Ideal) r) y).toNat < 128 := by rw [hl]; omega
  show Scalar.select (IntOp.cmpi .eq (IntOp.shrsi .vector (rowsOf (F := Ideal) r y) 7#32) (BitVec.ofNat 32 b))
    (gat (wide x0) (laneOf (rowsOf (F := Ideal) r)) y) (gat (wide x1) (laneOf (rowsOf (F := Ideal) r)) y) = _
  rw [gat_apply _ _ _ hl', gat_apply _ _ _ hl', rowsOf_apply, tile_iff _ (by omega) b (by omega)]
  have e : ∀ x : Vec Ideal S32x128 .bf16, wide x (ix2 (y 0) ⟨(laneOf (rowsOf (F := Ideal) r) y).toNat, hl'⟩)
      = x (ix2 (y 0) ⟨(r (ix2 0 (y 1))).toNat % 128, by omega⟩) := by
    intro x
    unfold wide
    rw [shapeCast_self]
    show x _ = x _
    exact congrArg x (congrArg (ix2 (y 0)) (Fin.ext hl))
  rw [e, e]
  by_cases h : (r (ix2 0 (y 1))).toNat / 128 = b <;> simp [Scalar.select, h]

theorem amaxOf_apply (v : FVec Ideal S32x128 .bf16) (y : S32x128.Idx) : amaxOf v y = amax (fun k => v (ix2 (y 0) k)) := by
  unfold amaxOf
  rw [shapeCast_self]
  refine (broadcastTo_apply _ _ _ (ix2 (y 0) (0 : Fin 1)) (by intro a; fin_cases a <;> rfl)).trans ?_
  refine (shapeCast_apply _ _ _ (ix1 (y 0)) (by
    refine (Shape.rowMajor_val_one (d := ![32]) _).trans (Eq.trans ?_ (Shape.rowMajor_val_two (d := ![32, 1]) _).symm)
    show (y 0).val = (y 0).val * 1 + 0; omega)).trans ?_
  refine (Ideal.multiReduction_maximumf_single _ _ _ _ _ _).trans ?_
  unfold amax
  have e : FloatOps.ofBits (F := Ideal) .bf16 0xFF80#16 = (⊥ : EReal) := by
    simp [Ideal.ofBits, Ideal.ieee]
  rw [e]
  refine congrArg (Finset.fold max ⊥ · Finset.univ) (funext fun k => ?_)
  show max (v _) (-(v _)) = _
  have : (reduces_S32x128_S32).lift (ix1 (y 0)) k = ix2 (y 0) k := by
    funext a; fin_cases a <;> rfl
  exact congrArg (fun z => max (v z) (-(v z))) this

theorem scaleOf_apply (m : FVec Ideal S32x128 .bf16) (y : S32x128.Idx) : scaleOf m y = kscale (m y) := rfl
theorem invOf_apply (m : FVec Ideal S32x128 .bf16) (y : S32x128.Idx) : invOf m y = kinv (m y) := rfl

theorem codesOf_apply (v : FVec Ideal S32x128 .bf16) (y : S32x128.Idx) : codesOf v y = code (fun k => v (ix2 (y 0) k)) (y 1) := by
  show min k448 (max (Ideal.ofBits .f32 0xC3E00000#32) (v y * invOf (amaxOf v) y)) = _
  rw [invOf_apply, amaxOf_apply, (kscale_kinv _ (amax_nonneg _)).2]
  unfold code
  exact congrArg (fun z => min k448 (max (Ideal.ofBits .f32 0xC3E00000#32) (v z * inv (amax fun k => v (ix2 (y 0) k))))) (eq_ix2 y)

theorem scaleOf_amaxOf (v : FVec Ideal S32x128 .bf16) (y : S32x128.Idx) : scaleOf (amaxOf v) y = scale (amax fun k => v (ix2 (y 0) k)) := by
  rw [scaleOf_apply, amaxOf_apply, (kscale_kinv _ (amax_nonneg _)).1]

theorem deqOf_apply (v : FVec Ideal S32x128 .bf16) (y : S32x128.Idx) : deqOf v y = deq (fun k => v (ix2 (y 0) k)) (y 1) := by
  unfold deqOf
  rw [shapeCast_self]
  show codesOf v y * scaleOf (amaxOf v) y = _
  rw [codesOf_apply, scaleOf_amaxOf]; rfl

/-! ## The block of activations -/

section Rows
variable (Q : S31x128.Idx → BitVec 32) (O : S1x128.Idx → BitVec 32) (X : S256x4096.Idx → Elt Ideal .bf16)

/-- The indices of block `b` name columns of tiles `b` and `b + 1`; the outliers' indices name columns. -/
def InOrder : Prop := ∀ (b : Fin 31) (q : Fin 128), 128 * b.val ≤ (Q (ix2 b q)).toNat ∧ (Q (ix2 b q)).toNat < 128 * b.val + 256
def InRange : Prop := ∀ q : Fin 128, (O (ix2 0 q)).toNat < 4096

/-- The inliers of block `b` of row `r`, and the outliers of row `r`. -/
def inl (r : Fin 256) (b : Fin 31) : Fin 128 → EReal := fun q => X (ix2 r (Fin.ofNat 4096 (Q (ix2 b q)).toNat))
def outl (r : Fin 256) (q : Fin 128) : EReal := X (ix2 r (Fin.ofNat 4096 (O (ix2 0 q)).toNat))

variable {Q O}

theorem blk_apply (hQ : InOrder Q) (k : ℕ) (hk : k < 8) (b : Fin 31) (y : S32x128.Idx) (r : Fin 256) (hr : r.val = 32 * k + (y 0).val) :
    blk Q X k b.val y = inl Q X r b (y 1) := by
  have hy : (y 0).val < 32 := (y 0).isLt
  have e0 : Fin.ofNat 31 b.val = b := Fin.ext (Nat.mod_eq_of_lt b.isLt)
  have er : qRow (F := Ideal) Q b.val (ix2 0 (y 1)) = Q (ix2 b (y 1)) := by
    have e1 : Fin.ofNat 128 (y 1).val = y 1 := Fin.ext (Nat.mod_eq_of_lt (y 1).isLt)
    show Q (ix2 (Fin.ofNat 31 b.val) (Fin.ofNat 128 (y 1).val)) = _
    rw [e0, e1]
  obtain ⟨lo, hi⟩ := hQ b (y 1)
  have hb := b.isLt
  unfold blk
  rw [words_apply b.val hb _ _ _ y (by rw [er]; exact lo) (by rw [er]; exact hi)]
  have ex : ∀ (t : ℕ) (c : Fin 128), 128 * t + c.val = (Q (ix2 b (y 1))).toNat → xTile (F := Ideal) X k t (ix2 (y 0) c) = inl Q X r b (y 1) := by
    intro t c h
    refine congrArg X (congrArg₂ ix2 (Fin.ext ?_) (Fin.ext ?_))
    · show (32 * k + (y 0).val) % 256 = r.val; omega
    · show (128 * t + c.val) % 4096 = (Q (ix2 b (y 1))).toNat % 4096; rw [h]
  by_cases h : (qRow (F := Ideal) Q b.val (ix2 0 (y 1))).toNat / 128 = b.val
  · rw [if_pos h]
    refine ex _ _ ?_
    show 128 * b.val + (qRow (F := Ideal) Q b.val (ix2 0 (y 1))).toNat % 128 = _
    rw [← er]; omega
  · rw [if_neg h]
    refine ex _ _ ?_
    show 128 * (b.val + 1) + (qRow (F := Ideal) Q b.val (ix2 0 (y 1))).toNat % 128 = _
    rw [er] at h ⊢; omega

theorem blk_row (hQ : InOrder Q) (k : ℕ) (hk : k < 8) (b : Fin 31) (i : Fin 32) (r : Fin 256) (hr : r.val = 32 * k + i.val) :
    (fun q : Fin 128 => blk Q X k b.val (ix2 i q)) = inl Q X r b :=
  funext fun q => blk_apply X hQ k hk b (ix2 i q) r hr

theorem sclTo_apply (hQ : InOrder Q) (k : ℕ) (hk : k < 8) (b : Fin 31) (y : S32x128.Idx) (hy : (y 1).val = b.val) (r : Fin 256)
    (hr : r.val = 32 * k + (y 0).val) (n : ℕ) (hn : n ≤ 31) (hb : b.val < n) : sclTo Q X k n y = scale (amax (inl Q X r b)) := by
  induction n with
  | zero => omega
  | succ n ih =>
    have e : IntOp.cmpi .eq (iota .tc S32x128 32 [1] iota_S32x128_d1_w32 y) (BitVec.ofNat 32 n) = BitVec.ofBool (decide (b.val = n)) := by
      rw [iota_single_apply, hy]
      show BitVec.ofBool (BitVec.ofNat 32 b.val == BitVec.ofNat 32 n) = _
      congr 1
      rw [Bool.eq_iff_iff, beq_iff_eq, decide_eq_true_eq]
      constructor
      · intro e
        have := congrArg BitVec.toNat e
        simp only [BitVec.toNat_ofNat] at this
        omega
      · intro e; rw [e]
    show Scalar.select (IntOp.cmpi .eq (iota .tc S32x128 32 [1] iota_S32x128_d1_w32 y) (BitVec.ofNat 32 n))
      (scaleOf (amaxOf (blk Q X k n)) y) (sclTo Q X k n y) = _
    rw [e]
    by_cases h : b.val = n
    · subst h
      rw [decide_eq_true rfl, scaleOf_amaxOf]
      exact congrArg (fun f => scale (amax f)) (blk_row X hQ k hk b (y 0) r hr)
    · rw [decide_eq_false h]
      exact ih (by omega) (by omega)

theorem outTo_apply (hO : InRange O) (k : ℕ) (hk : k < 8) (y : S32x128.Idx) (r : Fin 256) (hr : r.val = 32 * k + (y 0).val) (n : ℕ)
    (hn : n ≤ 32) (hb : (O (ix2 0 (y 1))).toNat / 128 < n) : outTo O X k n y = outl O X r (y 1) := by
  have hy : (y 0).val < 32 := (y 0).isLt
  have hl : (laneOf (rowsOf (F := Ideal) O) y).toNat = (O (ix2 0 (y 1))).toNat % 128 := by
    show (IntOp.andi (rowsOf (F := Ideal) O y) 127#32).toNat = _
    rw [rowsOf_apply, lane_toNat]
  have hl' : (laneOf (rowsOf (F := Ideal) O) y).toNat < 128 := by rw [hl]; omega
  have hlt := hO (y 1)
  induction n with
  | zero => omega
  | succ n ih =>
    show Scalar.select (IntOp.cmpi .eq (IntOp.shrsi .vector (rowsOf (F := Ideal) O y) 7#32) (BitVec.ofNat 32 n))
      (gat (wide (xTile X k n)) (laneOf (rowsOf (F := Ideal) O)) y) (outTo O X k n y) = _
    rw [gat_apply _ _ _ hl', rowsOf_apply, tile_iff _ hlt n (by omega)]
    by_cases h : (O (ix2 0 (y 1))).toNat / 128 = n
    · rw [decide_eq_true h]
      show wide (xTile X k n) _ = _
      unfold wide
      rw [shapeCast_self]
      refine congrArg X (congrArg₂ ix2 (Fin.ext ?_) (Fin.ext ?_))
      · show (32 * k + (y 0).val) % 256 = r.val; omega
      · show (128 * n + (laneOf (rowsOf (F := Ideal) O) y).toNat) % 4096 = (O (ix2 0 (y 1))).toNat % 4096; rw [hl]; omega
    · rw [decide_eq_false h]
      exact ih (by omega) (by omega)

/-! ## What the buffers hold -/

/-- The column of a block, the lane in it. -/
theorem codesT_apply (hQ : InOrder Q) (y : S256x3968.Idx) : codesT Q X y = code (inl Q X (y 0) (blockNo (y 1))) (place (y 1)) := by
  have h0 : (y 0).val < 256 := (y 0).isLt
  unfold codesT
  rw [codesOf_apply]
  have e := blk_row X hQ ((y 0).val / 32) (by omega) (blockNo (y 1)) (Fin.ofNat 32 (y 0).val) (y 0) (by
    show (y 0).val = 32 * ((y 0).val / 32) + (y 0).val % 32; omega)
  exact congrArg (fun f => code f (place (y 1))) e

theorem xdT_lo (hQ : InOrder Q) (r : Fin 256) (j : Fin 3968) (c : Fin 4096) (hc : c.val = j.val) :
    xdT Q O X (ix2 r c) = deq (inl Q X r (blockNo j)) (place j) := by
  have h0 := r.isLt
  unfold xdT
  rw [if_pos (show c.val < 3968 by rw [hc]; exact j.isLt), deqOf_apply]
  have e := blk_row X hQ (r.val / 32) (by omega) (blockNo j) (Fin.ofNat 32 r.val) r (by
    show r.val = 32 * (r.val / 32) + r.val % 32; omega)
  have ec : c.val / 128 = (blockNo j).val := by rw [hc]; rfl
  have ep : Fin.ofNat 128 c.val = place j := Fin.ext (by show c.val % 128 = j.val % 128; rw [hc])
  show deq (fun q => blk Q X (r.val / 32) (c.val / 128) (ix2 (Fin.ofNat 32 r.val) q)) (Fin.ofNat 128 c.val) = _
  rw [ec, ep]
  exact congrArg (fun f => deq f (place j)) e

theorem xdT_hi (hO : InRange O) (r : Fin 256) (q : Fin 128) (c : Fin 4096) (hc : c.val = 3968 + q.val) :
    xdT Q O X (ix2 r c) = outl O X r q := by
  have h0 := r.isLt
  unfold xdT
  rw [if_neg (show ¬ c.val < 3968 by omega)]
  unfold outK
  rw [shapeCast_self]
  have ep : Fin.ofNat 128 c.val = q := Fin.ext (by show c.val % 128 = q.val; omega)
  have hq := hO q
  show outTo O X (r.val / 32) 32 (ix2 (Fin.ofNat 32 r.val) (Fin.ofNat 128 c.val)) = _
  rw [ep]
  exact outTo_apply X hO (r.val / 32) (by omega) _ r (by show r.val = 32 * (r.val / 32) + r.val % 32; omega) 32 le_rfl (by
    show (O (ix2 0 q)).toNat / 128 < 32; omega)

theorem sclT_apply (hQ : InOrder Q) (y : S256x31.Idx) : sclT Q X y = scale (amax (inl Q X (y 0) (y 1))) := by
  have h0 : (y 0).val < 256 := (y 0).isLt
  have h1 : (y 1).val < 31 := (y 1).isLt
  unfold sclT sclK
  refine (extractStridedSlice_apply _ _ _ _ (ix2 (Fin.ofNat 32 (y 0).val) (Fin.ofNat 128 (y 1).val)) ?_).trans ?_
  · intro a; fin_cases a
    · show (y 0).val % 32 = 0 + (y 0).val % 32; omega
    · show (y 1).val % 128 = 0 + (y 1).val % 31; omega
  · exact sclTo_apply X hQ _ (by omega) (y 1) _ (by show (y 1).val % 128 = (y 1).val; omega) (y 0) (by
      show (y 0).val = 32 * ((y 0).val / 32) + (y 0).val % 32; omega) 31 le_rfl h1

end Rows

end Cert.KernelIdeal.Own

end
-- ==== Proof.Product.lean ====
/-
  The product over the extended reals: what a block of the kernel's result holds, as the sum over the inlier columns
  plus the sum over the outlier columns.
-/
module

public import proofs.«01_k».proof.Proof.Quantise
public import proofs.«01_k».proof.Proof.Body
public import Idealize.ShloMosaic.Lib.MatmulPlain

@[expose] public section

noncomputable section

namespace Cert.KernelIdeal.Own

open Cert.KernelIdeal Cert.KernelIdeal.Gen Cert.Own
open Idealize.ShloMosaic Idealize.ShloMosaic.ValueIdx

/-- The slab product's dimension numbers are those of a plain product. -/
theorem dot_plain : dot_S256x4096_S4096x512_S256x512_1_0_0_1_n_n = DotDims.plain 256 4096 512 := rfl

/-- One product at a position: the sum over the 4096 columns. -/
theorem k0_pay4_apply (D : FVec Ideal S256x4096 .bf16) (W : FVec Ideal S4096x512 .bf16) (r : Fin 256) (c : Fin 512) :
    k0_pay4 (F := Ideal) D W (ix2 r c) = ∑ k : Fin 4096, D (ix2 r k) * W (ix2 k c) := by
  unfold k0_pay4
  show FloatOps.matmul (F := Ideal) dot_S256x4096_S4096x512_S256x512_1_0_0_1_n_n none D W _ (ix2 r c) = _
  rw [dot_plain]
  refine (Ideal.matmul_plain_apply none D W _ r c).trans ?_
  refine (congrArg (fun z => z + ∑ k : Fin 4096, D (ix2 r k) * W (ix2 k c)) (?_ : _ = (0 : EReal))).trans (zero_add _)
  exact k0_eq

variable {Q : Vec Ideal S31x128 .i32} {O : Vec Ideal S1x128 .i32} (X : S256x4096.Idx → Elt Ideal .bf16)
variable (S : S31x44.Idx → Elt Ideal .f32) (C : S3968x5632.Idx → Elt Ideal .fp8e4m3) (B : S128x5632.Idx → Elt Ideal .bf16)

/-- The block of the product, for index rows that name columns in reach. -/
theorem yT_apply (hQ : InOrder Q) (hO : InRange O) (y : S256x5632.Idx) :
    yT (xdT Q O X) (wfull S C B) y
      = (∑ j : Fin 3968, deq (inl Q X (y 0) (blockNo j)) (place j)
            * (C (ix2 j (y 1)) * S (ix2 (blockNo j) ⟨(y 1).val / 128, by
                have : (y 1).val < 5632 := (y 1).isLt
                omega⟩)))
          + ∑ q : Fin 128, outl O X (y 0) q * B (ix2 q (y 1)) := by
  have h0 : (y 0).val < 256 := (y 0).isLt
  have h1 : (y 1).val < 5632 := (y 1).isLt
  have er : Fin.ofNat 256 (y 0).val = y 0 := Fin.ext (Nat.mod_eq_of_lt h0)
  have ec : Fin.ofNat 5632 (512 * ((y 1).val / 512) + (y 1).val % 512) = y 1 := Fin.ext (by
    show (512 * ((y 1).val / 512) + (y 1).val % 512) % 5632 = (y 1).val
    omega)
  unfold yT
  refine (k0_pay4_apply _ _ _ _).trans ?_
  have hw : ∀ k : Fin 4096, wCols (F := Ideal) (wfull S C B) ((y 1).val / 512) (ix2 k (Fin.ofNat 512 (y 1).val)) = wfull S C B (ix2 k (y 1)) := fun k => by
    show wfull S C B (ix2 (Fin.ofNat 4096 k.val) (Fin.ofNat 5632 (512 * ((y 1).val / 512) + (y 1).val % 512))) = _
    rw [ec]
    exact congrArg (fun z => wfull S C B (ix2 z (y 1))) (Fin.ext (Nat.mod_eq_of_lt k.isLt))
  have hs : ∀ f : Fin 4096 → EReal, ∑ k : Fin 4096, f k = (∑ j : Fin 3968, f (Fin.castAdd 128 j)) + ∑ q : Fin 128, f (Fin.natAdd 3968 q) :=
    fun f => @Fin.sum_univ_add EReal _ 3968 128 f
  refine (hs _).trans ?_
  refine congrArg₂ (fun a b : EReal => a + b) (Finset.sum_congr rfl fun j _ => ?_) (Finset.sum_congr rfl fun q _ => ?_)
  · rw [hw, er]
    refine congrArg₂ (fun a b : EReal => a * b) (xdT_lo X hQ (y 0) j (Fin.castAdd 128 j) rfl) ?_
    unfold wfull
    refine (if_pos (show j.val < 3968 from j.isLt)).trans ?_
    show C (ix2 (Fin.ofNat 3968 j.val) (Fin.ofNat 5632 (y 1).val)) * S (ix2 (Fin.ofNat 31 (j.val / 128)) (Fin.ofNat 44 ((y 1).val / 128))) = _
    have e0 : Fin.ofNat 3968 j.val = j := Fin.ext (Nat.mod_eq_of_lt j.isLt)
    have e1 : Fin.ofNat 5632 (y 1).val = y 1 := Fin.ext (Nat.mod_eq_of_lt h1)
    have e2 : Fin.ofNat 31 (j.val / 128) = blockNo j := Fin.ext (Nat.mod_eq_of_lt (blockNo j).isLt)
    have e3 : Fin.ofNat 44 ((y 1).val / 128) = ⟨(y 1).val / 128, by omega⟩ := Fin.ext (Nat.mod_eq_of_lt (by omega))
    rw [e0, e1, e2, e3]
  · rw [hw, er]
    refine congrArg₂ (fun a b : EReal => a * b) (xdT_hi X hO (y 0) q (Fin.natAdd 3968 q) rfl) ?_
    unfold wfull
    refine (if_neg (show ¬ 3968 + q.val < 3968 by omega)).trans ?_
    have e0 : Fin.ofNat 128 (3968 + q.val - 3968) = q := Fin.ext (by
      show (3968 + q.val - 3968) % 128 = q.val
      have := q.isLt
      omega)
    have e1 : Fin.ofNat 5632 (y 1).val = y 1 := Fin.ext (Nat.mod_eq_of_lt h1)
    show B (ix2 (Fin.ofNat 128 (3968 + q.val - 3968)) (Fin.ofNat 5632 (y 1).val)) = _
    rw [e0, e1]

end Cert.KernelIdeal.Own

end
-- ==== Proof.KernelValue.lean ====
/-
  What the kernel's three result arrays hold after its run, over the extended reals.
-/
module

public import proofs.«01_k».proof.Proof.Product
public import proofs.«01_k».proof.Proof.Run

@[expose] public section

noncomputable section

namespace Cert.KernelIdeal.Own

open Cert.KernelIdeal Cert.KernelIdeal.Gen Cert.Own
open Idealize.ShloMosaic Idealize.ShloMosaic.TcCoe Idealize.ShloMosaic.ValueIdx
open Idealize.SL.Sem
open Idealize.ShloMosaic.Pipeline (Dat Cfg Window)

/-! ## Where the blocks lie -/

/-- The row windows' block of point `t` is block `t` of rows, whole in its columns; -/
theorem index_row (t : Fin cfg0.N) : (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0) :=
  (by decide +kernel : ∀ t : Fin grid0.N, (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)) t
/-- and the other inputs' block is the whole array. -/
theorem index_whole (t : Fin cfg0.N) : (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0)) t

/-- The array's row of row `r` of point `t`'s block. -/
def rowOf (t : Fin cfg0.N) (r : Fin 256) : Fin 24576 := ⟨t.val * 256 + r.val, by
  have : t.val < 96 := t.isLt
  omega⟩

theorem emb3 (t : Fin cfg0.N) (y : S256x4096.Idx) : ((cfg0.win 3).blk t).view.emb y = (ix2 (rowOf t (y 0)) (y 1) : S24576x4096.Idx) := by
  obtain ⟨⟨h0, h1⟩, -⟩ := index_row t
  funext a; apply Fin.ext
  match a with
  | ⟨0, _⟩ => exact (Window.rect_emb_val win0_3 t y 0 rfl).trans (by rw [h0]; rfl)
  | ⟨1, _⟩ => exact (Window.rect_emb_val win0_3 t y 1 rfl).trans (by rw [h1]; show 0 * 4096 + (y 1).val = (y 1).val; omega)
theorem emb4 (t : Fin cfg0.N) (y : S256x5632.Idx) : ((cfg0.win 4).blk t).view.emb y = (ix2 (rowOf t (y 0)) (y 1) : S24576x5632.Idx) := by
  obtain ⟨-, ⟨h0, h1⟩, -⟩ := index_row t
  funext a; apply Fin.ext
  match a with
  | ⟨0, _⟩ => exact (Window.rect_emb_val win0_4 t y 0 rfl).trans (by rw [h0]; rfl)
  | ⟨1, _⟩ => exact (Window.rect_emb_val win0_4 t y 1 rfl).trans (by rw [h1]; show 0 * 5632 + (y 1).val = (y 1).val; omega)
theorem emb5 (t : Fin cfg0.N) (y : S256x3968.Idx) : ((cfg0.win 5).blk t).view.emb y = (ix2 (rowOf t (y 0)) (y 1) : S24576x3968.Idx) := by
  obtain ⟨-, -, ⟨h0, h1⟩, -⟩ := index_row t
  funext a; apply Fin.ext
  match a with
  | ⟨0, _⟩ => exact (Window.rect_emb_val win0_5 t y 0 rfl).trans (by rw [h0]; rfl)
  | ⟨1, _⟩ => exact (Window.rect_emb_val win0_5 t y 1 rfl).trans (by rw [h1]; show 0 * 3968 + (y 1).val = (y 1).val; omega)
theorem emb6 (t : Fin cfg0.N) (y : S256x31.Idx) : ((cfg0.win 6).blk t).view.emb y = (ix2 (rowOf t (y 0)) (y 1) : S24576x31.Idx) := by
  obtain ⟨-, -, -, h0, h1⟩ := index_row t
  funext a; apply Fin.ext
  match a with
  | ⟨0, _⟩ => exact (Window.rect_emb_val win0_6 t y 0 rfl).trans (by rw [h0]; rfl)
  | ⟨1, _⟩ => exact (Window.rect_emb_val win0_6 t y 1 rfl).trans (by rw [h1]; show 0 * 31 + (y 1).val = (y 1).val; omega)
theorem emb0 (t : Fin cfg0.N) (y : S31x44.Idx) : ((cfg0.win 0).blk t).view.emb y = y := by
  obtain ⟨⟨h0, h1⟩, -⟩ := index_whole t
  funext a; apply Fin.ext
  match a with
  | ⟨0, _⟩ => exact (Window.rect_emb_val win0_0 t y 0 rfl).trans (by rw [h0]; show 0 * 31 + (y 0).val = (y 0).val; omega)
  | ⟨1, _⟩ => exact (Window.rect_emb_val win0_0 t y 1 rfl).trans (by rw [h1]; show 0 * 44 + (y 1).val = (y 1).val; omega)
theorem emb1 (t : Fin cfg0.N) (y : S31x128.Idx) : ((cfg0.win 1).blk t).view.emb y = y := by
  obtain ⟨-, ⟨h0, h1⟩, -⟩ := index_whole t
  funext a; apply Fin.ext
  match a with
  | ⟨0, _⟩ => exact (Window.rect_emb_val win0_1 t y 0 rfl).trans (by rw [h0]; show 0 * 31 + (y 0).val = (y 0).val; omega)
  | ⟨1, _⟩ => exact (Window.rect_emb_val win0_1 t y 1 rfl).trans (by rw [h1]; show 0 * 128 + (y 1).val = (y 1).val; omega)
theorem emb2 (t : Fin cfg0.N) (y : S1x128.Idx) : ((cfg0.win 2).blk t).view.emb y = y := by
  obtain ⟨-, -, h0, h1⟩ := index_whole t
  funext a; apply Fin.ext
  match a with
  | ⟨0, _⟩ => exact (Window.rect_emb_val win0_2 t y 0 rfl).trans (by rw [h0]; show 0 * 1 + (y 0).val = (y 0).val; omega)
  | ⟨1, _⟩ => exact (Window.rect_emb_val win0_2 t y 1 rfl).trans (by rw [h1]; show 0 * 128 + (y 1).val = (y 1).val; omega)

/-! ## What the body is handed -/

variable (m : (ℓ : Loc nD τ sig) → Buf (Elt Ideal) ℓ)

/-- The rows, the two rows of indices and the weights, as the region finds them. -/
abbrev vX (c : Dev nD) : S24576x4096.Idx → Elt Ideal .bf16 := V m c main_v2
abbrev vQ (c : Dev nD) : Vec Ideal S31x128 .i32 := V m c main_v0
abbrev vO (c : Dev nD) : Vec Ideal S1x128 .i32 := V m c main_v1
abbrev vB (c : Dev nD) : S128x5632.Idx → Elt Ideal .bf16 := V m c main_arg3
abbrev vC (c : Dev nD) : S3968x5632.Idx → Elt Ideal .fp8e4m3 := V m c main_arg4
abbrev vS (c : Dev nD) : S31x44.Idx → Elt Ideal .f32 := V m c main_arg5

theorem in0_eq (c : Dev nD) (t : Fin cfg0.N) : in0 m c t = vS m c := funext fun y => congrArg (vS m c) (emb0 t y)
theorem in1_eq (c : Dev nD) (t : Fin cfg0.N) : in1 m c t = vQ m c := funext fun y => congrArg (vQ m c) (emb1 t y)
theorem in2_eq (c : Dev nD) (t : Fin cfg0.N) : in2 m c t = vO m c := funext fun y => congrArg (vO m c) (emb2 t y)
theorem in3_eq (c : Dev nD) (t : Fin cfg0.N) : in3 m c t = fun y => vX m c (ix2 (rowOf t (y 0)) (y 1)) :=
  funext fun y => congrArg (vX m c) (emb3 t y)

theorem wAll_eq (c : Dev nD) : wAll m c = wfull (vS m c) (vC m c) (vB m c) := by
  unfold wAll
  rw [in0_eq]
  rfl

/-- The inlier and the outlier columns. -/
def colI (c : Dev nD) : (⟨2, ![24576, 3968]⟩ : Shape).Idx → EReal :=
  fun y => vX m c (ix2 (y 0) (Fin.ofNat 4096 (vQ m c (ix2 (blockNo (y 1)) (place (y 1)))).toNat))
def colO (c : Dev nD) : (⟨2, ![24576, 128]⟩ : Shape).Idx → EReal :=
  fun y => vX m c (ix2 (y 0) (Fin.ofNat 4096 (vO m c (ix2 0 (y 1))).toNat))

theorem inl_eq (c : Dev nD) (t : Fin cfg0.N) (r : Fin 256) (b : Fin 31) :
    inl (in1 m c t) (in3 m c t) r b = block (colI m c) (rowOf t r) b := by
  funext q
  rw [in1_eq, in3_eq]
  have e0 : blockNo ⟨128 * b.val + q.val, by omega⟩ = b := Fin.ext (by
    show (128 * b.val + q.val) / 128 = b.val
    have := q.isLt
    omega)
  have e1 : place ⟨128 * b.val + q.val, by omega⟩ = q := Fin.ext (by
    show (128 * b.val + q.val) % 128 = q.val
    have := q.isLt
    omega)
  show _ = vX m c (ix2 (rowOf t r) (Fin.ofNat 4096 (vQ m c (ix2 (blockNo ⟨128 * b.val + q.val, _⟩) (place ⟨128 * b.val + q.val, _⟩))).toNat))
  rw [e0, e1]
  rfl

theorem outl_eq (c : Dev nD) (t : Fin cfg0.N) (r : Fin 256) (q : Fin 128) :
    outl (in2 m c t) (in3 m c t) r q = colO m c (ix2 (rowOf t r) q) := by
  rw [in2_eq, in3_eq]
  rfl

/-! ## The final arrays -/

theorem block4 (c : Dev nD) (hQ : InOrder (vQ m c)) (hO : InRange (vO m c)) (t : Fin cfg0.N) (y : S256x5632.Idx) :
    yT (xdT (in1 m c t) (in2 m c t) (in3 m c t)) (wAll m c) y
      = prodA (colI m c) (colO m c) (vB m c) (vC m c) (vS m c) (ix2 (rowOf t (y 0)) (y 1)) := by
  rw [wAll_eq]
  refine (yT_apply (Q := in1 m c t) (O := in2 m c t) (in3 m c t) (vS m c) (vC m c) (vB m c) (by rw [in1_eq]; exact hQ) (by rw [in2_eq]; exact hO) y).trans ?_
  unfold prodA
  refine congrArg₂ (fun a b : EReal => a + b) (Finset.sum_congr rfl fun j _ => ?_) (Finset.sum_congr rfl fun q _ => ?_)
  · exact congrArg (fun f : Fin 128 → EReal => deq f (place j) * (vC m c (ix2 j (y 1)) * vS m c (ix2 (blockNo j) ⟨(y 1).val / 128, by
        have : (y 1).val < 5632 := (y 1).isLt
        omega⟩))) (inl_eq m c t (y 0) (blockNo j))
  · exact congrArg (fun z : EReal => z * vB m c (ix2 q (y 1))) (outl_eq m c t (y 0) q)
theorem block5 (c : Dev nD) (hQ : InOrder (vQ m c)) (t : Fin cfg0.N) (y : S256x3968.Idx) :
    codesT (in1 m c t) (in3 m c t) y = codeA (colI m c) (ix2 (rowOf t (y 0)) (y 1)) := by
  refine (codesT_apply (Q := in1 m c t) (in3 m c t) (by rw [in1_eq]; exact hQ) y).trans ?_
  exact congrArg (fun f : Fin 128 → EReal => code f (place (y 1))) (inl_eq m c t (y 0) (blockNo (y 1)))
theorem block6 (c : Dev nD) (hQ : InOrder (vQ m c)) (t : Fin cfg0.N) (y : S256x31.Idx) :
    sclT (in1 m c t) (in3 m c t) y = scaleA (colI m c) (ix2 (rowOf t (y 0)) (y 1)) := by
  refine (sclT_apply (Q := in1 m c t) (in3 m c t) (by rw [in1_eq]; exact hQ) y).trans ?_
  exact congrArg (fun f : Fin 128 → EReal => scale (amax f)) (inl_eq m c t (y 0) (y 1))

theorem flushed4_eq (c : Dev nD) (hQ : InOrder (vQ m c)) (hO : InRange (vO m c)) (t : Fin cfg0.N) :
    (dats m 0 c).flushed 4 t = ((cfg0.win 4).blk t).view.read (Elt Ideal) (prodA (colI m c) (colO m c) (vB m c) (vC m c) (vS m c)) := by
  show (cfg0.win 4).cut (grid0.coords t) ((dats m 0 c).after 4 t) = _
  rw [after_w4]
  funext y
  exact (block4 m c hQ hO t y).trans (congrArg (prodA (colI m c) (colO m c) (vB m c) (vC m c) (vS m c)) (emb4 t y)).symm

theorem flushed5_eq (c : Dev nD) (hQ : InOrder (vQ m c)) (t : Fin cfg0.N) :
    (dats m 0 c).flushed 5 t = ((cfg0.win 5).blk t).view.read (Elt Ideal) (codeA (colI m c)) := by
  show (cfg0.win 5).cut (grid0.coords t) ((dats m 0 c).after 5 t) = _
  rw [after_w5]
  funext y
  exact (block5 m c hQ t y).trans (congrArg (codeA (colI m c)) (emb5 t y)).symm

theorem flushed6_eq (c : Dev nD) (hQ : InOrder (vQ m c)) (t : Fin cfg0.N) :
    (dats m 0 c).flushed 6 t = ((cfg0.win 6).blk t).view.read (Elt Ideal) (scaleA (colI m c)) := by
  show (cfg0.win 6).cut (grid0.coords t) ((dats m 0 c).after 6 t) = _
  rw [after_w6]
  funext y
  exact (block6 m c hQ t y).trans (congrArg (scaleA (colI m c)) (emb6 t y)).symm

/-- Every row lies in one point's block. -/
def ptOf (r : Fin 24576) : Fin cfg0.N := ⟨r.val / 256, by
  have : cfg0.N = 96 := N_0
  have := r.isLt
  omega⟩
def inPt (r : Fin 24576) : Fin 256 := ⟨r.val % 256, by omega⟩
theorem rowOf_ptOf (r : Fin 24576) : rowOf (ptOf r) (inPt r) = r := Fin.ext (by
  show r.val / 256 * 256 + r.val % 256 = r.val
  omega)

theorem cover4 (i : S24576x5632.Idx) : ∃ t : Fin cfg0.N, (cfg0.win 4).flush t = true ∧ i ∈ ((cfg0.win 4).blk t).view.set := by
  refine ⟨ptOf (i 0), flush0_4 _, Finset.mem_map.mpr ⟨(ix2 (inPt (i 0)) (i 1) : S256x5632.Idx), Finset.mem_univ _, (emb4 _ _).trans ?_⟩⟩
  refine (congrArg (fun r => (ix2 r (i 1) : S24576x5632.Idx)) (rowOf_ptOf (i 0))).trans ?_
  funext a; fin_cases a <;> rfl
theorem cover5 (i : S24576x3968.Idx) : ∃ t : Fin cfg0.N, (cfg0.win 5).flush t = true ∧ i ∈ ((cfg0.win 5).blk t).view.set := by
  refine ⟨ptOf (i 0), flush0_5 _, Finset.mem_map.mpr ⟨(ix2 (inPt (i 0)) (i 1) : S256x3968.Idx), Finset.mem_univ _, (emb5 _ _).trans ?_⟩⟩
  refine (congrArg (fun r => (ix2 r (i 1) : S24576x3968.Idx)) (rowOf_ptOf (i 0))).trans ?_
  funext a; fin_cases a <;> rfl
theorem cover6 (i : S24576x31.Idx) : ∃ t : Fin cfg0.N, (cfg0.win 6).flush t = true ∧ i ∈ ((cfg0.win 6).blk t).view.set := by
  refine ⟨ptOf (i 0), flush0_6 _, Finset.mem_map.mpr ⟨(ix2 (inPt (i 0)) (i 1) : S256x31.Idx), Finset.mem_univ _, (emb6 _ _).trans ?_⟩⟩
  refine (congrArg (fun r => (ix2 r (i 1) : S24576x31.Idx)) (rowOf_ptOf (i 0))).trans ?_
  funext a; fin_cases a <;> rfl

/-- The product, the codes and the scales, as the run leaves them. -/
theorem final4 (c : Dev nD) (hQ : InOrder (vQ m c)) (hO : InRange (vO m c)) :
    (dats m 0 c).arrAt 4 cfg0.N = prodA (colI m c) (colO m c) (vB m c) (vC m c) (vS m c) :=
  (dats m 0 c).arrAt_eq_of_cover 4 _ (fun t _ => flushed4_eq m c hQ hO t) cover4
theorem final5 (c : Dev nD) (hQ : InOrder (vQ m c)) : (dats m 0 c).arrAt 5 cfg0.N = codeA (colI m c) :=
  (dats m 0 c).arrAt_eq_of_cover 5 _ (fun t _ => flushed5_eq m c hQ t) cover5
theorem final6 (c : Dev nD) (hQ : InOrder (vQ m c)) : (dats m 0 c).arrAt 6 cfg0.N = scaleA (colI m c) :=
  (dats m 0 c).arrAt_eq_of_cover 6 _ (fun t _ => flushed6_eq m c hQ t) cover6

end Cert.KernelIdeal.Own

end
-- ==== Proof.RefBody.lean ====
/-
  The reference's kernel over the extended reals: each of its values at a position.
-/
module

public import proofs.«01_k».proof.Proof.Gen.ReferenceIdeal.Skeleton
public import proofs.«01_k».proof.Proof.Spec
public import Idealize.ShloMosaic.Lib.MatmulPlain
public import Idealize.ShloMosaic.Lib.Pipeline.Value

@[expose] public section

noncomputable section

namespace Cert.ReferenceIdeal.Own

open Cert.ReferenceIdeal Cert.ReferenceIdeal.Gen Cert.Own
open Idealize.ShloMosaic Idealize.ShloMosaic.ValueIdx

variable (xi : Vec Ideal S24576x3968 .bf16)

/-- The inlier columns in blocks of 128. -/
theorem pay3_apply (r : Fin 24576) (b : Fin 31) (q : Fin 128) : k0_pay3 (F := Ideal) xi (ix3 r b q) = block xi r b q := by
  unfold k0_pay3
  rw [shapeCast_self]
  refine shapeCast_apply _ _ _ (ix2 r ⟨128 * b.val + q.val, by omega⟩) ?_
  refine (Shape.rowMajor_val_two (d := ![24576, 3968]) _).trans (Eq.trans ?_ (Shape.rowMajor_val_three (d := ![24576, 31, 128]) _).symm)
  show r.val * 3968 + (128 * b.val + q.val) = (r.val * 31 + b.val) * 128 + q.val
  ring

/-- The exponent of a block's scale. -/
theorem pay4_apply (y : S24576x31.Idx) : k0_pay4 (F := Ideal) xi y = expo (amax (block xi (y 0) (y 1))) := by
  have hm : multiReduction (F := Ideal) .maximumf [2] S24576x31 (absf (k0_pay3 (F := Ideal) xi)) 0xFF800000#32 reduces_S24576x31x128_S24576x31 (.inl rfl) rfl y
      = amax (block xi (y 0) (y 1)) := by
    refine (Ideal.multiReduction_maximumf_single _ _ _ _ _ _).trans ?_
    unfold amax
    have e : FloatOps.ofBits (F := Ideal) .f32 0xFF800000#32 = (⊥ : EReal) := by
      simp [Ideal.ofBits, Ideal.ieee]
    rw [e]
    refine congrArg (Finset.fold max ⊥ · Finset.univ) (funext fun k => ?_)
    show max (k0_pay3 (F := Ideal) xi _) (-(k0_pay3 (F := Ideal) xi _)) = _
    have h : (reduces_S24576x31x128_S24576x31).lift y k = ix3 (y 0) (y 1) k := by
      funext a; fin_cases a <;> rfl
    rw [h]
    exact congrArg (fun z : EReal => max z (-z)) (pay3_apply xi (y 0) (y 1) k)
  exact congrArg expo hm

/-- The scale of a block. -/
theorem pay5_apply (y : S24576x31.Idx) : k0_pay5 (F := Ideal) xi y = scaleA xi y := congrArg Ideal.exp2 (pay4_apply xi y)

/-- A value of a block, one for each block and row. -/
theorem perBlock_apply (v : FVec Ideal S24576x31 .f32) (r : Fin 24576) (b : Fin 31) (q : Fin 128) :
    broadcastTo S24576x31x128 (shapeCast S24576x31x1 v shapeCasts_S24576x31_S24576x31x1) broadcasts_S24576x31x1_S24576x31x128 (ix3 r b q)
      = v (ix2 r b) := by
  refine (broadcastTo_apply _ _ _ (ix3 r b (0 : Fin 1)) (by intro a; fin_cases a <;> rfl)).trans ?_
  refine shapeCast_apply _ _ _ (ix2 r b) ?_
  refine (Shape.rowMajor_val_two (d := ![24576, 31]) _).trans (Eq.trans ?_ (Shape.rowMajor_val_three (d := ![24576, 31, 1]) _).symm)
  show r.val * 31 + b.val = (r.val * 31 + b.val) * 1 + 0
  ring

/-- The codes. -/
theorem pay6_apply (r : Fin 24576) (b : Fin 31) (q : Fin 128) : k0_pay6 (F := Ideal) xi (ix3 r b q) = code (block xi r b) q := by
  have hb := perBlock_apply (exp2 (subf (broadcast S24576x31 (Scalar.ofBits (F := Ideal) .f32 0x00000000#32)) (k0_pay4 (F := Ideal) xi))) r b q
  have hi : exp2 (subf (broadcast S24576x31 (Scalar.ofBits (F := Ideal) .f32 0x00000000#32)) (k0_pay4 (F := Ideal) xi)) (ix2 r b) = inv (amax (block xi r b)) :=
    congrArg (fun z : EReal => Ideal.exp2 (k0 - z)) (pay4_apply xi (ix2 r b))
  have hx := pay3_apply xi r b q
  unfold k0_pay6 code
  exact congrArg₂ (fun u v : EReal => min k448 (max (Ideal.ofBits .f32 0xC3E00000#32) (u * v))) hx (hb.trans hi)

/-- A position of a row as block and place. -/
theorem flat_apply {α : Type} (v : S24576x31x128.Idx → α) (r : Fin 24576) (j : Fin 3968) :
    shapeCast S24576x3968 v shapeCasts_S24576x31x128_S24576x3968 (ix2 r j) = v (ix3 r (blockNo j) (place j)) := by
  refine shapeCast_apply _ _ _ (ix3 r (blockNo j) (place j)) ?_
  refine (Shape.rowMajor_val_three (d := ![24576, 31, 128]) _).trans (Eq.trans ?_ (Shape.rowMajor_val_two (d := ![24576, 3968]) _).symm)
  show (r.val * 31 + j.val / 128) * 128 + j.val % 128 = r.val * 3968 + j.val
  omega

theorem pay2_apply (y : S24576x3968.Idx) : k0_pay2 (F := Ideal) (k0_pay6 (F := Ideal) xi) y = codeA xi y := by
  unfold k0_pay2
  refine (congrArg _ (eq_ix2 y)).trans ?_
  exact (flat_apply _ (y 0) (y 1)).trans (pay6_apply xi (y 0) (blockNo (y 1)) (place (y 1)))

/-- The dequantised values. -/
theorem pay7_apply (r : Fin 24576) (j : Fin 3968) : k0_pay7 (F := Ideal) xi (ix2 r j) = deq (block xi r (blockNo j)) (place j) := by
  unfold k0_pay7
  refine (flat_apply _ r j).trans ?_
  exact congrArg₂ (fun u v : EReal => u * v) (pay6_apply xi r (blockNo j) (place j))
    ((perBlock_apply (k0_pay5 (F := Ideal) xi) r (blockNo j) (place j)).trans (pay5_apply xi (ix2 r (blockNo j))))

variable (wc : Vec Ideal S3968x5632 .fp8e4m3) (ws : Vec Ideal S31x44 .f32)

/-- The dequantised weights. -/
theorem pay8_apply (j : Fin 3968) (n : Fin 5632) :
    shapeCast S3968x5632 (k0_pay8 (F := Ideal) wc ws) shapeCasts_S31x128x44x128_S3968x5632 (ix2 j n)
      = wc (ix2 j n) * ws (ix2 (blockNo j) ⟨n.val / 128, by omega⟩) := by
  have h1 : shapeCast S31x128x44x128 wc shapeCasts_S3968x5632_S31x128x44x128
      (ix4 (blockNo j) (place j) (⟨n.val / 128, by omega⟩ : Fin 44) (⟨n.val % 128, by omega⟩ : Fin 128)) = wc (ix2 j n) := by
    refine shapeCast_apply _ _ _ (ix2 j n) ?_
    refine (Shape.rowMajor_val_two (d := ![3968, 5632]) _).trans (Eq.trans ?_ (Shape.rowMajor_val_four (d := ![31, 128, 44, 128]) _).symm)
    show j.val * 5632 + n.val = ((j.val / 128 * 128 + j.val % 128) * 44 + n.val / 128) * 128 + n.val % 128
    omega
  have h2 : broadcastTo S31x128x44x128 (shapeCast S31x1x44x1 ws shapeCasts_S31x44_S31x1x44x1) broadcasts_S31x1x44x1_S31x128x44x128
      (ix4 (blockNo j) (place j) (⟨n.val / 128, by omega⟩ : Fin 44) (⟨n.val % 128, by omega⟩ : Fin 128)) = ws (ix2 (blockNo j) ⟨n.val / 128, by omega⟩) := by
    refine (broadcastTo_apply _ _ _ (ix4 (blockNo j) (0 : Fin 1) (⟨n.val / 128, by omega⟩ : Fin 44) (0 : Fin 1)) (by intro a; fin_cases a <;> rfl)).trans ?_
    refine shapeCast_apply _ _ _ (ix2 (blockNo j) ⟨n.val / 128, by omega⟩) ?_
    refine (Shape.rowMajor_val_two (d := ![31, 44]) _).trans (Eq.trans ?_ (Shape.rowMajor_val_four (d := ![31, 1, 44, 1]) _).symm)
    show j.val / 128 * 44 + n.val / 128 = ((j.val / 128 * 1 + 0) * 44 + n.val / 128) * 1 + 0
    ring
  refine (shapeCast_apply _ _ _ (ix4 (blockNo j) (place j) (⟨n.val / 128, by omega⟩ : Fin 44) (⟨n.val % 128, by omega⟩ : Fin 128)) ?_).trans ?_
  · refine (Shape.rowMajor_val_four (d := ![31, 128, 44, 128]) _).trans (Eq.trans ?_ (Shape.rowMajor_val_two (d := ![3968, 5632]) _).symm)
    show ((j.val / 128 * 128 + j.val % 128) * 44 + n.val / 128) * 128 + n.val % 128 = j.val * 5632 + n.val
    omega
  · exact congrArg₂ (fun u v : EReal => u * v) h1 h2

theorem dotI_plain : dot_S24576x3968_S3968x5632_S24576x5632_1_0_0_1_n_n = DotDims.plain 24576 3968 5632 := rfl
theorem dotO_plain : dot_S24576x128_S128x5632_S24576x5632_1_0_0_1_n_n = DotDims.plain 24576 128 5632 := rfl

theorem matI_apply (a : FVec Ideal S24576x3968 .bf16) (w : FVec Ideal S3968x5632 .bf16) (r : Fin 24576) (n : Fin 5632) :
    matmul (F := Ideal) dot_S24576x3968_S3968x5632_S24576x5632_1_0_0_1_n_n none a w (constant S24576x5632 .f32 0x00000000#32) (ix2 r n)
      = ∑ k : Fin 3968, a (ix2 r k) * w (ix2 k n) := by
  show FloatOps.matmul (F := Ideal) dot_S24576x3968_S3968x5632_S24576x5632_1_0_0_1_n_n none a w _ (ix2 r n) = _
  rw [dotI_plain]
  refine (Ideal.matmul_plain_apply none a w _ r n).trans ?_
  refine (congrArg (fun z => z + ∑ k : Fin 3968, a (ix2 r k) * w (ix2 k n)) (?_ : _ = (0 : EReal))).trans (zero_add _)
  exact k0_eq
theorem matO_apply (a : FVec Ideal S24576x128 .bf16) (w : FVec Ideal S128x5632 .bf16) (r : Fin 24576) (n : Fin 5632) :
    matmul (F := Ideal) dot_S24576x128_S128x5632_S24576x5632_1_0_0_1_n_n none a w (constant S24576x5632 .f32 0x00000000#32) (ix2 r n)
      = ∑ k : Fin 128, a (ix2 r k) * w (ix2 k n) := by
  show FloatOps.matmul (F := Ideal) dot_S24576x128_S128x5632_S24576x5632_1_0_0_1_n_n none a w _ (ix2 r n) = _
  rw [dotO_plain]
  refine (Ideal.matmul_plain_apply none a w _ r n).trans ?_
  refine (congrArg (fun z => z + ∑ k : Fin 128, a (ix2 r k) * w (ix2 k n)) (?_ : _ = (0 : EReal))).trans (zero_add _)
  exact k0_eq

variable (xo : Vec Ideal S24576x128 .bf16) (wo : Vec Ideal S128x5632 .bf16)

/-- The product. -/
theorem pay1_apply (y : S24576x5632.Idx) :
    k0_pay1 (F := Ideal) (k0_pay7 (F := Ideal) xi) (k0_pay8 (F := Ideal) wc ws) xo wo y = prodA xi xo wo wc ws y := by
  unfold k0_pay1 prodA
  rw [shapeCast_self]
  refine (congrArg _ (eq_ix2 y)).trans ?_
  refine congrArg₂ (fun u v : EReal => u + v) ((matI_apply _ _ (y 0) (y 1)).trans (Finset.sum_congr rfl fun j _ => ?_)) (matO_apply _ _ (y 0) (y 1))
  exact congrArg₂ (fun u v : EReal => u * v) (pay7_apply xi (y 0) j) (pay8_apply wc ws j (y 1))

end Cert.ReferenceIdeal.Own

end
-- ==== Proof.RefValue.lean ====
/-
  What the reference's three result arrays hold after its run, over the extended reals.
-/
module

public import proofs.«01_k».proof.Proof.Gen.ReferenceIdeal.Frame
public import Idealize.ShloMosaic.Lib.Pipeline.Value
public import proofs.«01_k».proof.Proof.RefBody

@[expose] public section

noncomputable section

namespace Cert.ReferenceIdeal.Own

open Cert.ReferenceIdeal Cert.ReferenceIdeal.Gen Cert.Own
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The inlier and the outlier columns of the rows, and the weights, their codes and scales, as the region finds them. -/
abbrev rI (c : Dev nD) : Vec Ideal S24576x3968 .bf16 := V m c main_v2
abbrev rO (c : Dev nD) : Vec Ideal S24576x128 .bf16 := V m c main_v1
abbrev rB (c : Dev nD) : Vec Ideal S128x5632 .bf16 := V m c main_arg3
abbrev rC (c : Dev nD) : Vec Ideal S3968x5632 .fp8e4m3 := V m c main_arg4
abbrev rS (c : Dev nD) : Vec Ideal S31x44 .f32 := V m c main_arg5

/-- A window of a whole array has its block at the array's own positions. -/
theorem emb_whole (w : Window sig grid0) (t : Fin grid0.N) (y : (w.xblock (grid0.coords t)).Idx) (hk : w.kind = .blocked) (hi : ∀ a, w.index t a = 0) (a : Fin w.shape.rank) :
    ((w.rect t).emb y a).val = (y a).val :=
  (Window.rect_emb_val w t y a hk).trans (by rw [hi a]; omega)

theorem emb0 (t : Fin cfg0.N) (y : S24576x128.Idx) : ((cfg0.win 0).blk t).view.emb y = y :=
  funext fun a => Fin.ext (emb_whole win0_0 t y rfl (fun _ => rfl) a)
theorem emb1 (t : Fin cfg0.N) (y : S24576x3968.Idx) : ((cfg0.win 1).blk t).view.emb y = y :=
  funext fun a => Fin.ext (emb_whole win0_1 t y rfl (fun _ => rfl) a)
theorem emb2 (t : Fin cfg0.N) (y : S128x5632.Idx) : ((cfg0.win 2).blk t).view.emb y = y :=
  funext fun a => Fin.ext (emb_whole win0_2 t y rfl (fun _ => rfl) a)
theorem emb3 (t : Fin cfg0.N) (y : S3968x5632.Idx) : ((cfg0.win 3).blk t).view.emb y = y :=
  funext fun a => Fin.ext (emb_whole win0_3 t y rfl (fun _ => rfl) a)
theorem emb4 (t : Fin cfg0.N) (y : S31x44.Idx) : ((cfg0.win 4).blk t).view.emb y = y :=
  funext fun a => Fin.ext (emb_whole win0_4 t y rfl (fun _ => rfl) a)
theorem emb5 (t : Fin cfg0.N) (y : S24576x5632.Idx) : ((cfg0.win 5).blk t).view.emb y = y :=
  funext fun a => Fin.ext (emb_whole win0_5 t y rfl (fun _ => rfl) a)
theorem emb6 (t : Fin cfg0.N) (y : S24576x3968.Idx) : ((cfg0.win 6).blk t).view.emb y = y :=
  funext fun a => Fin.ext (emb_whole win0_6 t y rfl (fun _ => rfl) a)
theorem emb7 (t : Fin cfg0.N) (y : S24576x31.Idx) : ((cfg0.win 7).blk t).view.emb y = y :=
  funext fun a => Fin.ext (emb_whole win0_7 t y rfl (fun _ => rfl) a)

theorem blk0 (c : Dev nD) (t : Fin cfg0.N) : iblk m c 0 t = rO m c := funext fun y => congrArg (rO m c) (emb0 t y)
theorem blk1 (c : Dev nD) (t : Fin cfg0.N) : iblk m c 1 t = rI m c := funext fun y => congrArg (rI m c) (emb1 t y)
theorem blk2 (c : Dev nD) (t : Fin cfg0.N) : iblk m c 2 t = rB m c := funext fun y => congrArg (rB m c) (emb2 t y)
theorem blk3 (c : Dev nD) (t : Fin cfg0.N) : iblk m c 3 t = rC m c := funext fun y => congrArg (rC m c) (emb3 t y)
theorem blk4 (c : Dev nD) (t : Fin cfg0.N) : iblk m c 4 t = rS m c := funext fun y => congrArg (rS m c) (emb4 t y)

theorem out5 (xo : Vec Ideal S24576x128 .bf16) (xi : Vec Ideal S24576x3968 .bf16) (wo : Vec Ideal S128x5632 .bf16)
    (wc : Vec Ideal S3968x5632 .fp8e4m3) (ws : Vec Ideal S31x44 .f32) : out0_5 xo xi wo wc ws = prodA xi xo wo wc ws := by
  unfold out0_5
  rw [View.canon_unit_zero hz, View.ld_unit_zero hz, View.ld_unit_zero hz, View.ld_unit_zero hz, View.ld_unit_zero hz, View.ld_unit_zero hz]
  exact funext fun y => pay1_apply xi wc ws xo wo y
theorem out6 (xo : Vec Ideal S24576x128 .bf16) (xi : Vec Ideal S24576x3968 .bf16) (wo : Vec Ideal S128x5632 .bf16)
    (wc : Vec Ideal S3968x5632 .fp8e4m3) (ws : Vec Ideal S31x44 .f32) : out0_6 xo xi wo wc ws = codeA xi := by
  unfold out0_6
  rw [View.canon_unit_zero hz, View.ld_unit_zero hz]
  exact funext fun y => pay2_apply xi y
theorem out7 (xo : Vec Ideal S24576x128 .bf16) (xi : Vec Ideal S24576x3968 .bf16) (wo : Vec Ideal S128x5632 .bf16)
    (wc : Vec Ideal S3968x5632 .fp8e4m3) (ws : Vec Ideal S31x44 .f32) : out0_7 xo xi wo wc ws = scaleA xi := by
  unfold out0_7
  rw [View.canon_unit_zero hz, View.ld_unit_zero hz]
  exact funext fun y => pay5_apply xi y

/-- The product, the codes and the scales, as the run leaves them. -/
theorem final5 (c : Dev nD) : (dats m 0 c).arrAt 5 cfg0.N = prodA (rI m c) (rO m c) (rB m c) (rC m c) (rS m c) := by
  refine (dats m 0 c).arrAt_eq_of_cover 5 _ (fun t _ => ?_) (fun y => ⟨t0_0, flush0_5 t0_0, Finset.mem_map.mpr ⟨y, Finset.mem_univ _, emb5 t0_0 y⟩⟩)
  show (cfg0.win 5).cut (grid0.coords t) ((dats m 0 c).after 5 t) = _
  rw [after0_5, blk0, blk1, blk2, blk3, blk4, out5]
  exact funext fun y => (congrArg (prodA (rI m c) (rO m c) (rB m c) (rC m c) (rS m c)) (emb5 t y)).symm
theorem final6 (c : Dev nD) : (dats m 0 c).arrAt 6 cfg0.N = codeA (rI m c) := by
  refine (dats m 0 c).arrAt_eq_of_cover 6 _ (fun t _ => ?_) (fun y => ⟨t0_0, flush0_6 t0_0, Finset.mem_map.mpr ⟨y, Finset.mem_univ _, emb6 t0_0 y⟩⟩)
  show (cfg0.win 6).cut (grid0.coords t) ((dats m 0 c).after 6 t) = _
  rw [after0_6, blk1, out6]
  exact funext fun y => (congrArg (codeA (rI m c)) (emb6 t y)).symm
theorem final7 (c : Dev nD) : (dats m 0 c).arrAt 7 cfg0.N = scaleA (rI m c) := by
  refine (dats m 0 c).arrAt_eq_of_cover 7 _ (fun t _ => ?_) (fun y => ⟨t0_0, flush0_7 t0_0, Finset.mem_map.mpr ⟨y, Finset.mem_univ _, emb7 t0_0 y⟩⟩)
  show (cfg0.win 7).cut (grid0.coords t) ((dats m 0 c).after 7 t) = _
  rw [after0_7, blk1, out7]
  exact funext fun y => (congrArg (scaleA (rI m c)) (emb7 t y)).symm

end Cert.ReferenceIdeal.Own

end
-- ==== Proof.Takes.lean ====
/-
  The columns that the reference takes out of the activations: what its two host lookups hold when every index names a
  column.
-/
module

public import Idealize.ShloMosaic.Lib.ValueIdx
public import Idealize.ShloMosaic.PureOps.Reduce
public import Idealize.ShloMosaic.Lib.Pipeline.Value
public import Idealize.ShloMosaic.PureOps.Ideal

@[expose] public section

noncomputable section

namespace Cert.Own

open Idealize.ShloMosaic Idealize.ShloMosaic.ValueIdx

/-! ## A gather of columns -/

section
variable {α : Type} {N M C w : ℕ}

/-- The dimension numbers of a gather of whole columns of `[N, M]`, one index for each of `C` columns. -/
abbrev colDims (N M C : ℕ) (wf : GatherDims.WF ⟨2, ![N, M]⟩ ⟨2, ![C, 1]⟩ ⟨2, ![N, C]⟩ [0] [1] [] [1] [] 1 ![N, 1]) :
    GatherDims ⟨2, ![N, M]⟩ ⟨2, ![C, 1]⟩ ⟨2, ![N, C]⟩ where
  offsetDims := [0]
  collapsedSliceDims := [1]
  operandBatchingDims := []
  startIndicesBatchingDims := []
  startIndexMap := [1]
  indexVectorDim := 1
  sliceSizes := ![N, 1]
  wf := wf

/-- Column `j` of the result is the column its index names, kept within the operand. -/
theorem gather_cols (hM : 0 < M) (wf : GatherDims.WF ⟨2, ![N, M]⟩ ⟨2, ![C, 1]⟩ ⟨2, ![N, C]⟩ [0] [1] [] [1] [] 1 ![N, 1])
    (x : (⟨2, ![N, M]⟩ : Shape).Idx → α) (idx : IVec ⟨2, ![C, 1]⟩ w) (r : Fin N) (j : Fin C) :
    Host.gather (colDims N M C wf) x idx (ix2 r j) = x (ix2 r ⟨min (idx (ix2 j 0)).toInt.toNat (M - 1), by omega⟩) := by
  unfold Host.gather
  refine congrArg x (funext fun a => Fin.ext ?_)
  show (colDims N M C wf).start (ix2 r j) idx a + (colDims N M C wf).batchCoord (ix2 r j) a + (colDims N M C wf).offCoord (ix2 r j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ (colDims N M C wf).startIndexMap from fun h => by simp at h)]
    have hk : (0 : Fin 2) ∈ (colDims N M C wf).sKept := (GatherDims.mem_sKept _ _).mpr ⟨fun h => by simp at h, List.not_mem_nil⟩
    unfold GatherDims.offCoord
    rw [dif_pos hk]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N M C wf).startIndexMap from List.mem_singleton.mpr rfl)]
    have hsi : (colDims N M C wf).siIdx (ix2 r j) ⟨List.idxOf (1 : Fin 2) (colDims N M C wf).startIndexMap,
        List.idxOf_lt_length_iff.2 (List.mem_singleton.mpr rfl)⟩ = (ix2 j 0 : (⟨2, ![C, 1]⟩ : Shape).Idx) := by
      funext b; refine Fin.ext ?_
      match b with
      | ⟨0, _⟩ => rfl
      | ⟨1, _⟩ => rfl
    rw [hsi]
    rfl
end

/-! ## The lookup: indices wrapped, columns gathered, columns out of range masked -/

section
variable {N C : ℕ} {F : FTy → Type} [FloatOps F]
variable (h0 : (⟨0, ![]⟩ : Shape).BroadcastsInDim ⟨1, ![C]⟩ ![]) (h1 : (⟨1, ![C]⟩ : Shape).BroadcastsInDim ⟨2, ![C, 1]⟩ ![0])
  (h2 : (⟨0, ![]⟩ : Shape).BroadcastsInDim ⟨2, ![C, 1]⟩ ![]) (h3 : (⟨1, ![1]⟩ : Shape).BroadcastsInDim ⟨2, ![1, 1]⟩ ![1])
  (h4 : (⟨2, ![1, 1]⟩ : Shape).BroadcastsInDim ⟨2, ![C, 1]⟩ ![0, 1]) (hr : (⟨2, ![C, 1]⟩ : Shape).ReducesTo [1] ⟨1, ![C]⟩)
  (hu : 0 < (⟨0, ![]⟩ : Shape).numel)
  (h5 : (⟨1, ![C]⟩ : Shape).BroadcastsInDim ⟨2, ![N, C]⟩ ![1]) (h6 : (⟨0, ![]⟩ : Shape).BroadcastsInDim ⟨2, ![N, C]⟩ ![])
  (wf : GatherDims.WF ⟨2, ![N, 4096]⟩ ⟨2, ![C, 1]⟩ ⟨2, ![N, C]⟩ [0] [1] [] [1] [] 1 ![N, 1])

/-- The indices, negative ones counted from the end, -/
def takeIx (i : IVec ⟨1, ![C]⟩ 32) : IVec ⟨2, ![C, 1]⟩ 32 :=
  broadcastInDim ⟨2, ![C, 1]⟩ ![0] h1 (select (cmpi .slt i (broadcastInDim ⟨1, ![C]⟩ ![] h0 (constantI ⟨0, ![]⟩ 32 0#32)))
    (addi i (broadcastInDim ⟨1, ![C]⟩ ![] h0 (constantI ⟨0, ![]⟩ 32 4096#32))) i)
/-- which of them name a column, -/
def takeOk (i : IVec ⟨1, ![C]⟩ 32) : IVec ⟨1, ![C]⟩ 1 :=
  Host.reduce IntOp.andi (andi (cmpi .sge (takeIx h0 h1 i) (broadcastInDim ⟨2, ![C, 1]⟩ ![] h2 (constantI ⟨0, ![]⟩ 32 0#32)))
    (cmpi .sle (takeIx h0 h1 i) (broadcastInDim ⟨2, ![C, 1]⟩ ![0, 1] h4 (broadcastInDim ⟨2, ![1, 1]⟩ ![1] h3 (constantI ⟨1, ![1]⟩ 32 4095#32)))))
    (constantI ⟨0, ![]⟩ 1 1#1) hr hu
/-- and the columns. -/
def takeCols (x : (⟨2, ![N, 4096]⟩ : Shape).Idx → F .bf16) (i : IVec ⟨1, ![C]⟩ 32) : (⟨2, ![N, C]⟩ : Shape).Idx → F .bf16 :=
  select (broadcastInDim ⟨2, ![N, C]⟩ ![1] h5 (takeOk h0 h1 h2 h3 h4 hr hu i)) (Host.gather (colDims N 4096 C wf) x (takeIx h0 h1 i))
    (broadcastInDim ⟨2, ![N, C]⟩ ![] h6 (constant ⟨0, ![]⟩ .bf16 0x7FC0#16))

theorem toInt_small (w : BitVec 32) (h : w.toNat < 4096) : w.toInt = w.toNat := by
  rw [BitVec.toInt_eq_toNat_cond, if_pos (by omega)]

variable (i : IVec ⟨1, ![C]⟩ 32) (hi : ∀ j : Fin C, (i (ix1 j)).toNat < 4096)
include hi

theorem takeIx_apply (y : (⟨2, ![C, 1]⟩ : Shape).Idx) : takeIx h0 h1 i y = i (ix1 (y 0)) := by
  unfold takeIx
  refine (broadcastInDim_apply _ _ _ _ (ix1 (y 0)) ?_).trans ?_
  · intro a
    match a with
    | ⟨0, _⟩ =>
      show (y 0).val = if C = 1 then 0 else (y 0).val
      have : (y 0).val < C := (y 0).isLt
      split <;> omega
  · show Scalar.select (IntOp.cmpi .slt (i (ix1 (y 0))) 0#32) _ _ = _
    have h : (i (ix1 (y 0))).slt 0#32 = false := by
      rw [BitVec.slt_eq_decide, decide_eq_false_iff_not, toInt_small _ (hi (y 0))]
      simp
    have e : IntOp.cmpi .slt (i (ix1 (y 0))) 0#32 = 0#1 := by simp [IntOp.cmpi, h]
    rw [e]; rfl

theorem takeOk_apply (y : (⟨1, ![C]⟩ : Shape).Idx) : takeOk h0 h1 h2 h3 h4 hr hu i y = 1#1 := by
  unfold takeOk
  rw [Host.reduce_eq_foldl]
  generalize (List.map _ _).filter _ = l
  have hx : ∀ z : (⟨2, ![C, 1]⟩ : Shape).Idx, andi (cmpi .sge (takeIx h0 h1 i) (broadcastInDim ⟨2, ![C, 1]⟩ ![] h2 (constantI ⟨0, ![]⟩ 32 0#32)))
      (cmpi .sle (takeIx h0 h1 i) (broadcastInDim ⟨2, ![C, 1]⟩ ![0, 1] h4 (broadcastInDim ⟨2, ![1, 1]⟩ ![1] h3 (constantI ⟨1, ![1]⟩ 32 4095#32)))) z = 1#1 := by
    intro z
    show IntOp.andi (IntOp.cmpi .sge (takeIx h0 h1 i z) 0#32) (IntOp.cmpi .sle (takeIx h0 h1 i z) 4095#32) = 1#1
    rw [takeIx_apply h0 h1 i hi z]
    have hb := hi (z 0)
    have ha : (0#32).sle (i (ix1 (z 0))) = true := by
      rw [BitVec.sle_eq_decide, decide_eq_true_eq, toInt_small _ hb]
      simp
    have hc : (i (ix1 (z 0))).sle 4095#32 = true := by
      rw [BitVec.sle_eq_decide, decide_eq_true_eq, toInt_small _ hb]
      have : (4095#32 : BitVec 32).toInt = 4095 := by decide
      omega
    simp [IntOp.cmpi, ha, hc, IntOp.andi]
  induction l with
  | nil => rfl
  | cons z l ih =>
    rw [List.foldl_cons, hx z]
    exact (congrArg (fun a => List.foldl _ a l) (by decide : IntOp.andi 1#1 1#1 = 1#1)).trans ih

/-- Where every index names a column, the lookup is that column. -/
theorem takeCols_apply (x : (⟨2, ![N, 4096]⟩ : Shape).Idx → F .bf16) (r : Fin N) (j : Fin C) :
    takeCols h0 h1 h2 h3 h4 hr hu h5 h6 wf x i (ix2 r j) = x (ix2 r (Fin.ofNat 4096 (i (ix1 j)).toNat)) := by
  have hok : broadcastInDim ⟨2, ![N, C]⟩ ![1] h5 (takeOk h0 h1 h2 h3 h4 hr hu i) (ix2 r j) = 1#1 :=
    takeOk_apply h0 h1 h2 h3 h4 hr hu i hi _
  unfold takeCols
  show Scalar.select (broadcastInDim ⟨2, ![N, C]⟩ ![1] h5 (takeOk h0 h1 h2 h3 h4 hr hu i) (ix2 r j)) _ _ = _
  rw [hok]
  refine (gather_cols (by omega) wf x (takeIx h0 h1 i) r j).trans ?_
  refine congrArg (fun z => x (ix2 r z)) (Fin.ext ?_)
  have e := takeIx_apply h0 h1 i hi (ix2 j 0)
  show min (takeIx h0 h1 i (ix2 j 0)).toInt.toNat (4096 - 1) = (i (ix1 j)).toNat % 4096
  rw [e]
  have hb := hi j
  show min (i (ix1 j)).toInt.toNat (4096 - 1) = _
  rw [toInt_small _ hb]
  omega
end

end Cert.Own

end
-- ==== Proof.RefHost.lean ====
/-
  What the reference's two lookups leave for its kernel: the outlier columns and the inlier columns of the activations.
-/
module

public import proofs.«01_k».proof.Proof.Gen.ReferenceIdeal.Frame
public import proofs.«01_k».proof.Proof.Takes
public import Idealize.ShloMosaic.Lib.StableHlo.RunRead

@[expose] public section

noncomputable section

namespace Cert.ReferenceIdeal.Own

open Cert.ReferenceIdeal Cert.ReferenceIdeal.Gen Cert.Own
open Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The activations as rows. -/
def rows (c : Dev nD) : S24576x4096.Idx → F .bf16 :=
  shapeCast S24576x4096 (m ((c : Thread nD τ).loc main_arg0)) shapeCasts_S4x6144x4096_S24576x4096

theorem V_v1 (c : Dev nD) : V m c main_v1 = takeCols bcast_S_S128 bcast_S128_S128x1_0 bcast_S_S128x1 bcast_S1_S1x1_1 bcast_S1x1_S128x1_0_1
    reducesTo_S128x1_S128_d1 h_S_ bcast_S128_S24576x128_1 bcast_S_S24576x128 gather_S24576x4096_S128x1_S24576x128_0_1_n_n_1_1_245761_wf
    (rows m c) (m ((c : Thread nD τ).loc main_arg1)) := by
  unfold_abbrev_sides
  after_reads_simp
  simp only [TRef.ofBuf_toBuf]
  rfl

theorem V_v2 (c : Dev nD) : V m c main_v2 = takeCols bcast_S_S3968 bcast_S3968_S3968x1_0 bcast_S_S3968x1 bcast_S1_S1x1_1 bcast_S1x1_S3968x1_0_1
    reducesTo_S3968x1_S3968_d1 h_S_ bcast_S3968_S24576x3968_1 bcast_S_S24576x3968 gather_S24576x4096_S3968x1_S24576x3968_0_1_n_n_1_1_245761_wf
    (rows m c) (m ((c : Thread nD τ).loc main_arg2)) := by
  unfold_abbrev_sides
  after_reads_simp
  simp only [TRef.ofBuf_toBuf]
  rfl

end Cert.ReferenceIdeal.Own

end
-- ==== Proof.Equal.lean ====
/-
  The condition on the two rows of indices, read; and with it: the columns that the kernel places and those that the
  reference looks up are the same.
-/
module

public import proofs.«01_k».proof.Defs
public import proofs.«01_k».proof.Proof.Gen.Pre_split_in_order
public import proofs.«01_k».proof.Proof.KernelValue
public import proofs.«01_k».proof.Proof.RefValue
public import proofs.«01_k».proof.Proof.RefHost

@[expose] public section

noncomputable section

open Idealize.ShloMosaic Idealize.ShloMosaic.TcCoe Idealize.ShloMosaic.ValueIdx
open Idealize.SL.Sem Idealize.ShloMosaic.StableHlo

/-! ## The condition, read -/

namespace Cert.Own

/-- Block `b`'s test of one inlier index and one outlier index, in words and in numbers. -/
theorem test_iff (b : ℕ) (hb : b < 31) (w o : BitVec 32)
    (e : IntOp.andi (IntOp.andi (IntOp.andi (IntOp.cmpi .sge w (IntOp.muli (BitVec.ofNat 32 b) 128#32))
      (IntOp.cmpi .slt w (IntOp.addi (IntOp.muli (BitVec.ofNat 32 b) 128#32) 256#32))) (IntOp.cmpi .sge o 0#32)) (IntOp.cmpi .slt o 4096#32) = 1#1) :
    (128 * b ≤ w.toNat ∧ w.toNat < 128 * b + 256) ∧ o.toNat < 4096 := by
  have ha : ∀ p q : Bool, IntOp.andi (BitVec.ofBool p) (BitVec.ofBool q) = BitVec.ofBool (p && q) := by
    intro p q; cases p <;> cases q <;> decide
  have ho : ∀ p, BitVec.ofBool p = 1#1 ↔ p = true := by intro p; cases p <;> decide
  have h1 : (IntOp.muli (BitVec.ofNat 32 b) 128#32).toInt = 128 * b := by
    have hn : (IntOp.muli (BitVec.ofNat 32 b) 128#32).toNat = 128 * b := by
      simp only [IntOp.muli, BitVec.toNat_mul, BitVec.toNat_ofNat]
      omega
    rw [toInt_small _ (by omega), hn]
    push_cast; ring
  have h2 : (IntOp.addi (IntOp.muli (BitVec.ofNat 32 b) 128#32) 256#32).toInt = 128 * b + 256 := by
    have hn : (IntOp.addi (IntOp.muli (BitVec.ofNat 32 b) 128#32) 256#32).toNat = 128 * b + 256 := by
      simp only [IntOp.addi, IntOp.muli, BitVec.toNat_add, BitVec.toNat_mul, BitVec.toNat_ofNat]
      omega
    rw [BitVec.toInt_eq_toNat_cond, if_pos (by omega), hn]
    push_cast; ring
  have h3 : (0#32 : BitVec 32).toInt = 0 := by decide
  have h4 : (4096#32 : BitVec 32).toInt = 4096 := by decide
  simp only [IntOp.cmpi, ha, ho, Bool.and_eq_true, BitVec.sle_eq_decide, BitVec.slt_eq_decide, decide_eq_true_eq, h1, h2, h3, h4] at e
  have hw := BitVec.toInt_eq_toNat_cond w
  have hoo := BitVec.toInt_eq_toNat_cond o
  have := w.isLt
  have := o.isLt
  split_ifs at hw hoo <;> omega

end Cert.Own

namespace Cert.Pre_split_in_order.Own

open Cert.Own

/-- The condition: the inlier index of place `q` of block `b` lies from the block's first column on, short of the
    second block after it; and an outlier index names a column. -/
theorem read (a0 : FVec Ideal S4x6144x4096 .bf16) (a1 : IVec S128 32) (a2 : IVec S3968 32) (a3 : FVec Ideal S128x5632 .bf16)
    (a4 : FVec Ideal S3968x5632 .fp8e4m3) (a5 : FVec Ideal S31x44 .f32)
    (h : Cert.Pre_split_in_order.fn (F := Ideal) a0 a1 a2 a3 a4 a5 = fun _ => 1#1) (b : Fin 31) (q : Fin 128) :
    (128 * b.val ≤ (a2 (ix1 ⟨128 * b.val + q.val, by omega⟩)).toNat ∧ (a2 (ix1 ⟨128 * b.val + q.val, by omega⟩)).toNat < 128 * b.val + 256)
      ∧ (a1 (ix1 q)).toNat < 4096 := by
  have e := congrFun h (ix2 b q)
  have e2 : shapeCast S31x128 a2 Gen.shapeCasts_S3968_S31x128 (ix2 b q) = a2 (ix1 ⟨128 * b.val + q.val, by omega⟩) := by
    refine shapeCast_apply _ _ _ _ ?_
    refine (Shape.rowMajor_val_one (d := ![3968]) _).trans (Eq.trans ?_ (Shape.rowMajor_val_two (d := ![31, 128]) _).symm)
    show 128 * b.val + q.val = b.val * 128 + q.val
    ring
  have e1 : shapeCast S1x128 a1 Gen.shapeCasts_S128_S1x128 (ix2 0 q) = a1 (ix1 q) := by
    refine shapeCast_apply _ _ _ _ ?_
    refine (Shape.rowMajor_val_one (d := ![128]) _).trans (Eq.trans ?_ (Shape.rowMajor_val_two (d := ![1, 128]) _).symm)
    show q.val = 0 * 128 + q.val
    ring
  have eb : ∀ x : IVec S1x128 1, broadcastInDim S31x128 ![0, 1] Gen.bcast_S1x128_S31x128_0_1 x (ix2 b q) = x (ix2 0 q) := fun x =>
    broadcastInDim_apply _ _ _ _ _ (by intro a; fin_cases a <;> rfl)
  refine test_iff b.val b.isLt _ _ (Eq.trans ?_ e)
  rw [← e2, ← e1]
  unfold Cert.Pre_split_in_order.fn Cert.Pre_split_in_order.fn_part1
  exact congrArg₂ IntOp.andi
    (congrArg₂ IntOp.andi rfl (eb (cmpi .sge (shapeCast S1x128 a1 Gen.shapeCasts_S128_S1x128) (fun _ => 0#32))).symm)
    (eb (cmpi .slt (shapeCast S1x128 a1 Gen.shapeCasts_S128_S1x128) (fun _ => 4096#32))).symm

end Cert.Pre_split_in_order.Own

/-! ## The kernel's rows of indices and its rows of activations -/

namespace Cert.KernelIdeal.Own

open Cert.KernelIdeal Cert.KernelIdeal.Gen Cert.Own

variable (m : (ℓ : Loc nD τ sig) → Buf (Elt Ideal) ℓ)

theorem vX_eq (c : Dev nD) : vX m c = shapeCast S24576x4096 (m ((c : Thread nD τ).loc main_arg0)) shapeCasts_S4x6144x4096_S24576x4096 := by
  unfold_abbrev_sides
  after_reads_simp
  rfl
theorem vQ_eq (c : Dev nD) : vQ m c = shapeCast S31x128 (m ((c : Thread nD τ).loc main_arg2)) shapeCasts_S3968_S31x128 := by
  unfold_abbrev_sides
  after_reads_simp
  rfl
theorem vO_eq (c : Dev nD) : vO m c = shapeCast S1x128 (m ((c : Thread nD τ).loc main_arg1)) shapeCasts_S128_S1x128 := by
  unfold_abbrev_sides
  after_reads_simp
  rfl

variable (hp : ∀ (c : Dev nD) (b : Fin 31) (q : Fin 128),
  (128 * b.val ≤ (m ((c : Thread nD τ).loc main_arg2) (ix1 ⟨128 * b.val + q.val, by omega⟩ : S3968.Idx)).toNat
    ∧ (m ((c : Thread nD τ).loc main_arg2) (ix1 ⟨128 * b.val + q.val, by omega⟩ : S3968.Idx)).toNat < 128 * b.val + 256)
  ∧ (m ((c : Thread nD τ).loc main_arg1) (ix1 q : S128.Idx)).toNat < 4096)

theorem vQ_apply (c : Dev nD) (b : Fin 31) (q : Fin 128) :
    vQ m c (ix2 b q) = m ((c : Thread nD τ).loc main_arg2) (ix1 ⟨128 * b.val + q.val, by omega⟩ : S3968.Idx) := by
  refine (congrFun (vQ_eq m c) (ix2 b q)).trans (shapeCast_apply _ _ _ _ ?_)
  refine (Shape.rowMajor_val_one (d := ![3968]) _).trans (Eq.trans ?_ (Shape.rowMajor_val_two (d := ![31, 128]) _).symm)
  show 128 * b.val + q.val = b.val * 128 + q.val
  ring
theorem vO_apply (c : Dev nD) (q : Fin 128) : vO m c (ix2 0 q) = m ((c : Thread nD τ).loc main_arg1) (ix1 q : S128.Idx) := by
  refine (congrFun (vO_eq m c) (ix2 0 q)).trans (shapeCast_apply _ _ _ _ ?_)
  refine (Shape.rowMajor_val_one (d := ![128]) _).trans (Eq.trans ?_ (Shape.rowMajor_val_two (d := ![1, 128]) _).symm)
  show q.val = 0 * 128 + q.val
  ring

include hp in
theorem inOrder (c : Dev nD) : InOrder (vQ m c) := fun b q => by
  rw [vQ_apply]
  exact (hp c b q).1
include hp in
theorem inRange (c : Dev nD) : InRange (vO m c) := fun q => by
  rw [vO_apply]
  exact (hp c 0 q).2

/-! ## The same columns -/

variable (m' : (ℓ : Loc Cert.ReferenceIdeal.nD Cert.ReferenceIdeal.τ Cert.ReferenceIdeal.sig) → Buf (Elt Ideal) ℓ)
variable (c : Dev nD)
variable (h0 : m' ((c.tc : Thread Cert.ReferenceIdeal.nD Cert.ReferenceIdeal.τ).loc Cert.ReferenceIdeal.main_arg0) = m ((c : Thread nD τ).loc main_arg0))
variable (h1 : m' ((c.tc : Thread Cert.ReferenceIdeal.nD Cert.ReferenceIdeal.τ).loc Cert.ReferenceIdeal.main_arg1) = m ((c : Thread nD τ).loc main_arg1))
variable (h2 : m' ((c.tc : Thread Cert.ReferenceIdeal.nD Cert.ReferenceIdeal.τ).loc Cert.ReferenceIdeal.main_arg2) = m ((c : Thread nD τ).loc main_arg2))

include h0 in
theorem rows_eq : Cert.ReferenceIdeal.Own.rows m' c = vX m c := by
  unfold Cert.ReferenceIdeal.Own.rows
  rw [h0]
  exact (vX_eq m c).symm

include hp h0 h2 in
theorem colI_eq : Cert.ReferenceIdeal.Own.rI m' c = colI m c := by
  funext y
  have hi : ∀ j : Fin 3968, (m' ((c.tc : Thread Cert.ReferenceIdeal.nD Cert.ReferenceIdeal.τ).loc Cert.ReferenceIdeal.main_arg2) (ix1 j : S3968.Idx)).toNat < 4096 := by
    intro j
    have hj := (hp c (blockNo j) (place j)).1.2
    have ej : (⟨128 * (blockNo j).val + (place j).val, by omega⟩ : Fin 3968) = j := Fin.ext (by
      show 128 * (j.val / 128) + j.val % 128 = j.val
      omega)
    rw [ej] at hj
    have := (blockNo j).isLt
    rw [h2]
    omega
  have ey : (⟨128 * (blockNo (y 1)).val + (place (y 1)).val, by omega⟩ : Fin 3968) = y 1 := Fin.ext (by
    show 128 * ((y 1).val / 128) + (y 1).val % 128 = (y 1).val
    omega)
  refine (congrFun (Cert.ReferenceIdeal.Own.V_v2 m' c) y).trans ?_
  refine (congrArg _ (eq_ix2 y)).trans ?_
  refine (takeCols_apply _ _ _ _ _ _ _ _ _ _ _ hi (Cert.ReferenceIdeal.Own.rows m' c) (y 0) (y 1)).trans ?_
  rw [rows_eq m m' c h0]
  unfold colI
  refine congrArg (fun w : BitVec 32 => vX m c (ix2 (y 0) (Fin.ofNat 4096 w.toNat))) ?_
  refine (congrFun h2 _).trans (Eq.trans ?_ (vQ_apply m c _ _).symm)
  rw [ey]

include hp h0 h1 in
theorem colO_eq : Cert.ReferenceIdeal.Own.rO m' c = colO m c := by
  funext y
  have hi : ∀ j : Fin 128, (m' ((c.tc : Thread Cert.ReferenceIdeal.nD Cert.ReferenceIdeal.τ).loc Cert.ReferenceIdeal.main_arg1) (ix1 j : S128.Idx)).toNat < 4096 := by
    intro j
    rw [h1]
    exact (hp c 0 j).2
  refine (congrFun (Cert.ReferenceIdeal.Own.V_v1 m' c) y).trans ?_
  refine (congrArg _ (eq_ix2 y)).trans ?_
  refine (takeCols_apply _ _ _ _ _ _ _ _ _ _ _ hi (Cert.ReferenceIdeal.Own.rows m' c) (y 0) (y 1)).trans ?_
  rw [rows_eq m m' c h0]
  unfold colO
  refine congrArg (fun w : BitVec 32 => vX m c (ix2 (y 0) (Fin.ofNat 4096 w.toNat))) ?_
  exact (congrFun h1 _).trans (vO_apply m c (y 1)).symm

end Cert.KernelIdeal.Own

end
-- ==== Proof.lean ====
/-
  The proof of `Cert.Claim`: the frames of the two kernel texts, the reference's frame, the (empty) list of rewrites, and
  the equality of the kernel's three results with the reference's over the extended reals.
-/
module

public import proofs.«01_k».proof.Defs
public import proofs.«01_k».proof.Proof.Run
public import proofs.«01_k».proof.Proof.KRun
public import proofs.«01_k».proof.Proof.Gen.ReferenceIdeal.Frame
public import proofs.«01_k».proof.Proof.Gen.Pre_split_in_order
public import proofs.«01_k».proof.Proof.Equal

@[expose] public section

noncomputable section

namespace Cert.Proof
open Idealize.ShloMosaic Idealize.SL.Sem Cert.Own

/-- The kernel as written, at the chip's words. -/
theorem frame_kernel : Cert.quiescent_Kernel (hKernel := Cert.Kernel.Gen.facts) := fun m g _ =>
  (θ_run _ _ _).mono (fun r h => ⟨fun c => Cert.Kernel.Own.args_kept m r h.1 c, h.2⟩) (Cert.Kernel.Own.run_main (F := Bits) m g)
/-- The kernel at exact values. -/
theorem frame_kernelIdeal : Cert.quiescent_KernelIdeal (hKernelIdeal := Cert.KernelIdeal.Gen.facts) := fun m g _ =>
  (θ_run _ _ _).mono (fun r h => ⟨fun c => Cert.KernelIdeal.Own.args_kept m r h.1 c, h.2⟩) (Cert.KernelIdeal.Own.run_main (F := Ideal) m g)

open Cert.KernelIdeal.Own in
/-- Under the condition on the indices, from memories that agree on the arguments: the kernel's product, codes and
    scales are the reference's. -/
theorem same_results : Cert.algebraic_KernelIdeal_ReferenceIdeal_pre_split_in_order (hKernelIdeal := Cert.KernelIdeal.Gen.facts)
    (hReferenceIdeal := Cert.ReferenceIdeal.Gen.facts) (hPre_split_in_order := Cert.Pre_split_in_order.Gen.facts) := by
  intro m g m' g' hpre hargs
  have hp := fun c => Cert.Pre_split_in_order.Own.read _ _ _ _ _ _ (hpre c)
  refine ⟨fun c => prodA (colI m c) (colO m c) (vB m c) (vC m c) (vS m c), fun c => codeA (colI m c), fun c => scaleA (colI m c), ?_, ?_⟩
  · refine (θ_run _ _ _).mono (fun r h c => ⟨?_, ?_, ?_, args_kept m r h.1 c⟩) (run_main (F := Ideal) m g)
    · exact ((h.1 c).1 4).trans (final4 m c (inOrder m hp c) (inRange m hp c))
    · exact ((h.1 c).1 5).trans (final5 m c (inOrder m hp c))
    · exact ((h.1 c).1 6).trans (final6 m c (inOrder m hp c))
  · have hI := fun c => colI_eq m hp m' c (hargs c).1 (hargs c).2.2.1
    have hO := fun c => colO_eq m hp m' c (hargs c).1 (hargs c).2.1
    have hB : ∀ c, Cert.ReferenceIdeal.Own.rB m' c = vB m c := fun c =>
      (Cert.ReferenceIdeal.Gen.V_main_arg3 m' c).trans ((hargs c).2.2.2.1.trans (Cert.KernelIdeal.Gen.V_main_arg3 m c).symm)
    have hC : ∀ c, Cert.ReferenceIdeal.Own.rC m' c = vC m c := fun c =>
      (Cert.ReferenceIdeal.Gen.V_main_arg4 m' c).trans ((hargs c).2.2.2.2.1.trans (Cert.KernelIdeal.Gen.V_main_arg4 m c).symm)
    have hS : ∀ c, Cert.ReferenceIdeal.Own.rS m' c = vS m c := fun c =>
      (Cert.ReferenceIdeal.Gen.V_main_arg5 m' c).trans ((hargs c).2.2.2.2.2.trans (Cert.KernelIdeal.Gen.V_main_arg5 m c).symm)
    refine (θ_run _ _ _).mono (fun r h c => ⟨?_, ?_, ?_, h.2 c⟩)
      (θ_run_and (Cert.ReferenceIdeal.Gen.run_main (F := Ideal) m' g') (Cert.ReferenceIdeal.Gen.unchanged (F := Ideal) m' g'))
    · refine ((h.1 c).1 5).trans ((Cert.ReferenceIdeal.Own.final5 m' c).trans ?_)
      rw [hI c, hO c, hB c, hC c, hS c]
    · exact ((h.1 c).1 6).trans ((Cert.ReferenceIdeal.Own.final6 m' c).trans (congrArg codeA (hI c)))
    · exact ((h.1 c).1 7).trans ((Cert.ReferenceIdeal.Own.final7 m' c).trans (congrArg scaleA (hI c)))

theorem claim : Cert.Claim :=
  ⟨Cert.Kernel.Gen.facts, Cert.KernelIdeal.Gen.facts, Cert.ReferenceIdeal.Gen.facts, Cert.Pre_split_in_order.Gen.facts,
    frame_kernel, frame_kernelIdeal, fun m g _ => frame_kernelIdeal m g trivial,
    fun m g _ => Cert.ReferenceIdeal.Gen.frame m g, fun m g _ => Cert.ReferenceIdeal.Gen.frame m g, trivial, same_results⟩

end Cert.Proof
end
